-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_KernelIdeal [hPre_finite_KernelIdeal : Cert.Pre_finite_KernelIdeal.Facts] (m : (ℓ : Loc Cert.KernelIdeal.nD Cert.KernelIdeal.τ Cert.KernelIdeal.sig) → Buf (Elt Ideal) ℓ) : Prop :=
  ∀ c : Dev Cert.KernelIdeal.nD,
    (Cert.Pre_finite_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_ReferenceIdeal [hPre_finite_ReferenceIdeal : Cert.Pre_finite_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_finite_KernelIdeal [hKernelIdeal : Cert.KernelIdeal.Facts] [hPre_finite_KernelIdeal : Cert.Pre_finite_KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_finite_ReferenceIdeal [hReferenceIdeal : Cert.ReferenceIdeal.Facts] [hPre_finite_ReferenceIdeal : Cert.Pre_finite_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  True

def algebraic_KernelIdeal_ReferenceIdeal_pre_finite_KernelIdeal [hKernelIdeal : Cert.KernelIdeal.Facts] [hReferenceIdeal : Cert.ReferenceIdeal.Facts] [hPre_finite_KernelIdeal : Cert.Pre_finite_KernelIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_KernelIdeal m →
    (∀ c : Dev Cert.KernelIdeal.nD,
      m ((c.tc : Thread Cert.KernelIdeal.nD Cert.KernelIdeal.τ).loc Cert.KernelIdeal.main_arg0) = Layout.block ⟨3, ![1, 1024, 1024]⟩ ⟨3, ![4, 1024, 1024]⟩ 0 4 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = Layout.block ⟨2, ![1024, 1024]⟩ ⟨2, ![1024, 4096]⟩ 1 4 c (m' (((0 : Dev Cert.ReferenceIdeal.nD).tc : Thread Cert.ReferenceIdeal.nD Cert.ReferenceIdeal.τ).loc Cert.ReferenceIdeal.main_arg1))
      ∧ m ((c.tc : Thread Cert.KernelIdeal.nD Cert.KernelIdeal.τ).loc Cert.KernelIdeal.main_arg2) = Layout.block ⟨2, ![1024, 1024]⟩ ⟨2, ![1024, 4096]⟩ 1 4 c (m' (((0 : Dev Cert.ReferenceIdeal.nD).tc : Thread Cert.ReferenceIdeal.nD Cert.ReferenceIdeal.τ).loc Cert.ReferenceIdeal.main_arg2))
      ∧ m ((c.tc : Thread Cert.KernelIdeal.nD Cert.KernelIdeal.τ).loc Cert.KernelIdeal.main_arg3) = Layout.block ⟨2, ![1024, 1024]⟩ ⟨2, ![1024, 4096]⟩ 1 4 c (m' (((0 : Dev Cert.ReferenceIdeal.nD).tc : Thread Cert.ReferenceIdeal.nD Cert.ReferenceIdeal.τ).loc Cert.ReferenceIdeal.main_arg3))
      ∧ m ((c.tc : Thread Cert.KernelIdeal.nD Cert.KernelIdeal.τ).loc Cert.KernelIdeal.main_arg4) = Layout.block ⟨2, ![1024, 1024]⟩ ⟨2, ![4096, 1024]⟩ 0 4 c (m' (((0 : Dev Cert.ReferenceIdeal.nD).tc : Thread Cert.ReferenceIdeal.nD Cert.ReferenceIdeal.τ).loc Cert.ReferenceIdeal.main_arg4))) →
    ∃ (v0 : Buf (Elt Ideal) (((0 : Dev Cert.ReferenceIdeal.nD).tc : Thread Cert.ReferenceIdeal.nD Cert.ReferenceIdeal.τ).loc Cert.ReferenceIdeal.main_v92)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v38) = Layout.block ⟨3, ![1, 1024, 1024]⟩ ⟨3, ![4, 1024, 1024]⟩ 0 4 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v92) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3)
          ∧ r.2.mem (((0 : Dev Cert.ReferenceIdeal.nD).tc : Thread Cert.ReferenceIdeal.nD Cert.ReferenceIdeal.τ).loc Cert.ReferenceIdeal.main_arg4) = m' (((0 : Dev Cert.ReferenceIdeal.nD).tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_KernelIdeal : Cert.Pre_finite_KernelIdeal.Facts) (hPre_finite_ReferenceIdeal : Cert.Pre_finite_ReferenceIdeal.Facts),
    quiescent_Kernel (hKernel := hKernel)
    ∧ quiescent_KernelIdeal (hKernelIdeal := hKernelIdeal)
    ∧ quiescent_KernelIdeal_pre_finite_KernelIdeal (hKernelIdeal := hKernelIdeal) (hPre_finite_KernelIdeal := hPre_finite_KernelIdeal)
    ∧ quiescent_ReferenceIdeal (hReferenceIdeal := hReferenceIdeal)
    ∧ quiescent_ReferenceIdeal_pre_finite_ReferenceIdeal (hReferenceIdeal := hReferenceIdeal) (hPre_finite_ReferenceIdeal := hPre_finite_ReferenceIdeal)
    ∧ preserves_Kernel_KernelIdeal
    ∧ algebraic_KernelIdeal_ReferenceIdeal_pre_finite_KernelIdeal (hKernelIdeal := hKernelIdeal) (hReferenceIdeal := hReferenceIdeal) (hPre_finite_KernelIdeal := hPre_finite_KernelIdeal)
-- ==== Pre_finite_KernelIdeal.lean ====
abbrev S1x1024x1024 : Shape := ⟨3, ![1, 1024, 1024]⟩
abbrev S1024x1024 : Shape := ⟨2, ![1024, 1024]⟩
abbrev S_ : Shape := ⟨0, ![]⟩

class Facts : Prop where
  bitsLt_bf16_f32 : FTy.bits .bf16 < FTy.bits .f32
  bcast_S_S1x1024x1024 : S_.BroadcastsInDim S1x1024x1024 (![] : Fin 0 → Fin S1x1024x1024.rank)
  reducesTo_S1x1024x1024_S_d0_1_2 : S1x1024x1024.ReducesTo [0, 1, 2] S_
  h_S_ : 0 < S_.numel
  bcast_S_S1024x1024 : S_.BroadcastsInDim S1024x1024 (![] : Fin 0 → Fin S1024x1024.rank)
  reducesTo_S1024x1024_S_d0_1 : S1024x1024.ReducesTo [0, 1] S_

variable [Facts]

def fn_part1 {F : FTy → Type} [FloatOps F] (main_v14 : IVec S_ 1) (main_v15 : FVec F S1024x1024 .f32) (main_v16 : FVec F S1024x1024 .f32) : IVec S_ 1 :=
  let main_v17 : IVec S1024x1024 1 := cmpf .olt main_v15 main_v16
  let main_cst_5 : FVec F S_ .f32 := constant S_ .f32 0xFF800000#32
  let main_v18 : FVec F S1024x1024 .f32 := broadcastInDim S1024x1024 ![] bcast_S_S1024x1024 main_cst_5
  let main_v19 : IVec S1024x1024 1 := cmpf .ogt main_v15 main_v18
  let main_v20 : IVec S1024x1024 1 := andi main_v17 main_v19
  let main_c_6 : IVec S_ 1 := constantI S_ 1 1#1
  let main_v21 : IVec S_ 1 := (fun x v => Host.reduce IntOp.andi x v reducesTo_S1024x1024_S_d0_1 h_S_) main_v20 main_c_6
  let main_v22 : IVec S_ 1 := andi main_v14 main_v21
  main_v22

def fn {F : FTy → Type} [FloatOps F] (main_arg0 : FVec F S1x1024x1024 .bf16) (main_arg1 : FVec F S1024x1024 .bf16) (main_arg2 : FVec F S1024x1024 .bf16) (main_arg3 : FVec F S1024x1024 .bf16) (main_arg4 : FVec F S1024x1024 .bf16) : IVec S_ 1 :=
  let main_v0 : FVec F S1x1024x1024 .f32 := (extf .f32 · bitsLt_bf16_f32) main_arg0
  let main_cst : FVec F S_ .f32 := constant S_ .f32 0x7F800000#32
  let main_v1 : FVec F S1x1024x1024 .f32 := broadcastInDim S1x1024x1024 ![] bcast_S_S1x1024x1024 main_cst
  let main_v2 : IVec S1x1024x1024 1 := cmpf .olt main_v0 main_v1
  let main_cst_0 : FVec F S_ .f32 := constant S_ .f32 0xFF800000#32
  let main_v3 : FVec F S1x1024x1024 .f32 := broadcastInDim S1x1024x1024 ![] bcast_S_S1x1024x1024 main_cst_0
  let main_v4 : IVec S1x1024x1024 1 := cmpf .ogt main_v0 main_v3
  let main_v5 : IVec S1x1024x1024 1 := andi main_v2 main_v4
  let main_c : IVec S_ 1 := constantI S_ 1 1#1
  let main_v6 : IVec S_ 1 := (fun x v => Host.reduce IntOp.andi x v reducesTo_S1x1024x1024_S_d0_1_2 h_S_) main_v5 main_c
  let main_v7 : FVec F S1024x1024 .f32 := (extf .f32 · bitsLt_bf16_f32) main_arg1
  let main_cst_1 : FVec F S_ .f32 := constant S_ .f32 0x7F800000#32
  let main_v8 : FVec F S1024x1024 .f32 := broadcastInDim S1024x1024 ![] bcast_S_S1024x1024 main_cst_1
  let main_v9 : IVec S1024x1024 1 := cmpf .olt main_v7 main_v8
  let main_cst_2 : FVec F S_ .f32 := constant S_ .f32 0xFF800000#32
  let main_v10 : FVec F S1024x1024 .f32 := broadcastInDim S1024x1024 ![] bcast_S_S1024x1024 main_cst_2
  let main_v11 : IVec S1024x1024 1 := cmpf .ogt main_v7 main_v10
  let main_v12 : IVec S1024x1024 1 := andi main_v9 main_v11
  let main_c_3 : IVec S_ 1 := constantI S_ 1 1#1
  let main_v13 : IVec S_ 1 := (fun x v => Host.reduce IntOp.andi x v reducesTo_S1024x1024_S_d0_1 h_S_) main_v12 main_c_3
  let main_v14 : IVec S_ 1 := andi main_v6 main_v13
  let main_v15 : FVec F S1024x1024 .f32 := (extf .f32 · bitsLt_bf16_f32) main_arg2
  let main_cst_4 : FVec F S_ .f32 := constant S_ .f32 0x7F800000#32
  let main_v16 : FVec F S1024x1024 .f32 := broadcastInDim S1024x1024 ![] bcast_S_S1024x1024 main_cst_4
  fn_part1 (F := F) main_v14 main_v15 main_v16
-- ==== Pre_finite_ReferenceIdeal.lean ====
abbrev S4x1024x1024 : Shape := ⟨3, ![4, 1024, 1024]⟩
abbrev S1024x4096 : Shape := ⟨2, ![1024, 4096]⟩
abbrev S4096x1024 : Shape := ⟨2, ![4096, 1024]⟩
abbrev S_ : Shape := ⟨0, ![]⟩

class Facts : Prop where
  bitsLt_bf16_f32 : FTy.bits .bf16 < FTy.bits .f32
  bcast_S_S4x1024x1024 : S_.BroadcastsInDim S4x1024x1024 (![] : Fin 0 → Fin S4x1024x1024.rank)
  reducesTo_S4x1024x1024_S_d0_1_2 : S4x1024x1024.ReducesTo [0, 1, 2] S_
  h_S_ : 0 < S_.numel
  bcast_S_S1024x4096 : S_.BroadcastsInDim S1024x4096 (![] : Fin 0 → Fin S1024x4096.rank)
  reducesTo_S1024x4096_S_d0_1 : S1024x4096.ReducesTo [0, 1] S_

variable [Facts]

def fn_part1 {F : FTy → Type} [FloatOps F] (main_v14 : IVec S_ 1) (main_v15 : FVec F S1024x4096 .f32) (main_v16 : FVec F S1024x4096 .f32) : IVec S_ 1 :=
  let main_v17 : IVec S1024x4096 1 := cmpf .olt main_v15 main_v16
  let main_cst_5 : FVec F S_ .f32 := constant S_ .f32 0xFF800000#32
  let main_v18 : FVec F S1024x4096 .f32 := broadcastInDim S1024x4096 ![] bcast_S_S1024x4096 main_cst_5
  let main_v19 : IVec S1024x4096 1 := cmpf .ogt main_v15 main_v18
  let main_v20 : IVec S1024x4096 1 := andi main_v17 main_v19
  let main_c_6 : IVec S_ 1 := constantI S_ 1 1#1
  let main_v21 : IVec S_ 1 := (fun x v => Host.reduce IntOp.andi x v reducesTo_S1024x4096_S_d0_1 h_S_) main_v20 main_c_6
  let main_v22 : IVec S_ 1 := andi main_v14 main_v21
  main_v22

def fn {F : FTy → Type} [FloatOps F] (main_arg0 : FVec F S4x1024x1024 .bf16) (main_arg1 : FVec F S1024x4096 .bf16) (main_arg2 : FVec F S1024x4096 .bf16) (main_arg3 : FVec F S1024x4096 .bf16) (main_arg4 : FVec F S4096x1024 .bf16) : IVec S_ 1 :=
  let main_v0 : FVec F S4x1024x1024 .f32 := (extf .f32 · bitsLt_bf16_f32) main_arg0
  let main_cst : FVec F S_ .f32 := constant S_ .f32 0x7F800000#32
  let main_v1 : FVec F S4x1024x1024 .f32 := broadcastInDim S4x1024x1024 ![] bcast_S_S4x1024x1024 main_cst
  let main_v2 : IVec S4x1024x1024 1 := cmpf .olt main_v0 main_v1
  let main_cst_0 : FVec F S_ .f32 := constant S_ .f32 0xFF800000#32
  let main_v3 : FVec F S4x1024x1024 .f32 := broadcastInDim S4x1024x1024 ![] bcast_S_S4x1024x1024 main_cst_0
  let main_v4 : IVec S4x1024x1024 1 := cmpf .ogt main_v0 main_v3
  let main_v5 : IVec S4x1024x1024 1 := andi main_v2 main_v4
  let main_c : IVec S_ 1 := constantI S_ 1 1#1
  let main_v6 : IVec S_ 1 := (fun x v => Host.reduce IntOp.andi x v reducesTo_S4x1024x1024_S_d0_1_2 h_S_) main_v5 main_c
  let main_v7 : FVec F S1024x4096 .f32 := (extf .f32 · bitsLt_bf16_f32) main_arg1
  let main_cst_1 : FVec F S_ .f32 := constant S_ .f32 0x7F800000#32
  let main_v8 : FVec F S1024x4096 .f32 := broadcastInDim S1024x4096 ![] bcast_S_S1024x4096 main_cst_1
  let main_v9 : IVec S1024x4096 1 := cmpf .olt main_v7 main_v8
  let main_cst_2 : FVec F S_ .f32 := constant S_ .f32 0xFF800000#32
  let main_v10 : FVec F S1024x4096 .f32 := broadcastInDim S1024x4096 ![] bcast_S_S1024x4096 main_cst_2
  let main_v11 : IVec S1024x4096 1 := cmpf .ogt main_v7 main_v10
  let main_v12 : IVec S1024x4096 1 := andi main_v9 main_v11
  let main_c_3 : IVec S_ 1 := constantI S_ 1 1#1
  let main_v13 : IVec S_ 1 := (fun x v => Host.reduce IntOp.andi x v reducesTo_S1024x4096_S_d0_1 h_S_) main_v12 main_c_3
  let main_v14 : IVec S_ 1 := andi main_v6 main_v13
  let main_v15 : FVec F S1024x4096 .f32 := (extf .f32 · bitsLt_bf16_f32) main_arg2
  let main_cst_4 : FVec F S_ .f32 := constant S_ .f32 0x7F800000#32
  let main_v16 : FVec F S1024x4096 .f32 := broadcastInDim S1024x4096 ![] bcast_S_S1024x4096 main_cst_4
  fn_part1 (F := F) main_v14 main_v15 main_v16
-- ==== Kernel.lean ====
abbrev S1x1024x1024 : Shape := ⟨3, ![1, 1024, 1024]⟩
abbrev S1024x1024 : Shape := ⟨2, ![1024, 1024]⟩
abbrev S1024x3072 : Shape := ⟨2, ![1024, 3072]⟩
abbrev S64 : Shape := ⟨1, ![64]⟩
abbrev S_ : Shape := ⟨0, ![]⟩
abbrev S1024 : Shape := ⟨1, ![1024]⟩
abbrev S1024x1 : Shape := ⟨2, ![1024, 1]⟩
abbrev S1x64 : Shape := ⟨2, ![1, 64]⟩
abbrev S1024x64 : Shape := ⟨2, ![1024, 64]⟩
abbrev S1024x64x2 : Shape := ⟨3, ![1024, 64, 2]⟩
abbrev S1024x128 : Shape := ⟨2, ![1024, 128]⟩
abbrev S1x1024x1x128 : Shape := ⟨4, ![1, 1024, 1, 128]⟩
abbrev S1x1024x8x128 : Shape := ⟨4, ![1, 1024, 8, 128]⟩
abbrev S3x1024x1024 : Shape := ⟨3, ![3, 1024, 1024]⟩
abbrev S3 : Shape := ⟨1, ![3]⟩
abbrev S3x2 : Shape := ⟨2, ![3, 2]⟩
abbrev S1 : Shape := ⟨1, ![1]⟩
abbrev S1024x256 : Shape := ⟨2, ![1024, 256]⟩
abbrev S256x1024 : Shape := ⟨2, ![256, 1024]⟩
abbrev S512x128 : Shape := ⟨2, ![512, 128]⟩
abbrev S512x1024 : Shape := ⟨2, ![512, 1024]⟩
abbrev S512x256 : Shape := ⟨2, ![512, 256]⟩
abbrev S512x1 : Shape := ⟨2, ![512, 1]⟩
abbrev S1x512x1024 : Shape := ⟨3, ![1, 512, 1024]⟩
abbrev S1x1 : Shape := ⟨2, ![1, 1]⟩
abbrev S1024x768 : Shape := ⟨2, ![1024, 768]⟩
abbrev S768x1024 : Shape := ⟨2, ![768, 1024]⟩

abbrev nBuf : Space → Nat
  | .hbm => 49
  | .vmem => 13
  | .smem => 0
  | _ => 0

abbrev bufTy : (tb : Table) → Fin (tcTables nBuf tb) → BufTy
  | .hbm, ⟨0, _⟩ => ⟨S1x1024x1024, .bf16⟩
  | .hbm, ⟨1, _⟩ => ⟨S1024x1024, .bf16⟩
  | .hbm, ⟨2, _⟩ => ⟨S1024x1024, .bf16⟩
  | .hbm, ⟨3, _⟩ => ⟨S1024x1024, .bf16⟩
  | .hbm, ⟨4, _⟩ => ⟨S1024x1024, .bf16⟩
  | .hbm, ⟨5, _⟩ => ⟨S1024x3072, .bf16⟩
  | .hbm, ⟨6, _⟩ => ⟨S64, .f32⟩
  | .hbm, ⟨7, _⟩ => ⟨S_, .f32⟩
  | .hbm, ⟨8, _⟩ => ⟨S64, .f32⟩
  | .hbm, ⟨9, _⟩ => ⟨S64, .f32⟩
  | .hbm, ⟨10, _⟩ => ⟨S_, .f32⟩
  | .hbm, ⟨11, _⟩ => ⟨S64, .f32⟩
  | .hbm, ⟨12, _⟩ => ⟨S64, .f32⟩
  | .hbm, ⟨13, _⟩ => ⟨S64, .f32⟩
  | .hbm, ⟨14, _⟩ => ⟨S_, .f32⟩
  | .hbm, ⟨15, _⟩ => ⟨S64, .f32⟩
  | .hbm, ⟨16, _⟩ => ⟨S64, .f32⟩
  | .hbm, ⟨17, _⟩ => ⟨S_, .f32⟩
  | .hbm, ⟨18, _⟩ => ⟨S64, .f32⟩
  | .hbm, ⟨19, _⟩ => ⟨S64, .f32⟩
  | .hbm, ⟨20, _⟩ => ⟨S1024, .f32⟩
  | .hbm, ⟨21, _⟩ => ⟨S1024x1, .f32⟩
  | .hbm, ⟨22, _⟩ => ⟨S1x64, .f32⟩
  | .hbm, ⟨23, _⟩ => ⟨S1024x64, .f32⟩
  | .hbm, ⟨24, _⟩ => ⟨S1024x64, .f32⟩
  | .hbm, ⟨25, _⟩ => ⟨S1024x64, .f32⟩
  | .hbm, ⟨26, _⟩ => ⟨S1024x64, .f32⟩
  | .hbm, ⟨27, _⟩ => ⟨S1024x64x2, .f32⟩
  | .hbm, ⟨28, _⟩ => ⟨S1024x128, .f32⟩
  | .hbm, ⟨29, _⟩ => ⟨S1x1024x1x128, .f32⟩
  | .hbm, ⟨30, _⟩ => ⟨S1x1024x8x128, .f32⟩
  | .hbm, ⟨31, _⟩ => ⟨S1024x1024, .f32⟩
  | .hbm, ⟨32, _⟩ => ⟨S1024x64, .f32⟩
  | .hbm, ⟨33, _⟩ => ⟨S1024x64x2, .f32⟩
  | .hbm, ⟨34, _⟩ => ⟨S1024x128, .f32⟩
  | .hbm, ⟨35, _⟩ => ⟨S1x1024x1x128, .f32⟩
  | .hbm, ⟨36, _⟩ => ⟨S1x1024x8x128, .f32⟩
  | .hbm, ⟨37, _⟩ => ⟨S1024x1024, .f32⟩
  | .hbm, ⟨38, _⟩ => ⟨S1024x1024, .bf16⟩
  | .hbm, ⟨39, _⟩ => ⟨S1024x1024, .bf16⟩
  | .hbm, ⟨40, _⟩ => ⟨S_, .f32⟩
  | .hbm, ⟨41, _⟩ => ⟨S1024x1024, .f32⟩
  | .hbm, ⟨42, _⟩ => ⟨S1024x1024, .f32⟩
  | .hbm, ⟨43, _⟩ => ⟨S1024x1024, .bf16⟩
  | .hbm, ⟨44, _⟩ => ⟨S_, .f32⟩
  | .hbm, ⟨45, _⟩ => ⟨S1024x1024, .f32⟩
  | .hbm, ⟨46, _⟩ => ⟨S1024x1024, .f32⟩
  | .hbm, ⟨47, _⟩ => ⟨S1024x1024, .bf16⟩
  | .hbm, ⟨48, _⟩ => ⟨S1x1024x1024, .bf16⟩
  | .local _ .vmem, ⟨0, _⟩ => ⟨S1x1024x1024, .bf16⟩
  | .local _ .vmem, ⟨1, _⟩ => ⟨S1024x3072, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .bf16⟩
  | .local _ .vmem, ⟨5, _⟩ => ⟨S1024x1024, .bf16⟩
  | .local _ .vmem, ⟨6, _⟩ => ⟨S1024x1024, .bf16⟩
  | .local _ .vmem, ⟨7, _⟩ => ⟨S1x1024x1024, .bf16⟩
  | .local _ .vmem, ⟨8, _⟩ => ⟨S1024x1024, .bf16⟩
  | .local _ .vmem, ⟨9, _⟩ => ⟨S3x1024x1024, .bf16⟩
  | .local _ .vmem, ⟨10, _⟩ => ⟨S3x1024x1024, .bf16⟩
  | .local _ .vmem, ⟨11, _⟩ => ⟨S3x1024x1024, .bf16⟩
  | .local _ .vmem, ⟨12, _⟩ => ⟨S3x1024x1024, .bf16⟩
  | _, _ => ⟨S1x1024x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 1 → Bool
  | ⟨0, _⟩ => false
  | _ => false

abbrev dmaSemScoped : Fin 26 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | _ => false

abbrev sig : RefSig :=
  (ofTc nBuf bufTy 1 26 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v1 : Ref sig .tc := ⟨.hbm, 5, rfl⟩
abbrev main_v2 : Ref sig .tc := ⟨.hbm, 6, rfl⟩
abbrev main_cst : Ref sig .tc := ⟨.hbm, 7, rfl⟩
abbrev main_v3 : Ref sig .tc := ⟨.hbm, 8, rfl⟩
abbrev main_v4 : Ref sig .tc := ⟨.hbm, 9, rfl⟩
abbrev main_cst_0 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_cst_1 : Ref sig .tc := ⟨.hbm, 14, rfl⟩
abbrev main_v8 : Ref sig .tc := ⟨.hbm, 15, rfl⟩
abbrev main_v9 : Ref sig .tc := ⟨.hbm, 16, rfl⟩
abbrev main_cst_2 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_cst_3 : Ref sig .tc := ⟨.hbm, 40, rfl⟩
abbrev main_v32 : Ref sig .tc := ⟨.hbm, 41, rfl⟩
abbrev main_v33 : Ref sig .tc := ⟨.hbm, 42, rfl⟩
abbrev main_v34 : Ref sig .tc := ⟨.hbm, 43, rfl⟩
abbrev main_cst_4 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_v38 : Ref sig .tc := ⟨.hbm, 48, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_scratch0 : Ref sig .tc := ⟨.vmem, 8, rfl⟩
abbrev cc0_scratch1 : Ref sig .tc := ⟨.vmem, 9, rfl⟩
abbrev cc0_scratch2 : Ref sig .tc := ⟨.vmem, 10, rfl⟩
abbrev cc0_scratch3 : Ref sig .tc := ⟨.vmem, 11, rfl⟩
abbrev cc0_scratch4 : Ref sig .tc := ⟨.vmem, 12, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev barrier0 : Sem sig := 0

abbrev nD : Nat := 4
abbrev τ : Topo := Topo.v7x

variable {F : FTy → Type} [FloatOps F]

abbrev grid0 : Pipeline.Grid := .none

def k0_dev1 (d0 : Dev nD) : Nat :=
  let c0_i32_12 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_4 : BitVec 32 := 1#32
  let v9 : BitVec 32 := Scalar.addi v2 c1_i32_4
  let c4_i32_5 : BitVec 32 := 4#32
  let c0_i32 : BitVec 32 := 0#32
  let v10 : BitVec 1 := Scalar.cmpi .eq c4_i32_5 c0_i32
  let c1_i32_6 : BitVec 32 := 1#32
  let v11 : BitVec 32 := Scalar.select v10 c1_i32_6 c4_i32_5
  let v12 : BitVec 32 := Scalar.remsi v9 v11
  let c0_i32_8 : BitVec 32 := 0#32
  let v14 : BitVec 1 := Scalar.cmpi .slt v12 c0_i32_8
  let c0_i32_9 : BitVec 32 := 0#32
  let v15 : BitVec 1 := Scalar.cmpi .slt v11 c0_i32_9
  let v16 : BitVec 1 := Scalar.xori v14 v15
  let c0_i32_7 : BitVec 32 := 0#32
  let v13 : BitVec 1 := Scalar.cmpi .ne v12 c0_i32_7
  let v17 : BitVec 1 := Scalar.andi v16 v13
  let v18 : BitVec 32 := Scalar.addi v12 v11
  let v19 : BitVec 32 := Scalar.select v17 v18 v12
  let c1_i32_11 : BitVec 32 := 1#32
  let v20 : BitVec 32 := Scalar.muli v19 c1_i32_11
  let v21 : BitVec 32 := Scalar.addi c0_i32_12 v20
  v21.toNat
def k0_dev2 (d0 : Dev nD) : Nat :=
  let c0_i32_21 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32 : BitVec 32 := 2#32
  let v22 : BitVec 32 := Scalar.addi v2 c2_i32
  let c4_i32_13 : BitVec 32 := 4#32
  let c0_i32_14 : BitVec 32 := 0#32
  let v23 : BitVec 1 := Scalar.cmpi .eq c4_i32_13 c0_i32_14
  let c1_i32_15 : BitVec 32 := 1#32
  let v24 : BitVec 32 := Scalar.select v23 c1_i32_15 c4_i32_13
  let v25 : BitVec 32 := Scalar.remsi v22 v24
  let c0_i32_17 : BitVec 32 := 0#32
  let v27 : BitVec 1 := Scalar.cmpi .slt v25 c0_i32_17
  let c0_i32_18 : BitVec 32 := 0#32
  let v28 : BitVec 1 := Scalar.cmpi .slt v24 c0_i32_18
  let v29 : BitVec 1 := Scalar.xori v27 v28
  let c0_i32_16 : BitVec 32 := 0#32
  let v26 : BitVec 1 := Scalar.cmpi .ne v25 c0_i32_16
  let v30 : BitVec 1 := Scalar.andi v29 v26
  let v31 : BitVec 32 := Scalar.addi v25 v24
  let v32 : BitVec 32 := Scalar.select v30 v31 v25
  let c1_i32_20 : BitVec 32 := 1#32
  let v33 : BitVec 32 := Scalar.muli v32 c1_i32_20
  let v34 : BitVec 32 := Scalar.addi c0_i32_21 v33
  v34.toNat
def k0_dev3 (d0 : Dev nD) : Nat :=
  let c0_i32_30 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32 : BitVec 32 := 3#32
  let v35 : BitVec 32 := Scalar.addi v2 c3_i32
  let c4_i32_22 : BitVec 32 := 4#32
  let c0_i32_23 : BitVec 32 := 0#32
  let v36 : BitVec 1 := Scalar.cmpi .eq c4_i32_22 c0_i32_23
  let c1_i32_24 : BitVec 32 := 1#32
  let v37 : BitVec 32 := Scalar.select v36 c1_i32_24 c4_i32_22
  let v38 : BitVec 32 := Scalar.remsi v35 v37
  let c0_i32_26 : BitVec 32 := 0#32
  let v40 : BitVec 1 := Scalar.cmpi .slt v38 c0_i32_26
  let c0_i32_27 : BitVec 32 := 0#32
  let v41 : BitVec 1 := Scalar.cmpi .slt v37 c0_i32_27
  let v42 : BitVec 1 := Scalar.xori v40 v41
  let c0_i32_25 : BitVec 32 := 0#32
  let v39 : BitVec 1 := Scalar.cmpi .ne v38 c0_i32_25
  let v43 : BitVec 1 := Scalar.andi v42 v39
  let v44 : BitVec 32 := Scalar.addi v38 v37
  let v45 : BitVec 32 := Scalar.select v43 v44 v38
  let c1_i32_29 : BitVec 32 := 1#32
  let v46 : BitVec 32 := Scalar.muli v45 c1_i32_29
  let v47 : BitVec 32 := Scalar.addi c0_i32_30 v46
  v47.toNat
def k0_dev4 (d0 : Dev nD) : Nat :=
  let c0_i32_43 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_32 : BitVec 32 := 1#32
  let v48 : BitVec 32 := Scalar.addi v2 c1_i32_32
  let c4_i32_33 : BitVec 32 := 4#32
  let c0_i32_34 : BitVec 32 := 0#32
  let v49 : BitVec 1 := Scalar.cmpi .eq c4_i32_33 c0_i32_34
  let c1_i32_35 : BitVec 32 := 1#32
  let v50 : BitVec 32 := Scalar.select v49 c1_i32_35 c4_i32_33
  let v51 : BitVec 32 := Scalar.remsi v48 v50
  let c0_i32_37 : BitVec 32 := 0#32
  let v53 : BitVec 1 := Scalar.cmpi .slt v51 c0_i32_37
  let c0_i32_38 : BitVec 32 := 0#32
  let v54 : BitVec 1 := Scalar.cmpi .slt v50 c0_i32_38
  let v55 : BitVec 1 := Scalar.xori v53 v54
  let c0_i32_36 : BitVec 32 := 0#32
  let v52 : BitVec 1 := Scalar.cmpi .ne v51 c0_i32_36
  let v56 : BitVec 1 := Scalar.andi v55 v52
  let v57 : BitVec 32 := Scalar.addi v51 v50
  let v58 : BitVec 32 := Scalar.select v56 v57 v51
  let c1_i32_42 : BitVec 32 := 1#32
  let v59 : BitVec 32 := Scalar.muli v58 c1_i32_42
  let v60 : BitVec 32 := Scalar.addi c0_i32_43 v59
  v60.toNat
def k0_dev5 (d0 : Dev nD) : Nat :=
  let c0_i32_57 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32_46 : BitVec 32 := 3#32
  let v67 : BitVec 32 := Scalar.addi v2 c3_i32_46
  let c4_i32_47 : BitVec 32 := 4#32
  let c0_i32_48 : BitVec 32 := 0#32
  let v68 : BitVec 1 := Scalar.cmpi .eq c4_i32_47 c0_i32_48
  let c1_i32_49 : BitVec 32 := 1#32
  let v69 : BitVec 32 := Scalar.select v68 c1_i32_49 c4_i32_47
  let v70 : BitVec 32 := Scalar.remsi v67 v69
  let c0_i32_51 : BitVec 32 := 0#32
  let v72 : BitVec 1 := Scalar.cmpi .slt v70 c0_i32_51
  let c0_i32_52 : BitVec 32 := 0#32
  let v73 : BitVec 1 := Scalar.cmpi .slt v69 c0_i32_52
  let v74 : BitVec 1 := Scalar.xori v72 v73
  let c0_i32_50 : BitVec 32 := 0#32
  let v71 : BitVec 1 := Scalar.cmpi .ne v70 c0_i32_50
  let v75 : BitVec 1 := Scalar.andi v74 v71
  let v76 : BitVec 32 := Scalar.addi v70 v69
  let v77 : BitVec 32 := Scalar.select v75 v76 v70
  let c1_i32_56 : BitVec 32 := 1#32
  let v78 : BitVec 32 := Scalar.muli v77 c1_i32_56
  let v79 : BitVec 32 := Scalar.addi c0_i32_57 v78
  v79.toNat
def k0_dev6 (d0 : Dev nD) : Nat :=
  let c0_i32_103 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32_92 : BitVec 32 := 2#32
  let v149 : BitVec 32 := Scalar.addi v2 c2_i32_92
  let c4_i32_93 : BitVec 32 := 4#32
  let c0_i32_94 : BitVec 32 := 0#32
  let v150 : BitVec 1 := Scalar.cmpi .eq c4_i32_93 c0_i32_94
  let c1_i32_95 : BitVec 32 := 1#32
  let v151 : BitVec 32 := Scalar.select v150 c1_i32_95 c4_i32_93
  let v152 : BitVec 32 := Scalar.remsi v149 v151
  let c0_i32_97 : BitVec 32 := 0#32
  let v154 : BitVec 1 := Scalar.cmpi .slt v152 c0_i32_97
  let c0_i32_98 : BitVec 32 := 0#32
  let v155 : BitVec 1 := Scalar.cmpi .slt v151 c0_i32_98
  let v156 : BitVec 1 := Scalar.xori v154 v155
  let c0_i32_96 : BitVec 32 := 0#32
  let v153 : BitVec 1 := Scalar.cmpi .ne v152 c0_i32_96
  let v157 : BitVec 1 := Scalar.andi v156 v153
  let v158 : BitVec 32 := Scalar.addi v152 v151
  let v159 : BitVec 32 := Scalar.select v157 v158 v152
  let c1_i32_102 : BitVec 32 := 1#32
  let v160 : BitVec 32 := Scalar.muli v159 c1_i32_102
  let v161 : BitVec 32 := Scalar.addi c0_i32_103 v160
  v161.toNat
def k0_dev7 (d0 : Dev nD) : Nat :=
  let c0_i32_189 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c0_i32_174 : BitVec 32 := 0#32
  let v361 : BitVec 32 := Scalar.addi v2 c0_i32_174
  let c1_i32_175 : BitVec 32 := 1#32
  let v362 : BitVec 32 := Scalar.addi v361 c1_i32_175
  let c4_i32_176 : BitVec 32 := 4#32
  let c0_i32_177 : BitVec 32 := 0#32
  let v363 : BitVec 1 := Scalar.cmpi .eq c4_i32_176 c0_i32_177
  let c1_i32_178 : BitVec 32 := 1#32
  let v364 : BitVec 32 := Scalar.select v363 c1_i32_178 c4_i32_176
  let v365 : BitVec 32 := Scalar.remsi v362 v364
  let c0_i32_180 : BitVec 32 := 0#32
  let v367 : BitVec 1 := Scalar.cmpi .slt v365 c0_i32_180
  let c0_i32_181 : BitVec 32 := 0#32
  let v368 : BitVec 1 := Scalar.cmpi .slt v364 c0_i32_181
  let v369 : BitVec 1 := Scalar.xori v367 v368
  let c0_i32_179 : BitVec 32 := 0#32
  let v366 : BitVec 1 := Scalar.cmpi .ne v365 c0_i32_179
  let v370 : BitVec 1 := Scalar.andi v369 v366
  let v371 : BitVec 32 := Scalar.addi v365 v364
  let v372 : BitVec 32 := Scalar.select v370 v371 v365
  let c1_i32_188 : BitVec 32 := 1#32
  let v373 : BitVec 32 := Scalar.muli v372 c1_i32_188
  let v374 : BitVec 32 := Scalar.addi c0_i32_189 v373
  v374.toNat
def k0_dev8 (d0 : Dev nD) : Nat :=
  let c0_i32_230 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c0_i32_215 : BitVec 32 := 0#32
  let v495 : BitVec 32 := Scalar.addi v2 c0_i32_215
  let c1_i32_216 : BitVec 32 := 1#32
  let v496 : BitVec 32 := Scalar.addi v495 c1_i32_216
  let c4_i32_217 : BitVec 32 := 4#32
  let c0_i32_218 : BitVec 32 := 0#32
  let v497 : BitVec 1 := Scalar.cmpi .eq c4_i32_217 c0_i32_218
  let c1_i32_219 : BitVec 32 := 1#32
  let v498 : BitVec 32 := Scalar.select v497 c1_i32_219 c4_i32_217
  let v499 : BitVec 32 := Scalar.remsi v496 v498
  let c0_i32_221 : BitVec 32 := 0#32
  let v501 : BitVec 1 := Scalar.cmpi .slt v499 c0_i32_221
  let c0_i32_222 : BitVec 32 := 0#32
  let v502 : BitVec 1 := Scalar.cmpi .slt v498 c0_i32_222
  let v503 : BitVec 1 := Scalar.xori v501 v502
  let c0_i32_220 : BitVec 32 := 0#32
  let v500 : BitVec 1 := Scalar.cmpi .ne v499 c0_i32_220
  let v504 : BitVec 1 := Scalar.andi v503 v500
  let v505 : BitVec 32 := Scalar.addi v499 v498
  let v506 : BitVec 32 := Scalar.select v504 v505 v499
  let c1_i32_229 : BitVec 32 := 1#32
  let v507 : BitVec 32 := Scalar.muli v506 c1_i32_229
  let v508 : BitVec 32 := Scalar.addi c0_i32_230 v507
  v508.toNat
def k0_dev9 (d0 : Dev nD) : Nat :=
  let c0_i32_298 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_283 : BitVec 32 := 1#32
  let v670 : BitVec 32 := Scalar.addi v2 c1_i32_283
  let c1_i32_284 : BitVec 32 := 1#32
  let v671 : BitVec 32 := Scalar.addi v670 c1_i32_284
  let c4_i32_285 : BitVec 32 := 4#32
  let c0_i32_286 : BitVec 32 := 0#32
  let v672 : BitVec 1 := Scalar.cmpi .eq c4_i32_285 c0_i32_286
  let c1_i32_287 : BitVec 32 := 1#32
  let v673 : BitVec 32 := Scalar.select v672 c1_i32_287 c4_i32_285
  let v674 : BitVec 32 := Scalar.remsi v671 v673
  let c0_i32_289 : BitVec 32 := 0#32
  let v676 : BitVec 1 := Scalar.cmpi .slt v674 c0_i32_289
  let c0_i32_290 : BitVec 32 := 0#32
  let v677 : BitVec 1 := Scalar.cmpi .slt v673 c0_i32_290
  let v678 : BitVec 1 := Scalar.xori v676 v677
  let c0_i32_288 : BitVec 32 := 0#32
  let v675 : BitVec 1 := Scalar.cmpi .ne v674 c0_i32_288
  let v679 : BitVec 1 := Scalar.andi v678 v675
  let v680 : BitVec 32 := Scalar.addi v674 v673
  let v681 : BitVec 32 := Scalar.select v679 v680 v674
  let c1_i32_297 : BitVec 32 := 1#32
  let v682 : BitVec 32 := Scalar.muli v681 c1_i32_297
  let v683 : BitVec 32 := Scalar.addi c0_i32_298 v682
  v683.toNat
def k0_dev10 (d0 : Dev nD) : Nat :=
  let c0_i32_340 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_325 : BitVec 32 := 1#32
  let v804 : BitVec 32 := Scalar.addi v2 c1_i32_325
  let c1_i32_326 : BitVec 32 := 1#32
  let v805 : BitVec 32 := Scalar.addi v804 c1_i32_326
  let c4_i32_327 : BitVec 32 := 4#32
  let c0_i32_328 : BitVec 32 := 0#32
  let v806 : BitVec 1 := Scalar.cmpi .eq c4_i32_327 c0_i32_328
  let c1_i32_329 : BitVec 32 := 1#32
  let v807 : BitVec 32 := Scalar.select v806 c1_i32_329 c4_i32_327
  let v808 : BitVec 32 := Scalar.remsi v805 v807
  let c0_i32_331 : BitVec 32 := 0#32
  let v810 : BitVec 1 := Scalar.cmpi .slt v808 c0_i32_331
  let c0_i32_332 : BitVec 32 := 0#32
  let v811 : BitVec 1 := Scalar.cmpi .slt v807 c0_i32_332
  let v812 : BitVec 1 := Scalar.xori v810 v811
  let c0_i32_330 : BitVec 32 := 0#32
  let v809 : BitVec 1 := Scalar.cmpi .ne v808 c0_i32_330
  let v813 : BitVec 1 := Scalar.andi v812 v809
  let v814 : BitVec 32 := Scalar.addi v808 v807
  let v815 : BitVec 32 := Scalar.select v813 v814 v808
  let c1_i32_339 : BitVec 32 := 1#32
  let v816 : BitVec 32 := Scalar.muli v815 c1_i32_339
  let v817 : BitVec 32 := Scalar.addi c0_i32_340 v816
  v817.toNat
def k0_dev11 (d0 : Dev nD) : Nat :=
  let c0_i32_409 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32_394 : BitVec 32 := 2#32
  let v979 : BitVec 32 := Scalar.addi v2 c2_i32_394
  let c1_i32_395 : BitVec 32 := 1#32
  let v980 : BitVec 32 := Scalar.addi v979 c1_i32_395
  let c4_i32_396 : BitVec 32 := 4#32
  let c0_i32_397 : BitVec 32 := 0#32
  let v981 : BitVec 1 := Scalar.cmpi .eq c4_i32_396 c0_i32_397
  let c1_i32_398 : BitVec 32 := 1#32
  let v982 : BitVec 32 := Scalar.select v981 c1_i32_398 c4_i32_396
  let v983 : BitVec 32 := Scalar.remsi v980 v982
  let c0_i32_400 : BitVec 32 := 0#32
  let v985 : BitVec 1 := Scalar.cmpi .slt v983 c0_i32_400
  let c0_i32_401 : BitVec 32 := 0#32
  let v986 : BitVec 1 := Scalar.cmpi .slt v982 c0_i32_401
  let v987 : BitVec 1 := Scalar.xori v985 v986
  let c0_i32_399 : BitVec 32 := 0#32
  let v984 : BitVec 1 := Scalar.cmpi .ne v983 c0_i32_399
  let v988 : BitVec 1 := Scalar.andi v987 v984
  let v989 : BitVec 32 := Scalar.addi v983 v982
  let v990 : BitVec 32 := Scalar.select v988 v989 v983
  let c1_i32_408 : BitVec 32 := 1#32
  let v991 : BitVec 32 := Scalar.muli v990 c1_i32_408
  let v992 : BitVec 32 := Scalar.addi c0_i32_409 v991
  v992.toNat
def k0_dev12 (d0 : Dev nD) : Nat :=
  let c0_i32_451 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32_436 : BitVec 32 := 2#32
  let v1113 : BitVec 32 := Scalar.addi v2 c2_i32_436
  let c1_i32_437 : BitVec 32 := 1#32
  let v1114 : BitVec 32 := Scalar.addi v1113 c1_i32_437
  let c4_i32_438 : BitVec 32 := 4#32
  let c0_i32_439 : BitVec 32 := 0#32
  let v1115 : BitVec 1 := Scalar.cmpi .eq c4_i32_438 c0_i32_439
  let c1_i32_440 : BitVec 32 := 1#32
  let v1116 : BitVec 32 := Scalar.select v1115 c1_i32_440 c4_i32_438
  let v1117 : BitVec 32 := Scalar.remsi v1114 v1116
  let c0_i32_442 : BitVec 32 := 0#32
  let v1119 : BitVec 1 := Scalar.cmpi .slt v1117 c0_i32_442
  let c0_i32_443 : BitVec 32 := 0#32
  let v1120 : BitVec 1 := Scalar.cmpi .slt v1116 c0_i32_443
  let v1121 : BitVec 1 := Scalar.xori v1119 v1120
  let c0_i32_441 : BitVec 32 := 0#32
  let v1118 : BitVec 1 := Scalar.cmpi .ne v1117 c0_i32_441
  let v1122 : BitVec 1 := Scalar.andi v1121 v1118
  let v1123 : BitVec 32 := Scalar.addi v1117 v1116
  let v1124 : BitVec 32 := Scalar.select v1122 v1123 v1117
  let c1_i32_450 : BitVec 32 := 1#32
  let v1125 : BitVec 32 := Scalar.muli v1124 c1_i32_450
  let v1126 : BitVec 32 := Scalar.addi c0_i32_451 v1125
  v1126.toNat
abbrev stage0_0 : Fin 1 → Memref sig .tc .vmem S1x1024x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1024x3072 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1024x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S1024x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S1024x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S1024x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S1x1024x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
-- ==== ReferenceIdeal.lean ====
abbrev S4x1024x1024 : Shape := ⟨3, ![4, 1024, 1024]⟩
abbrev S1024x4096 : Shape := ⟨2, ![1024, 4096]⟩
abbrev S4096x1024 : Shape := ⟨2, ![4096, 1024]⟩
abbrev S64 : Shape := ⟨1, ![64]⟩
abbrev S_ : Shape := ⟨0, ![]⟩
abbrev S1024 : Shape := ⟨1, ![1024]⟩
abbrev S1024x1 : Shape := ⟨2, ![1024, 1]⟩
abbrev S1x64 : Shape := ⟨2, ![1, 64]⟩
abbrev S1024x64 : Shape := ⟨2, ![1024, 64]⟩
abbrev S1024x64x2 : Shape := ⟨3, ![1024, 64, 2]⟩
abbrev S1024x128 : Shape := ⟨2, ![1024, 128]⟩
abbrev S4x1024x4096 : Shape := ⟨3, ![4, 1024, 4096]⟩
abbrev S4x1024x32x128 : Shape := ⟨4, ![4, 1024, 32, 128]⟩
abbrev S4x1024x32x64x2 : Shape := ⟨5, ![4, 1024, 32, 64, 2]⟩
abbrev S4x1024x32x64x1 : Shape := ⟨5, ![4, 1024, 32, 64, 1]⟩
abbrev S4x1024x32x64 : Shape := ⟨4, ![4, 1024, 32, 64]⟩
abbrev S1x1024x1x128 : Shape := ⟨4, ![1, 1024, 1, 128]⟩
abbrev S4x32x1024x1024 : Shape := ⟨4, ![4, 32, 1024, 1024]⟩
abbrev S4x32x1024 : Shape := ⟨3, ![4, 32, 1024]⟩
abbrev S4x32x1024x1 : Shape := ⟨4, ![4, 32, 1024, 1]⟩
abbrev S4x32x128x1024 : Shape := ⟨4, ![4, 32, 128, 1024]⟩

abbrev nBuf : Space → Nat
  | .hbm => 106
  | .vmem => 0
  | .smem => 0
  | _ => 0

abbrev bufTy : (tb : Table) → Fin (tcTables nBuf tb) → BufTy
  | .hbm, ⟨0, _⟩ => ⟨S4x1024x1024, .bf16⟩
  | .hbm, ⟨1, _⟩ => ⟨S1024x4096, .bf16⟩
  | .hbm, ⟨2, _⟩ => ⟨S1024x4096, .bf16⟩
  | .hbm, ⟨3, _⟩ => ⟨S1024x4096, .bf16⟩
  | .hbm, ⟨4, _⟩ => ⟨S4096x1024, .bf16⟩
  | .hbm, ⟨5, _⟩ => ⟨S4x1024x1024, .f32⟩
  | .hbm, ⟨6, _⟩ => ⟨S1024x4096, .f32⟩
  | .hbm, ⟨7, _⟩ => ⟨S1024x4096, .f32⟩
  | .hbm, ⟨8, _⟩ => ⟨S1024x4096, .f32⟩
  | .hbm, ⟨9, _⟩ => ⟨S4096x1024, .f32⟩
  | .hbm, ⟨10, _⟩ => ⟨S64, .i32⟩
  | .hbm, ⟨11, _⟩ => ⟨S_, .i32⟩
  | .hbm, ⟨12, _⟩ => ⟨S64, .i32⟩
  | .hbm, ⟨13, _⟩ => ⟨S64, .i32⟩
  | .hbm, ⟨14, _⟩ => ⟨S_, .i32⟩
  | .hbm, ⟨15, _⟩ => ⟨S64, .i32⟩
  | .hbm, ⟨16, _⟩ => ⟨S64, .i32⟩
  | .hbm, ⟨17, _⟩ => ⟨S64, .f32⟩
  | .hbm, ⟨18, _⟩ => ⟨S_, .f32⟩
  | .hbm, ⟨19, _⟩ => ⟨S64, .f32⟩
  | .hbm, ⟨20, _⟩ => ⟨S64, .f32⟩
  | .hbm, ⟨21, _⟩ => ⟨S_, .f32⟩
  | .hbm, ⟨22, _⟩ => ⟨S64, .f32⟩
  | .hbm, ⟨23, _⟩ => ⟨S64, .f32⟩
  | .hbm, ⟨24, _⟩ => ⟨S_, .f32⟩
  | .hbm, ⟨25, _⟩ => ⟨S64, .f32⟩
  | .hbm, ⟨26, _⟩ => ⟨S64, .f32⟩
  | .hbm, ⟨27, _⟩ => ⟨S1024, .i32⟩
  | .hbm, ⟨28, _⟩ => ⟨S1024x1, .i32⟩
  | .hbm, ⟨29, _⟩ => ⟨S1x64, .f32⟩
  | .hbm, ⟨30, _⟩ => ⟨S1024x1, .f32⟩
  | .hbm, ⟨31, _⟩ => ⟨S1024x64, .f32⟩
  | .hbm, ⟨32, _⟩ => ⟨S1024x64, .f32⟩
  | .hbm, ⟨33, _⟩ => ⟨S1024x64, .f32⟩
  | .hbm, ⟨34, _⟩ => ⟨S1024x64, .f32⟩
  | .hbm, ⟨35, _⟩ => ⟨S1024x64x2, .f32⟩
  | .hbm, ⟨36, _⟩ => ⟨S1024x128, .f32⟩
  | .hbm, ⟨37, _⟩ => ⟨S1024x64, .f32⟩
  | .hbm, ⟨38, _⟩ => ⟨S1024x64x2, .f32⟩
  | .hbm, ⟨39, _⟩ => ⟨S1024x128, .f32⟩
  | .hbm, ⟨40, _⟩ => ⟨S4x1024x4096, .f32⟩
  | .hbm, ⟨41, _⟩ => ⟨S4x1024x4096, .bf16⟩
  | .hbm, ⟨42, _⟩ => ⟨S4x1024x4096, .f32⟩
  | .hbm, ⟨43, _⟩ => ⟨S4x1024x32x128, .f32⟩
  | .hbm, ⟨44, _⟩ => ⟨S4x1024x32x64x2, .f32⟩
  | .hbm, ⟨45, _⟩ => ⟨S4x1024x32x64x1, .f32⟩
  | .hbm, ⟨46, _⟩ => ⟨S4x1024x32x64, .f32⟩
  | .hbm, ⟨47, _⟩ => ⟨S4x1024x32x64, .f32⟩
  | .hbm, ⟨48, _⟩ => ⟨S4x1024x32x64x1, .f32⟩
  | .hbm, ⟨49, _⟩ => ⟨S4x1024x32x64, .f32⟩
  | .hbm, ⟨50, _⟩ => ⟨S4x1024x32x64x1, .f32⟩
  | .hbm, ⟨51, _⟩ => ⟨S4x1024x32x64x1, .f32⟩
  | .hbm, ⟨52, _⟩ => ⟨S4x1024x32x64x2, .f32⟩
  | .hbm, ⟨53, _⟩ => ⟨S4x1024x32x128, .f32⟩
  | .hbm, ⟨54, _⟩ => ⟨S1x1024x1x128, .f32⟩
  | .hbm, ⟨55, _⟩ => ⟨S4x1024x32x128, .f32⟩
  | .hbm, ⟨56, _⟩ => ⟨S4x1024x32x128, .f32⟩
  | .hbm, ⟨57, _⟩ => ⟨S1x1024x1x128, .f32⟩
  | .hbm, ⟨58, _⟩ => ⟨S4x1024x32x128, .f32⟩
  | .hbm, ⟨59, _⟩ => ⟨S4x1024x32x128, .f32⟩
  | .hbm, ⟨60, _⟩ => ⟨S4x1024x32x128, .f32⟩
  | .hbm, ⟨61, _⟩ => ⟨S4x1024x4096, .f32⟩
  | .hbm, ⟨62, _⟩ => ⟨S4x1024x4096, .bf16⟩
  | .hbm, ⟨63, _⟩ => ⟨S4x1024x4096, .f32⟩
  | .hbm, ⟨64, _⟩ => ⟨S4x1024x32x128, .f32⟩
  | .hbm, ⟨65, _⟩ => ⟨S4x1024x32x64x2, .f32⟩
  | .hbm, ⟨66, _⟩ => ⟨S4x1024x32x64x1, .f32⟩
  | .hbm, ⟨67, _⟩ => ⟨S4x1024x32x64, .f32⟩
  | .hbm, ⟨68, _⟩ => ⟨S4x1024x32x64, .f32⟩
  | .hbm, ⟨69, _⟩ => ⟨S4x1024x32x64x1, .f32⟩
  | .hbm, ⟨70, _⟩ => ⟨S4x1024x32x64, .f32⟩
  | .hbm, ⟨71, _⟩ => ⟨S4x1024x32x64x1, .f32⟩
  | .hbm, ⟨72, _⟩ => ⟨S4x1024x32x64x1, .f32⟩
  | .hbm, ⟨73, _⟩ => ⟨S4x1024x32x64x2, .f32⟩
  | .hbm, ⟨74, _⟩ => ⟨S4x1024x32x128, .f32⟩
  | .hbm, ⟨75, _⟩ => ⟨S1x1024x1x128, .f32⟩
  | .hbm, ⟨76, _⟩ => ⟨S4x1024x32x128, .f32⟩
  | .hbm, ⟨77, _⟩ => ⟨S4x1024x32x128, .f32⟩
  | .hbm, ⟨78, _⟩ => ⟨S1x1024x1x128, .f32⟩
  | .hbm, ⟨79, _⟩ => ⟨S4x1024x32x128, .f32⟩
  | .hbm, ⟨80, _⟩ => ⟨S4x1024x32x128, .f32⟩
  | .hbm, ⟨81, _⟩ => ⟨S4x1024x32x128, .f32⟩
  | .hbm, ⟨82, _⟩ => ⟨S4x1024x4096, .f32⟩
  | .hbm, ⟨83, _⟩ => ⟨S4x1024x4096, .bf16⟩
  | .hbm, ⟨84, _⟩ => ⟨S4x1024x4096, .f32⟩
  | .hbm, ⟨85, _⟩ => ⟨S4x1024x32x128, .f32⟩
  | .hbm, ⟨86, _⟩ => ⟨S4x32x1024x1024, .f32⟩
  | .hbm, ⟨87, _⟩ => ⟨S_, .f32⟩
  | .hbm, ⟨88, _⟩ => ⟨S4x32x1024x1024, .f32⟩
  | .hbm, ⟨89, _⟩ => ⟨S4x32x1024x1024, .f32⟩
  | .hbm, ⟨90, _⟩ => ⟨S_, .f32⟩
  | .hbm, ⟨91, _⟩ => ⟨S4x32x1024, .f32⟩
  | .hbm, ⟨92, _⟩ => ⟨S4x32x1024x1, .f32⟩
  | .hbm, ⟨93, _⟩ => ⟨S4x32x1024x1024, .f32⟩
  | .hbm, ⟨94, _⟩ => ⟨S4x32x1024x1024, .f32⟩
  | .hbm, ⟨95, _⟩ => ⟨S4x32x1024x1024, .f32⟩
  | .hbm, ⟨96, _⟩ => ⟨S_, .f32⟩
  | .hbm, ⟨97, _⟩ => ⟨S4x32x1024, .f32⟩
  | .hbm, ⟨98, _⟩ => ⟨S4x32x1024x1, .f32⟩
  | .hbm, ⟨99, _⟩ => ⟨S4x32x1024x1024, .f32⟩
  | .hbm, ⟨100, _⟩ => ⟨S4x32x1024x1024, .f32⟩
  | .hbm, ⟨101, _⟩ => ⟨S4x32x128x1024, .f32⟩
  | .hbm, ⟨102, _⟩ => ⟨S4x1024x32x128, .f32⟩
  | .hbm, ⟨103, _⟩ => ⟨S4x1024x4096, .f32⟩
  | .hbm, ⟨104, _⟩ => ⟨S4x1024x1024, .f32⟩
  | .hbm, ⟨105, _⟩ => ⟨S4x1024x1024, .bf16⟩
  | _, _ => ⟨S4x1024x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_c : Ref sig .tc := ⟨.hbm, 11, rfl⟩
abbrev main_v6 : Ref sig .tc := ⟨.hbm, 12, rfl⟩
abbrev main_v7 : Ref sig .tc := ⟨.hbm, 13, rfl⟩
abbrev main_c_0 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_cst : Ref sig .tc := ⟨.hbm, 18, rfl⟩
abbrev main_v11 : Ref sig .tc := ⟨.hbm, 19, rfl⟩
abbrev main_v12 : Ref sig .tc := ⟨.hbm, 20, rfl⟩
abbrev main_cst_1 : Ref sig .tc := ⟨.hbm, 21, rfl⟩
abbrev main_v13 : Ref sig .tc := ⟨.hbm, 22, rfl⟩
abbrev main_v14 : Ref sig .tc := ⟨.hbm, 23, rfl⟩
abbrev main_cst_2 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_v38 : Ref sig .tc := ⟨.hbm, 48, rfl⟩
abbrev main_v39 : Ref sig .tc := ⟨.hbm, 49, rfl⟩
abbrev main_v40 : Ref sig .tc := ⟨.hbm, 50, rfl⟩
abbrev main_v41 : Ref sig .tc := ⟨.hbm, 51, rfl⟩
abbrev main_v42 : Ref sig .tc := ⟨.hbm, 52, rfl⟩
abbrev main_v43 : Ref sig .tc := ⟨.hbm, 53, rfl⟩
abbrev main_v44 : Ref sig .tc := ⟨.hbm, 54, rfl⟩
abbrev main_v45 : Ref sig .tc := ⟨.hbm, 55, rfl⟩
abbrev main_v46 : Ref sig .tc := ⟨.hbm, 56, rfl⟩
abbrev main_v47 : Ref sig .tc := ⟨.hbm, 57, rfl⟩
abbrev main_v48 : Ref sig .tc := ⟨.hbm, 58, rfl⟩
abbrev main_v49 : Ref sig .tc := ⟨.hbm, 59, rfl⟩
abbrev main_v50 : Ref sig .tc := ⟨.hbm, 60, rfl⟩
abbrev main_v51 : Ref sig .tc := ⟨.hbm, 61, rfl⟩
abbrev main_v52 : Ref sig .tc := ⟨.hbm, 62, rfl⟩
abbrev main_v53 : Ref sig .tc := ⟨.hbm, 63, rfl⟩
abbrev main_v54 : Ref sig .tc := ⟨.hbm, 64, rfl⟩
abbrev main_v55 : Ref sig .tc := ⟨.hbm, 65, rfl⟩
abbrev main_v56 : Ref sig .tc := ⟨.hbm, 66, rfl⟩
abbrev main_v57 : Ref sig .tc := ⟨.hbm, 67, rfl⟩
abbrev main_v58 : Ref sig .tc := ⟨.hbm, 68, rfl⟩
abbrev main_v59 : Ref sig .tc := ⟨.hbm, 69, rfl⟩
abbrev main_v60 : Ref sig .tc := ⟨.hbm, 70, rfl⟩
abbrev main_v61 : Ref sig .tc := ⟨.hbm, 71, rfl⟩
abbrev main_v62 : Ref sig .tc := ⟨.hbm, 72, rfl⟩
abbrev main_v63 : Ref sig .tc := ⟨.hbm, 73, rfl⟩
abbrev main_v64 : Ref sig .tc := ⟨.hbm, 74, rfl⟩
abbrev main_v65 : Ref sig .tc := ⟨.hbm, 75, rfl⟩
abbrev main_v66 : Ref sig .tc := ⟨.hbm, 76, rfl⟩
abbrev main_v67 : Ref sig .tc := ⟨.hbm, 77, rfl⟩
abbrev main_v68 : Ref sig .tc := ⟨.hbm, 78, rfl⟩
abbrev main_v69 : Ref sig .tc := ⟨.hbm, 79, rfl⟩
abbrev main_v70 : Ref sig .tc := ⟨.hbm, 80, rfl⟩
abbrev main_v71 : Ref sig .tc := ⟨.hbm, 81, rfl⟩
abbrev main_v72 : Ref sig .tc := ⟨.hbm, 82, rfl⟩
abbrev main_v73 : Ref sig .tc := ⟨.hbm, 83, rfl⟩
abbrev main_v74 : Ref sig .tc := ⟨.hbm, 84, rfl⟩
abbrev main_v75 : Ref sig .tc := ⟨.hbm, 85, rfl⟩
abbrev main_v76 : Ref sig .tc := ⟨.hbm, 86, rfl⟩
abbrev main_cst_3 : Ref sig .tc := ⟨.hbm, 87, rfl⟩
abbrev main_v77 : Ref sig .tc := ⟨.hbm, 88, rfl⟩
abbrev main_v78 : Ref sig .tc := ⟨.hbm, 89, rfl⟩
abbrev main_cst_4 : Ref sig .tc := ⟨.hbm, 90, rfl⟩
abbrev main_v79 : Ref sig .tc := ⟨.hbm, 91, rfl⟩
abbrev main_v80 : Ref sig .tc := ⟨.hbm, 92, rfl⟩
abbrev main_v81 : Ref sig .tc := ⟨.hbm, 93, rfl⟩
abbrev main_v82 : Ref sig .tc := ⟨.hbm, 94, rfl⟩
abbrev main_v83 : Ref sig .tc := ⟨.hbm, 95, rfl⟩
abbrev main_cst_5 : Ref sig .tc := ⟨.hbm, 96, rfl⟩
abbrev main_v84 : Ref sig .tc := ⟨.hbm, 97, rfl⟩
abbrev main_v85 : Ref sig .tc := ⟨.hbm, 98, rfl⟩
abbrev main_v86 : Ref sig .tc := ⟨.hbm, 99, rfl⟩
abbrev main_v87 : Ref sig .tc := ⟨.hbm, 100, rfl⟩
abbrev main_v88 : Ref sig .tc := ⟨.hbm, 101, rfl⟩
abbrev main_v89 : Ref sig .tc := ⟨.hbm, 102, rfl⟩
abbrev main_v90 : Ref sig .tc := ⟨.hbm, 103, rfl⟩
abbrev main_v91 : Ref sig .tc := ⟨.hbm, 104, rfl⟩
abbrev main_v92 : Ref sig .tc := ⟨.hbm, 105, rfl⟩

abbrev nD : Nat := 1
abbrev τ : Topo := Topo.v7x

variable {F : FTy → Type} [FloatOps F]
-- ==== Proof.Spec.lean ====
/-
  The values the kernel forms, named: the rotary embedding of a projected block, one head of attention,
  a device's half-block of output rows, and the rows a device finally writes. Each is built from the
  kernel's own vector operations; later modules show the printed payloads are these values.
-/
module

public import proofs.«01_k».proof.Proof.Gen.KernelIdeal.Skeleton

@[expose] public section

set_option maxRecDepth 16384

noncomputable section

namespace Cert.KernelIdeal.Talk

open Idealize.ShloMosaic Idealize.ShloMosaic.TcCoe
open Cert.KernelIdeal Cert.KernelIdeal.Gen

variable {F : FTy → Type} [FloatOps F]

/-- The parity mask the kernel selects by: one in the odd columns. -/
def maskV : IVec S1024x1024 1 :=
  k0_pay5 (Scalar.select (Scalar.cmpi .eq 2#32 0#32) 1#32 2#32) k0_pay2 k0_pay3 k0_pay4

/-- The rotary embedding of a block by a cosine and a sine table. -/
def ropeF (mk : IVec S1024x1024 1) (t co si : FVec F S1024x1024 .bf16) : FVec F S1024x1024 .bf16 :=
  addf (mulf t (shapeCast S1024x1024 co shapeCasts_S1024x1024_S1024x1024))
    (mulf (select mk (dynamicRotate 1 1#32 none t rotates_S1024x1024_d1)
        (subf (broadcast S1024x1024 (Scalar.ofBits .bf16 0x0000#16))
          (dynamicRotate 1 1023#32 none t rotates_S1024x1024_d1)))
      (shapeCast S1024x1024 si shapeCasts_S1024x1024_S1024x1024))

/-- The product of a block of rows with the stacked projection weights. -/
def prodF (x : FVec F S1024x1024 .bf16) (w : FVec F S1024x3072 .bf16) : FVec F S1024x3072 .f32 :=
  matmul dot_S1024x1024_S1024x3072_S1024x3072_1_0_0_1_n_n none x
    (shapeCast S1024x3072 w shapeCasts_S1024x3072_S1024x3072) (constant S1024x3072 .f32 0x00000000#32)

/-- The rotated queries of a block of rows. -/
def qF (x : FVec F S1024x1024 .bf16) (w : FVec F S1024x3072 .bf16) (cq sq : FVec F S1024x1024 .bf16) :
    FVec F S1024x1024 .bf16 :=
  ropeF maskV (truncf .bf16 (extractStridedSlice S1024x1024 ![0, 0] (prodF x w) slices_S1024x3072_o0_0_S1024x1024)
    bitsLt_bf16_f32) cq sq

/-- The rotated keys of a block of rows. -/
def kF (x : FVec F S1024x1024 .bf16) (w : FVec F S1024x3072 .bf16) (cb sb : FVec F S1024x1024 .bf16) :
    FVec F S1024x1024 .bf16 :=
  ropeF maskV (truncf .bf16 (extractStridedSlice S1024x1024 ![0, 1024] (prodF x w) slices_S1024x3072_o0_1024_S1024x1024)
    bitsLt_bf16_f32) cb sb

/-- The values of a block of rows. -/
def vF (x : FVec F S1024x1024 .bf16) (w : FVec F S1024x3072 .bf16) : FVec F S1024x1024 .bf16 :=
  truncf .bf16 (extractStridedSlice S1024x1024 ![0, 2048] (prodF x w) slices_S1024x3072_o0_2048_S1024x1024)
    bitsLt_bf16_f32

/-- Columns of values beside columns of ones: the right operand of a head's second product. -/
def onesF (v : FVec F S1024x128 .bf16) : FVec F S1024x256 .bf16 :=
  concatenate S1024x256 1 [⟨S1024x128, v⟩, ⟨S1024x128, k0_pay6⟩] concatenates_S1024x128_S1024x128_S1024x256_d1

/-- One head of attention over 512 query rows starting at a given corner. -/
def headH (oq ok : Fin 2 → ℕ) (hq : S1024x1024.Slices oq S512x128) (hk : S1024x1024.Slices ok S1024x128)
    (q k v : FVec F S1024x1024 .bf16) : FVec F S512x128 .bf16 :=
  let e : FVec F S512x1024 .bf16 := truncf .bf16 (exp (matmul dot_S512x128_S1024x128_S512x1024_1_1_0_0_n_n none
    (extractStridedSlice S512x128 oq q hq) (extractStridedSlice S1024x128 ok k hk)
    (constant S512x1024 .f32 0x00000000#32))) bitsLt_bf16_f32
  let n : FVec F S512x256 .f32 := matmul dot_S512x1024_S1024x256_S512x256_1_0_0_1_n_n none e
    (onesF (extractStridedSlice S1024x128 ok v hk)) (constant S512x256 .f32 0x00000000#32)
  truncf .bf16 (divf (extractStridedSlice S512x128 ![0, 0] n slices_S512x256_o0_0_S512x128)
    (broadcastTo S512x128 (extractStridedSlice S512x1 ![0, 128] n slices_S512x256_o0_128_S512x1)
      broadcasts_S512x1_S512x128)) bitsLt_bf16_f32

/-- One head of attention over all 1024 query rows. -/
def headW (ok : Fin 2 → ℕ) (hk : S1024x1024.Slices ok S1024x128)
    (q k v : FVec F S1024x1024 .bf16) : FVec F S1024x128 .bf16 :=
  let e : FVec F S1024x1024 .bf16 := truncf .bf16 (exp (matmul dot_S1024x128_S1024x128_S1024x1024_1_1_0_0_n_n none
    (extractStridedSlice S1024x128 ok q hk) (extractStridedSlice S1024x128 ok k hk)
    (constant S1024x1024 .f32 0x00000000#32))) bitsLt_bf16_f32
  let n : FVec F S1024x256 .f32 := matmul dot_S1024x1024_S1024x256_S1024x256_1_0_0_1_n_n none e
    (onesF (extractStridedSlice S1024x128 ok v hk)) (constant S1024x256 .f32 0x00000000#32)
  truncf .bf16 (divf (extractStridedSlice S1024x128 ![0, 0] n slices_S1024x256_o0_0_S1024x128)
    (broadcastTo S1024x128 (extractStridedSlice S1024x1 ![0, 128] n slices_S1024x256_o0_128_S1024x1)
      broadcasts_S1024x1_S1024x128)) bitsLt_bf16_f32

theorem slices_col (h : Fin 8) : S1024x1024.Slices ![0, 128 * h.val] S1024x128 := by
  revert h; decide
theorem slices_half (r : Fin 2) (h : Fin 8) : S1024x1024.Slices ![512 * r.val, 128 * h.val] S512x128 := by
  revert r h; decide

/-- Head `h` over the half-block `r` of the query rows. -/
def hd (r : Fin 2) (h : Fin 8) (q k v : FVec F S1024x1024 .bf16) : FVec F S512x128 .bf16 :=
  headH ![512 * r.val, 128 * h.val] ![0, 128 * h.val] (slices_half r h) (slices_col h) q k v

/-- Head `h` over the whole block of query rows. -/
def hw (h : Fin 8) (q k v : FVec F S1024x1024 .bf16) : FVec F S1024x128 .bf16 :=
  headW ![0, 128 * h.val] (slices_col h) q k v

/-- The half-block `r` of a partial output: eight heads side by side, times a block of output weights. -/
def partF (r : Fin 2) (q k v : FVec F S1024x1024 .bf16) (wo : FVec F S1024x1024 .bf16) : FVec F S1x512x1024 .bf16 :=
  shapeCast S1x512x1024 (truncf .bf16 (matmul dot_S512x1024_S1024x1024_S512x1024_1_0_0_1_n_n none
    (concatenate S512x1024 1 [⟨S512x128, hd r 0 q k v⟩, ⟨S512x128, hd r 1 q k v⟩, ⟨S512x128, hd r 2 q k v⟩,
      ⟨S512x128, hd r 3 q k v⟩, ⟨S512x128, hd r 4 q k v⟩, ⟨S512x128, hd r 5 q k v⟩, ⟨S512x128, hd r 6 q k v⟩,
      ⟨S512x128, hd r 7 q k v⟩]
      concatenates_S512x128_S512x128_S512x128_S512x128_S512x128_S512x128_S512x128_S512x128_S512x1024_d1)
    (shapeCast S1024x1024 wo shapeCasts_S1024x1024_S1024x1024) (constant S512x1024 .f32 0x00000000#32))
    bitsLt_bf16_f32) shapeCasts_S512x1024_S1x512x1024

/-- A block of rows with its leading axis of size one dropped. -/
def flat (x : FVec F S1x1024x1024 .bf16) : FVec F S1024x1024 .bf16 :=
  shapeCast S1024x1024 x shapeCasts_S1x1024x1024_S1024x1024

/-- A block of rows with a leading axis of size one. -/
def lift (x : FVec F S1024x1024 .bf16) : FVec F S1x1024x1024 .bf16 :=
  shapeCast S1x1024x1024 x shapeCasts_S1024x1024_S1x1024x1024

/-- The first two heads of a device's own block, times the first 256 rows of its output weights. -/
def ownA (q k v : FVec F S1024x1024 .bf16) (wo : FVec F S256x1024 .bf16) : FVec F S1x1024x1024 .bf16 :=
  lift (truncf .bf16 (matmul dot_S1024x256_S256x1024_S1024x1024_1_0_0_1_n_n none
    (concatenate S1024x256 1 [⟨S1024x128, hw 0 q k v⟩, ⟨S1024x128, hw 1 q k v⟩]
      concatenates_S1024x128_S1024x128_S1024x256_d1)
    (shapeCast S256x1024 wo shapeCasts_S256x1024_S256x1024) (constant S1024x1024 .f32 0x00000000#32)) bitsLt_bf16_f32)

/-- The other six heads of a device's own block, times the other rows of its output weights. -/
def ownB (q k v : FVec F S1024x1024 .bf16) (wo : FVec F S768x1024 .bf16) : FVec F S1024x1024 .f32 :=
  matmul dot_S1024x768_S768x1024_S1024x1024_1_0_0_1_n_n none
    (concatenate S1024x768 1 [⟨S1024x128, hw 2 q k v⟩, ⟨S1024x128, hw 3 q k v⟩, ⟨S1024x128, hw 4 q k v⟩,
      ⟨S1024x128, hw 5 q k v⟩, ⟨S1024x128, hw 6 q k v⟩, ⟨S1024x128, hw 7 q k v⟩]
      concatenates_S1024x128_S1024x128_S1024x128_S1024x128_S1024x128_S1024x128_S1024x768_d1)
    (shapeCast S768x1024 wo shapeCasts_S768x1024_S768x1024) (constant S1024x1024 .f32 0x00000000#32)

/-- The own partial output and three received ones, added in the order the kernel adds them. -/
def sumF (a : FVec F S1x1024x1024 .bf16) (b : FVec F S1024x1024 .f32) (r0 r1 r2 : FVec F S1x1024x1024 .bf16) :
    FVec F S1x1024x1024 .bf16 :=
  lift (truncf .bf16 (addf (addf (addf (addf (extf .f32 (flat a) bitsLt_bf16_f32) b)
    (extf .f32 (flat r0) bitsLt_bf16_f32)) (extf .f32 (flat r1) bitsLt_bf16_f32))
    (extf .f32 (flat r2) bitsLt_bf16_f32)) bitsLt_bf16_f32)

/-- What one device's kernel is called on: its rows, its stacked projection weights, its output weights and the
    four rotary tables (the query pair scaled). -/
structure Ins (F : FTy → Type) where
  x : FVec F S1x1024x1024 .bf16
  w : FVec F S1024x3072 .bf16
  wo : FVec F S1024x1024 .bf16
  cb : FVec F S1024x1024 .bf16
  sb : FVec F S1024x1024 .bf16
  cq : FVec F S1024x1024 .bf16
  sq : FVec F S1024x1024 .bf16

/-- The rows a device sends: its block, twice reshaped. -/
def xbV (i : Ins F) : FVec F S1024x1024 .bf16 := k0_pay1 i.x

/-- The half-block `r` of the partial output one device forms for rows `x`. -/
def partV (i : Ins F) (x : FVec F S1024x1024 .bf16) (r : Fin 2) : FVec F S1x512x1024 .bf16 :=
  partF r (qF x i.w i.cq i.sq) (kF x i.w i.cb i.sb) (vF x i.w) i.wo

end Cert.KernelIdeal.Talk

end
-- ==== Proof.Proto.lean ====
/-
  The exchange between the four devices, as a schedule of payments on semaphore cells, and the rules the
  kernel's steps follow under it.

  Device `c` tells each of the other three that its landing slots are ready; it then sends its rows to each of
  them, forms for each of them a partial output, and sends that back. Every semaphore cell is paid in one round.
-/
module

public import proofs.«01_k».proof.Proof.Spec
public import proofs.«01_k».proof.Proof.Gen.KernelIdeal.Launch
public import Idealize.ShloMosaic.Lib.Rounds
public import Idealize.ShloMosaic.Lib.Rounds.Family
public import Idealize.ShloMosaic.Lib.Memref
public import Idealize.ShloMosaic.Lib.Tactic

@[expose] public section

set_option maxRecDepth 16384

noncomputable section

namespace Cert.KernelIdeal.Talk

open Idealize.ShloMosaic Idealize.ShloMosaic.TcCoe
open Cert.KernelIdeal Cert.KernelIdeal.Gen
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-! ## The ghost state -/

/-- The pipeline library's component, and the exchange's: a payment is named by the device that makes it. -/
abbrev UU : Type := UR sig nD τ × URounds (GSem nD τ sig) (Dev nD)

local notation "𝕄" => MT nD τ sig Unit (Elt F) ℕ UU ℕ

abbrev EP : Emb (UR sig nD τ) (MT nD τ sig Unit (Elt F) ℕ UU ℕ) := embL
abbrev ER : Emb (URounds (GSem nD τ sig) (Dev nD)) (MT nD τ sig Unit (Elt F) ℕ UU ℕ) := embR

/-! ## Devices and cells -/

/-- The device `k` places after `c` on the ring. -/
def pe (k : ℕ) (c : Dev nD) : Dev nD := ⟨(c.val + k) % 4, Nat.mod_lt _ (by decide)⟩

/-- The DMA semaphore `n` of device `c`. -/
abbrev cell (c : Dev nD) (n : Fin 26) : GSem nD τ sig := ((c : Thread nD τ), SemLoc.dma n)

/-- The barrier semaphore of device `c`. -/
abbrev bar (c : Dev nD) : GSem nD τ sig := ((c : Thread nD τ), SemLoc.reg barrier0)

theorem inb_x (j : Fin 3) : ∀ a, (![j.val, 0, 0] : Fin 3 → Nat) a + S1x1024x1024.size a ≤ S3x1024x1024.size a := by
  revert j; decide
theorem inb_h (j : Fin 3) (h : Fin 2) : ∀ a, (![j.val, 512 * h.val, 0] : Fin 3 → Nat) a + S1x512x1024.size a ≤ S3x1024x1024.size a := by
  revert j h; decide

/-- Block `j` of a buffer of three blocks. -/
abbrev sl (b : Memref sig .tc .vmem S3x1024x1024 .bf16) (j : Fin 3) : Memref sig .tc .vmem S1x1024x1024 .bf16 :=
  b.slice (Rect.unit (s := S3x1024x1024) ![j.val, 0, 0] S1x1024x1024.size (inb_x j)) (fun _ => rfl)

/-- Half `h` of block `j` of a buffer of three blocks. -/
abbrev slh (b : Memref sig .tc .vmem S3x1024x1024 .bf16) (j : Fin 3) (h : Fin 2) : Memref sig .tc .vmem S1x512x1024 .bf16 :=
  b.slice (Rect.unit (s := S3x1024x1024) ![j.val, 512 * h.val, 0] S1x512x1024.size (inb_h j h)) (fun _ => rfl)

abbrev B8 : Memref sig .tc .vmem S1024x1024 .bf16 := Memref.whole cc0_scratch0
abbrev B9 : Memref sig .tc .vmem S3x1024x1024 .bf16 := Memref.whole cc0_scratch1
abbrev B10 : Memref sig .tc .vmem S3x1024x1024 .bf16 := Memref.whole cc0_scratch2
abbrev B11 : Memref sig .tc .vmem S3x1024x1024 .bf16 := Memref.whole cc0_scratch3
abbrev B12 : Memref sig .tc .vmem S3x1024x1024 .bf16 := Memref.whole cc0_scratch4

/-! ## What a device may hold of a buffer -/

/-- Device `d` holds a memref in full, at some contents. -/
def anyOf (d : Dev nD) {sh : Shape} {e : EltTy} (mr : Memref sig .tc .vmem sh e) : sProp 𝕄 :=
  iprop(∃ f, mr.view.loc (d : Thread nD τ) ↦[mr.view.set]{fullShare} f)

theorem anyOf_owns (d : Dev nD) {sh : Shape} {e : EltTy} (mr : Memref sig .tc .vmem sh e) (X : sh.Idx → Elt F e) :
    (ownsTc d mr fullShare X : sProp 𝕄) ⊢ anyOf d mr := by
  unfold anyOf ownsTc owns
  iintro ⟨%f, -, H⟩; iexists f; iexact H

instance anyOf_storable (d : Dev nD) {sh : Shape} {e : EltTy} (mr : Memref sig .tc .vmem sh e) :
    BI.Storable (upEmb : UEmb _ 𝕄) (anyOf (F := F) d mr) := by
  unfold anyOf; infer_instance

/-- The rows a half of a partial output is sent as, with its leading axis of size one dropped. -/
def flatH (x : FVec F S1x512x1024 .bf16) : FVec F S512x1024 .bf16 :=
  shapeCast S512x1024 x (by decide)

/-! ## The schedule -/

/-- The other device of semaphore `n` of device `d`: who pays into it. -/
def payer (d : Dev nD) (n : Fin 26) : Dev nD :=
  if n.val < 11 then d else if n.val < 14 then pe (n.val - 11 + 1) d else if n.val < 20 then d
    else pe ((n.val - 20) / 2 + 1) d

/-- The units of one transfer of a block, and of one of half a block. -/
abbrev nx : ℕ := B8.view.dmaCredit
abbrev np : ℕ := ((slh B11 0 0).squeeze S512x1024 squeezes_S1x512x1024_S512x1024).view.dmaCredit

theorem nx_pos : 0 < nx := View.dmaCredit_pos _ (by decide)
theorem np_pos : 0 < np := View.dmaCredit_pos _ (by decide)

def amtN (n : Fin 26) : ℕ := if n.val < 14 then nx else np
theorem amtN_pos (n : Fin 26) : 0 < amtN n := by unfold amtN; split; exact nx_pos; exact np_pos

/-- The four shares of the block of rows a device sends: one for each of the three copies, one to read by. -/
abbrev sh1 : PosShare TreeShare := fullShare.left.left
abbrev sh2 : PosShare TreeShare := fullShare.left.right
abbrev sh3 : PosShare TreeShare := fullShare.right.left
abbrev sh4 : PosShare TreeShare := fullShare.right.right

variable (I : Dev nD → Ins F)

/-- What device `p` gives with its signal to the device that pays block `j` of its landing buffers. -/
def give (p : Dev nD) (j : Fin 3) (nx' n0 n1 : Fin 26) : sProp 𝕄 :=
  iprop(anyOf p (sl B10 j) ∗ anyOf p (slh B12 j 0) ∗ anyOf p (slh B12 j 1)
    ∗ reached ER (cell p nx') 0 ∗ reached ER (cell p n0) 0 ∗ reached ER (cell p n1) 0)

/-- Device `p`'s signal to device `t`. -/
def barPay (t p : Dev nD) : sProp 𝕄 :=
  if p = pe 1 t then give p 2 13 24 25 else if p = pe 2 t then give p 1 12 22 23 else give p 0 11 20 21

/-- A block of rows landed in slot `j` of device `d`. -/
def xgot (d : Dev nD) (j : Fin 3) : sProp 𝕄 := ownsTc d (sl B10 j) fullShare (lift (xbV (I (pe (j.val + 1) d))))

/-- Half `h` of a partial output landed in slot `j` of device `d`. -/
def pgot (d : Dev nD) (j : Fin 3) (h : Fin 2) : sProp 𝕄 :=
  ownsTc d (slh B12 j h) fullShare (partV (I (pe (j.val + 1) d)) (xbV (I d)) h)

/-- What completes with each DMA semaphore of device `d`. -/
def dmaPay (d : Dev nD) (n : Fin 26) : sProp 𝕄 :=
  match n.val with
  | 8 => ownsTc d B8 sh1 (xbV (I d))
  | 9 => ownsTc d B8 sh2 (xbV (I d))
  | 10 => ownsTc d B8 sh3 (xbV (I d))
  | 11 => xgot I d 0
  | 12 => xgot I d 1
  | 13 => xgot I d 2
  | 14 => anyOf d (slh B11 0 0)
  | 15 => anyOf d (slh B11 0 1)
  | 16 => anyOf d (slh B11 1 0)
  | 17 => anyOf d (slh B11 1 1)
  | 18 => anyOf d (slh B11 2 0)
  | 19 => anyOf d (slh B11 2 1)
  | 20 => pgot I d 0 0
  | 21 => pgot I d 0 1
  | 22 => pgot I d 1 0
  | 23 => pgot I d 1 1
  | 24 => pgot I d 2 0
  | 25 => pgot I d 2 1
  | _ => iprop(emp)

/-- The exchange: round 0 alone; a barrier is paid by the other three devices, a DMA cell by one. -/
def Rd : Rounds.Schedule (GSem nD τ sig) (Dev nD) 𝕄 where
  duties g r := if r = 0 ∧ g.1.2 = .tc then
      (match g.2 with
        | .reg _ => Finset.univ.erase g.1.1
        | .dma n => if 8 ≤ n.val then {payer g.1.1 n} else ∅)
    else ∅
  unitless _ := False
  amount g _ _ := match g.2 with | .reg _ => 1 | .dma n => amtN n
  payload g _ p := match g.2 with | .reg _ => barPay g.1.1 p | .dma n => dmaPay I g.1.1 n
  amount_pos g _ _ _ := by
    rcases g with ⟨_, _ | n⟩
    · exact Nat.one_pos
    · exact amtN_pos n

instance Rd_storable (g : GSem nD τ sig) (r : ℕ) (d : Dev nD) :
    BI.Storable (upEmb : UEmb _ 𝕄) ((Rd I).payload g r d) := by
  rcases g with ⟨t, _ | n⟩
  · show BI.Storable upEmb (barPay t.1 d)
    unfold barPay give
    (repeat' split) <;> infer_instance
  · show BI.Storable upEmb (dmaPay I t.1 n)
    unfold dmaPay xgot pgot
    split <;> infer_instance

theorem duties_bar (c : Dev nD) : (Rd I).duties (bar c) 0 = Finset.univ.erase c := by
  dsimp only [Rd]; exact if_pos ⟨rfl, rfl⟩
theorem duties_dma (c : Dev nD) (n : Fin 26) (h : 8 ≤ n.val) : (Rd I).duties (cell c n) 0 = {payer c n} := by
  dsimp only [Rd]; rw [if_pos ⟨rfl, rfl⟩, if_pos h]
theorem duties_later (g : GSem nD τ sig) : ∀ r, 1 ≤ r → (Rd I).duties g r = ∅ :=
  fun r hr => by dsimp only [Rd]; rw [if_neg (fun h => by omega)]
theorem expect_bar (c : Dev nD) : (Rd I).expect (bar c) 0 = 3 := by
  unfold Schedule.expect Schedule.amountOf
  rw [duties_bar]
  show (∑ _p ∈ Finset.univ.erase c, 1) = 3
  rw [Finset.sum_const, smul_eq_mul, mul_one]; revert c; decide
theorem expect_dma (c : Dev nD) (n : Fin 26) (h : 8 ≤ n.val) : (Rd I).expect (cell c n) 0 = amtN n := by
  unfold Schedule.expect Schedule.amountOf
  rw [duties_dma I c n h, Finset.sum_singleton]; rfl
theorem rest_dma (c : Dev nD) (n : Fin 26) (h : 8 ≤ n.val) :
    bigSep ((Rd I).duties (cell c n) 0 \ ∅) (fun u => (Rd I).payload (cell c n) 0 u) = dmaPay I c n := by
  rw [Finset.sdiff_empty, duties_dma I c n h, bigSep_singleton]; rfl

theorem erase_eq (c : Dev nD) : Finset.univ.erase c = {pe 1 c, pe 2 c, pe 3 c} := by revert c; decide
theorem pe12 (c : Dev nD) : pe 1 c ≠ pe 2 c := by revert c; decide
theorem pe13 (c : Dev nD) : pe 1 c ≠ pe 3 c := by revert c; decide
theorem pe23 (c : Dev nD) : pe 2 c ≠ pe 3 c := by revert c; decide
theorem pe1_ne (c : Dev nD) : pe 1 c ≠ c := by revert c; decide
theorem pe2_ne (c : Dev nD) : pe 2 c ≠ c := by revert c; decide
theorem pe3_ne (c : Dev nD) : pe 3 c ≠ c := by revert c; decide

theorem barPay1 (c : Dev nD) : (barPay c (pe 1 c) : sProp 𝕄) = give (pe 1 c) 2 13 24 25 := by
  unfold barPay; rw [if_pos rfl]
theorem barPay2 (c : Dev nD) : (barPay c (pe 2 c) : sProp 𝕄) = give (pe 2 c) 1 12 22 23 := by
  unfold barPay; rw [if_neg (pe12 c).symm, if_pos rfl]
theorem barPay3 (c : Dev nD) : (barPay c (pe 3 c) : sProp 𝕄) = give (pe 3 c) 0 11 20 21 := by
  unfold barPay; rw [if_neg (pe13 c).symm, if_neg (pe23 c).symm]
theorem barPay_to1 (c : Dev nD) : (barPay (pe 1 c) c : sProp 𝕄) = give c 0 11 20 21 := by
  unfold barPay; rw [if_neg (by revert c; decide), if_neg (by revert c; decide)]
theorem barPay_to2 (c : Dev nD) : (barPay (pe 2 c) c : sProp 𝕄) = give c 1 12 22 23 := by
  unfold barPay; rw [if_neg (by revert c; decide), if_pos (by revert c; decide)]
theorem barPay_to3 (c : Dev nD) : (barPay (pe 3 c) c : sProp 𝕄) = give c 2 13 24 25 := by
  unfold barPay; rw [if_pos (by revert c; decide)]

theorem rest_bar (c : Dev nD) :
    bigSep ((Rd I).duties (bar c) 0 \ ∅) (fun u => (Rd I).payload (bar c) 0 u)
      = (iprop(give (pe 1 c) 2 13 24 25 ∗ give (pe 2 c) 1 12 22 23 ∗ give (pe 3 c) 0 11 20 21) : sProp 𝕄) := by
  rw [Finset.sdiff_empty, duties_bar, erase_eq, ← barPay1, ← barPay2, ← barPay3]
  rw [bigSep_insert (by simp only [Finset.mem_insert, Finset.mem_singleton, not_or]; exact ⟨pe12 c, pe13 c⟩),
    bigSep_insert (by simp only [Finset.mem_singleton]; exact pe23 c), bigSep_singleton]
  rfl

/-! ## What a device owes, and when it may wait -/

/-- What one payment into a cell comes to. -/
def amtG (g : GSem nD τ sig) : ℕ := match g.2 with | .reg _ => 1 | .dma n => amtN n

/-- One payment owed into each cell of a list. -/
def oweL : List (GSem nD τ sig) → CellTallies nD τ sig Unit
  | [] => 0
  | g :: l => oweL l + tallyAt g () (amtG g)

/-- The payments device `c` makes into other devices' cells, in the order it makes them. -/
def due (c : Dev nD) : List (GSem nD τ sig) :=
  [bar (pe 1 c), bar (pe 2 c), bar (pe 3 c), cell (pe 1 c) 13, cell (pe 3 c) 11, cell (pe 2 c) 12,
    cell (pe 1 c) 24, cell (pe 1 c) 25, cell (pe 2 c) 22, cell (pe 2 c) 23, cell (pe 3 c) 20, cell (pe 3 c) 21]

def L (g : GSem nD τ sig) : Finset Unit := if g.1.2 = .tc then {()} else ∅

/-- Barriers below the cells blocks of rows land by, those below the cells partial outputs land by. -/
def lv (g : GSem nD τ sig) (_ : Unit) : ℕ :=
  match g.2 with
  | .reg _ => 1
  | .dma n => if n.val < 11 then 0 else if n.val < 14 then 2 else if n.val < 20 then 0 else 3

theorem L_of_ne (g : GSem nD τ sig) (h : g.1.2 ≠ .tc) : L g = ∅ := if_neg h
theorem L_tc (c : Dev nD) (sm : SemLoc sig) : L ((c : Thread nD τ), sm) = {()} := if_pos rfl

theorem oweL_pos {l : List (GSem nD τ sig)} {g : GSem nD τ sig} {u : Unit} (h : 0 < oweL l g u) : g ∈ l := by
  induction l with
  | nil => exact absurd h (Nat.lt_irrefl 0)
  | cons a l ih =>
    unfold oweL at h
    rw [Pi.add_apply, Finsupp.add_apply] at h
    rcases Nat.add_pos_iff_pos_or_pos.mp h with h | h
    · exact List.mem_cons_of_mem _ (ih h)
    · rw [tallyAt_apply] at h
      split at h
      · next hg => rw [hg.1]; exact List.mem_cons_self
      · exact absurd h (Nat.lt_irrefl 0)

/-- A device may wait on a cell that lies below every cell it still owes a payment into. -/
theorem mayWait (c : Dev nD) (sm : SemLoc sig) (l : List (GSem nD τ sig))
    (hl : ∀ g ∈ l, g.1.2 = .tc ∧ lv ((c : Thread nD τ), sm) () < lv g ()) :
    (levAts L lv : sProp 𝕄) ⊢ MayWait (c : Thread nD τ) sm () (oweL l) :=
  MayOwe.of_cut (L := L) (lev := lv) (lv ((c : Thread nD τ), sm) ())
    (fun p hp => by rw [Finset.mem_singleton.mp hp, L_tc]; exact Finset.mem_singleton_self _)
    (fun g u hg => by rw [show L g = {()} from if_pos (hl g (oweL_pos hg)).1]; exact Finset.mem_singleton_self _)
    (fun p hp => by rw [Finset.mem_singleton.mp hp])
    (fun g u hg => (hl g (oweL_pos hg)).2)

/-- Device `c` owes what is left of its list after the first `k` payments. -/
def owesD (c : Dev nD) (k : ℕ) : sProp 𝕄 := iprop(∃ W, owes (c : Thread nD τ) (oweL ((due c).drop k)) W)

/-! ## The persistent part -/

/-- Every cell's invariant, at the names `K`. -/
def invs (K : GSem nD τ sig → ℕ) : sProp 𝕄 :=
  iprop(bigSep Finset.univ (fun c : Dev nD => cellInv ER (Rd I) (K (bar c)) (bar c))
    ∗ bigSep Finset.univ (fun c : Dev nD => bigSep (Finset.univ.filter fun n : Fin 26 => 8 ≤ n.val)
        (fun n => cellInv ER (Rd I) (K (cell c n)) (cell c n))))

instance invs_persistent (K : GSem nD τ sig → ℕ) : BI.Persistent (invs I K) := by unfold invs; infer_instance

/-- What every step may use: the cells' invariants and the levels. -/
def env (K : GSem nD τ sig → ℕ) : sProp 𝕄 := iprop(invs I K ∗ levAts L lv)

instance env_persistent (K : GSem nD τ sig → ℕ) : BI.Persistent (env I K) := by unfold env; infer_instance

theorem env_bar (K : GSem nD τ sig → ℕ) (c : Dev nD) : env I K ⊢ cellInv ER (Rd I) (K (bar c)) (bar c) := by
  unfold env invs
  have h : bigSep Finset.univ (fun c : Dev nD => cellInv ER (Rd I) (K (bar c)) (bar c))
      ⊢ cellInv ER (Rd I) (K (bar c)) (bar c) := bigSep_elim (Finset.mem_univ c)
  iintro ⟨⟨H, -⟩, -⟩
  iapply h; iexact H
theorem env_dma (K : GSem nD τ sig → ℕ) (c : Dev nD) (n : Fin 26) (h : 8 ≤ n.val) :
    env I K ⊢ cellInv ER (Rd I) (K (cell c n)) (cell c n) := by
  unfold env invs
  have h' : bigSep Finset.univ (fun c : Dev nD => bigSep (Finset.univ.filter fun n : Fin 26 => 8 ≤ n.val)
        (fun n => cellInv ER (Rd I) (K (cell c n)) (cell c n)))
      ⊢ cellInv ER (Rd I) (K (cell c n)) (cell c n) :=
    (bigSep_elim (Finset.mem_univ c)).trans (bigSep_elim (Finset.mem_filter.mpr ⟨Finset.mem_univ n, h⟩))
  iintro ⟨⟨-, H⟩, -⟩
  iapply h'; iexact H
theorem env_lev (K : GSem nD τ sig → ℕ) : env I K ⊢ levAts L lv := by
  unfold env; iintro ⟨-, H⟩; iexact H

end Cert.KernelIdeal.Talk

end
-- ==== Proof.Steps.lean ====
/-
  The rules the kernel's steps follow: a load and a store of a buffer held at known contents, a signal, the
  barrier wait, a wait for a transfer, and a copy into another device's landing buffer.
-/
module

public import proofs.«01_k».proof.Proof.Proto

@[expose] public section

set_option maxRecDepth 16384

noncomputable section

namespace Cert.KernelIdeal.Talk

open Idealize.ShloMosaic Idealize.ShloMosaic.TcCoe
open Cert.KernelIdeal Cert.KernelIdeal.Gen
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

abbrev 𝒱₀ : Variants := Variants.none

/-- Device `c`'s program `p` runs to its end and leaves `Q`. -/
abbrev WP (c : Dev nD) (p : Prog (TpuEff nD τ sig (Elt F) Λ₀ .tc) PUnit) (Q : PUnit → sProp 𝕄) : sProp 𝕄 :=
  wp frame (wpE (defs₀ (F := F)) 𝒱₀ (c : Thread nD τ) none) Set.univ p Q

/-- A counter's position and the credit to wait on it with. -/
def sw (c : Dev nD) (n : Fin 26) : sProp 𝕄 :=
  iprop(atPos ER (cell c n) 0 ∅ 0 ∗ cred (tallyAt (cell c n) () (amtN n)))

/-- A send counter before its copy starts. -/
def sc (c : Dev nD) (n : Fin 26) : sProp 𝕄 :=
  iprop(atPos ER (cell c n) 0 ∅ 0 ∗ reached ER (cell c n) 0 ∗ dutyTok ER (cell c n) 0 c)

section Memory

variable (c : Dev nD) {sh : Shape} {e : EltTy}

/-- A load of a rectangle of a memref held at `X` yields `X` on the rectangle. -/
theorem ld (Q : PUnit → sProp 𝕄) (mr : Memref sig .tc .vmem sh e) (r : Rect sh) {hl : mr.view.LoadsAt r.toLoadRect} (q : PosShare TreeShare)
    (X : sh.Idx → Elt F e) (k : (r.shape.Idx → Elt F e) → Prog (TpuEff nD τ sig (Elt F) Λ₀ .tc) PUnit) :
    (ownsTc c mr q X : sProp 𝕄)
      ⊢ iprop((ownsTc c mr q X -∗ WP c (k fun j => X (r.emb j)) Q) -∗ WP c (.op (.load mr r.toLoadRect hl) k) Q) := by
  unfold ownsTc owns
  iintro ⟨%f, %hf, H⟩ Hk
  subst hf
  iapply (wp_load_rect 𝒱₀ (c : Thread nD τ) none Set.univ (r := r) (mr.view.set_slice_subset r)) $$ H
  iintro H
  iapply Hk
  iexists f
  isplitr; · ipureintro; rfl
  iexact H

/-- A load of the rectangle a slice is of, the slice held at `X`, yields `X`. -/
theorem ld_slice (Q : PUnit → sProp 𝕄) (mr : Memref sig .tc .vmem sh e) (r : Rect sh) (hr : ∀ a, r.stride a = 1)
    {hl : mr.view.LoadsAt r.toLoadRect} (q : PosShare TreeShare)
    (X : r.shape.Idx → Elt F e) (k : (r.shape.Idx → Elt F e) → Prog (TpuEff nD τ sig (Elt F) Λ₀ .tc) PUnit) :
    (ownsTc c (mr.slice r hr) q X : sProp 𝕄)
      ⊢ iprop((ownsTc c (mr.slice r hr) q X -∗ WP c (k X) Q) -∗ WP c (.op (.load mr r.toLoadRect hl) k) Q) := by
  unfold ownsTc owns
  iintro ⟨%f, %hf, H⟩ Hk
  subst hf
  iapply (wp_load_rect 𝒱₀ (c : Thread nD τ) none Set.univ (r := r) (Finset.Subset.refl _)) $$ H
  iintro H
  iapply Hk
  iexists f
  isplitr; · ipureintro; rfl
  iexact H

/-- A load of a slice held at contents not known: the continuation runs whatever is read. -/
theorem ld_any (Q : PUnit → sProp 𝕄) (mr : Memref sig .tc .vmem sh e) (r : Rect sh) (hr : ∀ a, r.stride a = 1)
    {hl : mr.view.LoadsAt r.toLoadRect} (k : (r.shape.Idx → Elt F e) → Prog (TpuEff nD τ sig (Elt F) Λ₀ .tc) PUnit) :
    (anyOf c (mr.slice r hr) : sProp 𝕄)
      ⊢ iprop((∀ X, anyOf c (mr.slice r hr) -∗ WP c (k X) Q) -∗ WP c (.op (.load mr r.toLoadRect hl) k) Q) := by
  unfold anyOf
  iintro ⟨%f, H⟩ Hk
  iapply (wp_load_rect 𝒱₀ (c : Thread nD τ) none Set.univ (r := r) (Finset.Subset.refl _)) $$ H
  iintro H
  iapply Hk
  iexists f
  iexact H

/-- A store over the whole of a slice leaves the slice at what was stored. -/
theorem st_any (Q : PUnit → sProp 𝕄) (mr : Memref sig .tc .vmem sh e) (r : Rect sh) (hr : ∀ a, r.stride a = 1) (w : r.shape.Idx → Elt F e)
    {hx : (mr.access r).Stores Finset.univ} {hm : (Finset.univ : Finset r.shape.Idx) = Finset.univ ∨ ∀ a, r.stride a = 1}
    (k : PUnit → Prog (TpuEff nD τ sig (Elt F) Λ₀ .tc) PUnit) :
    (anyOf c (mr.slice r hr) : sProp 𝕄)
      ⊢ iprop((ownsTc c (mr.slice r hr) fullShare w -∗ WP c (k ⟨⟩) Q) -∗ WP c (.op (.store mr r w Finset.univ hx hm) k) Q) := by
  unfold anyOf ownsTc owns
  iintro ⟨%f, H⟩ Hk
  iapply (wp_store 𝒱₀ (c : Thread nD τ) none Set.univ (r := r) (View.setOn_subset_set _ _)) $$ H
  iintro H
  iapply Hk
  iexists _
  isplitr; · ipureintro; exact View.read_write_univ (v := mr.view.slice r) f w
  iexact H

end Memory

/-! ## Signals, waits and copies -/

section Talk

variable (I : Dev nD → Ins F) (K : GSem nD τ sig → ℕ) (c : Dev nD)

/-- A signal to device `t` hands over what device `c` gives it. -/
theorem sig_step (Q : PUnit → sProp 𝕄) (t : Dev nD) (k : ℕ) (ht : t ≠ c)
    (hd : (due c).drop k = bar t :: (due c).drop (k + 1))
    (kt : PUnit → Prog (TpuEff nD τ sig (Elt F) Λ₀ .tc) PUnit) :
    iprop(env I K ∗ owesD c k ∗ dutyTok ER (bar t) 0 c ∗ reached ER (bar t) 0 ∗ barPay t c)
      ⊢ iprop((owesD c (k + 1) -∗ WP c (kt ⟨⟩) Q) -∗ WP c (.op (.semSignal (t : Thread nD τ) barrier0 1) kt) Q) := by
  unfold owesD
  iintro ⟨#He, ⟨%W, HO⟩, Ht, #Hr, Hp⟩ Hk
  ihave #HI := (env_bar I K t) $$ He
  have hO : oweL ((due c).drop k) = oweL ((due c).drop (k + 1)) + tallyAt (bar t) () 1 := by rw [hd]; rfl
  have hp : (Rd I).payload (bar t) 0 c = barPay t c := rfl
  iapply (Rounds.wp_signal 𝒱₀ ER (Rd I) (c : Thread nD τ) none (dst := (t : Thread nD τ)) (sem := barrier0) (r := 0) (d := c)
      (κ := K (bar t)) (by rw [duties_bar]; exact Finset.mem_erase.mpr ⟨ht.symm, Finset.mem_univ _⟩) rfl ()
      (oweL ((due c).drop (k + 1))) hO) $$ [HO Ht Hp]
  · isplitr; · iexact HI
    isplitl [HO]; · iexact HO
    isplitl [Ht]; · iexact Ht
    isplitl [Hp]; · rw [hp]; iexact Hp
    iexact Hr
  iintro HO
  iapply Hk
  iexists W; iexact HO

/-- A cell whose one round is over is closed: its counter reads zero. -/
theorem close (κ : ℕ) (g : GSem nD τ sig) :
    iprop(cellInv ER (Rd I) κ g ∗ atPos ER g (0 + 1) ∅ 0) ⊢ (|={Set.univ}=> semVal g 0 : sProp 𝕄) :=
  Rounds.cell_close ER (Rd I) (Set.mem_univ κ) id (duties_later I g)

/-- The barrier wait: the other three devices have signalled, and what they gave is in hand. -/
theorem bar_step (Q : PUnit → sProp 𝕄) (k : ℕ)
    (hl : ∀ g ∈ (due c).drop k, g.1.2 = .tc ∧ lv (bar c) () < lv g ())
    (kt : PUnit → Prog (TpuEff nD τ sig (Elt F) Λ₀ .tc) PUnit) :
    iprop(env I K ∗ owesD c k ∗ atPos ER (bar c) 0 ∅ 0 ∗ cred (tallyAt (bar c) () 3))
      ⊢ iprop((iprop(owesD c k ∗ semVal (bar c) 0 ∗ give (pe 1 c) 2 13 24 25 ∗ give (pe 2 c) 1 12 22 23
          ∗ give (pe 3 c) 0 11 20 21) -∗ WP c (kt ⟨⟩) Q)
        -∗ WP c (.op (.semWait barrier0 3) kt) Q) := by
  unfold owesD
  iintro ⟨#He, ⟨%W, HO⟩, Hat, Hc⟩ Hk
  ihave #HI := (env_bar I K c) $$ He
  iapply (Rounds.wp_wait_rest_token 𝒱₀ ER (Rd I) (c : Thread nD τ) none (κ := K (bar c))
      (wpE_semWait_eq 𝒱₀ (c : Thread nD τ) none Set.univ) (Set.mem_univ _) () (O := oweL ((due c).drop k)) (W := W) (R := 0) (m := 0) (T := ∅)
      ((Nat.zero_add 3).trans (expect_bar I c).symm)) $$ [Hc HO Hat]
  · isplitr; · iexact HI
    isplitl [Hc]; · iexact Hc
    isplitl [HO]; · iexact HO
    isplitr
    · iapply (mayWait c _ _ hl); iapply (env_lev I K); iexact He
    iexact Hat
  iintro ⟨HO, Hat, -, Hpay⟩
  ihave Hp := (Entails.of_eq (rest_bar I c)) $$ Hpay
  imod (close I (K (bar c)) (bar c)) $$ [Hat] with Hb
  · isplitr; · iexact HI
    iexact Hat
  iapply Hk
  isplitl [HO]; · iexists _; iexact HO
  isplitl [Hb]; · iexact Hb
  iexact Hp

/-- A wait for a transfer: its counter is closed, and what the transfer left is in hand. -/
theorem dma_step (Q : PUnit → sProp 𝕄) (n : Fin 26) (k : ℕ) (h8 : 8 ≤ n.val)
    (hl : ∀ g ∈ (due c).drop k, g.1.2 = .tc ∧ lv (cell c n) () < lv g ())
    {sp sp' : Space} {s s' : Shape} {e e' : EltTy}
    (src : Memref sig .tc sp s e) (dst : Memref sig .tc sp' s' e')
    {hs : src.view.WordExact} {hd : dst.view.WordExact}
    (hN : dst.view.dmaCredit = amtN n)
    (kt : PUnit → Prog (TpuEff nD τ sig (Elt F) Λ₀ .tc) PUnit) :
    iprop(env I K ∗ owesD c k ∗ sw c n)
      ⊢ iprop((iprop(owesD c k ∗ semVal (cell c n) 0 ∗ dmaPay I c n) -∗ WP c (kt ⟨⟩) Q)
        -∗ WP c (.op (.waitDma2 n src dst hs hd) kt) Q) := by
  unfold owesD sw
  iintro ⟨#He, ⟨%W, HO⟩, Hat, Hc⟩ Hk
  ihave #HI := (env_dma I K c n h8) $$ He
  iapply (Rounds.wp_wait_rest_token 𝒱₀ ER (Rd I) (c : Thread nD τ) none (κ := K (cell c n))
      (wpE_waitDma2_eq (src := src) (dst := dst) 𝒱₀ (c : Thread nD τ) none Set.univ) (Set.mem_univ _) () (O := oweL ((due c).drop k)) (W := W) (R := 0) (m := 0) (T := ∅)
      (by rw [Nat.zero_add, hN]; exact (expect_dma I c n h8).symm)) $$ [Hc HO Hat]
  · isplitr; · iexact HI
    isplitl [Hc]; · rw [hN]; iexact Hc
    isplitl [HO]; · iexact HO
    isplitr
    · iapply (mayWait c _ _ hl); iapply (env_lev I K); iexact He
    iexact Hat
  iintro ⟨HO, Hat, -, Hpay⟩
  ihave Hp := (Entails.of_eq (rest_dma I c n h8)) $$ Hpay
  imod (close I (K (cell c n)) (cell c n)) $$ [Hat] with Hb
  · isplitr; · iexact HI
    iexact Hat
  iapply Hk
  isplitl [HO]; · iexists _; iexact HO
  isplitl [Hb]; · iexact Hb
  iexact Hp

/-- A copy into device `t`: the source goes into the send cell's payload, the landing buffer, rewritten, into the
    receive cell's. -/
theorem send_step (Q : PUnit → sProp 𝕄) (t : Dev nD) (nS nR : Fin 26) (k : ℕ) (hS : 8 ≤ nS.val ∧ (payer c nS = c)) (hR : 8 ≤ nR.val ∧ payer t nR = c)
    (hd : (due c).drop k = cell t nR :: (due c).drop (k + 1))
    {s : Shape} {e : EltTy} (src dst : Memref sig .tc .vmem s e)
    {hws : src.view.WordExact} {hwd : dst.view.WordExact} {hh}
    (hN : dst.view.dmaCredit = amtN nR) (hSR : amtN nS = amtN nR) (q : PosShare TreeShare) (X : s.Idx → Elt F e)
    (pay₁ : (ownsTc c src q X : sProp 𝕄) ⊢ dmaPay I c nS)
    (pay₂ : (ownsTc t dst fullShare X : sProp 𝕄) ⊢ dmaPay I t nR)
    (kt : PUnit → Prog (TpuEff nD τ sig (Elt F) Λ₀ .tc) PUnit) :
    iprop(env I K ∗ owesD c k ∗ sc c nS ∗ dutyTok ER (cell t nR) 0 c ∗ reached ER (cell t nR) 0
        ∗ ownsTc c src q X ∗ anyOf t dst)
      ⊢ iprop((iprop(owesD c (k + 1) ∗ sw c nS) -∗ WP c (kt ⟨⟩) Q)
        -∗ WP c (.op (.enqueueDma src (.remote (Dev.tc t) dst (.dma nS)) (.dma nR) hws hwd hh) kt) Q) := by
  unfold owesD sw sc
  iintro ⟨#He, ⟨%W, HO⟩, ⟨Hat, #HrS, HtS⟩, HtR, #HrR, Hs, Hd⟩ Hk
  ihave #HI₁ := (env_dma I K c nS hS.1) $$ He
  ihave #HI₂ := (env_dma I K t nR hR.1) $$ He
  have hO : oweL ((due c).drop k) = oweL ((due c).drop (k + 1)) + tallyAt (cell t nR) () (amtN nR) := by rw [hd]; rfl
  have hs : (ownsTc c src q X : sProp 𝕄) ⊢ iprop(∃ f, ⌜src.view.read (Elt F) f = X⌝ ∗ (src.view.loc (c : Thread nD τ) ↦[src.view.set]{q} f)) := .rfl
  ihave Hs := hs $$ Hs
  unfold anyOf
  icases Hs with ⟨%fs, %hfs, Hs⟩
  icases Hd with ⟨%fd, Hd⟩
  iapply (Rounds.wp_send_pointsTo 𝒱₀ ER (Rd I) (c : Thread nD τ) none (c' := (t : Thread nD τ)) (src := src) (dst := dst)
      (sS := .dma nS) (sem := .dma nR) (q := q) (fs := fs) (κ₁ := K (cell c nS)) (κ₂ := K (cell t nR))
      (r₁ := 0) (r₂ := 0) (d₁ := c) (d₂ := c) (fd := fd)
      (by rw [duties_dma I c nS hS.1, hS.2]; exact Finset.mem_singleton_self _)
      (by rw [duties_dma I t nR hR.1, hR.2]; exact Finset.mem_singleton_self _)
      () () (amtN nR) hN hSR rfl (oweL ((due c).drop (k + 1))) hO (W := W)
      (by
        refine BIBase.Entails.trans ?_ pay₁
        rw [← hfs]; exact owns_intro _ _ _ _)
      (by
        refine BIBase.Entails.trans ?_ pay₂
        rw [← hfs]
        refine (owns_intro (t : Thread nD τ) dst fullShare _).trans (Entails.of_eq ?_)
        rw [View.read_write_univ])) $$ [Hs Hd HO HtS HtR]
  · isplitr; · iexact HI₁
    isplitr; · iexact HI₂
    isplitl [Hs]; · iexact Hs
    isplitl [Hd]; · iexact Hd
    isplitl [HO]; · iexact HO
    isplitl [HtS]; · iexact HtS
    isplitr; · iexact HrS
    isplitl [HtR]; · iexact HtR
    iexact HrR
  iintro ⟨HcS, HO⟩
  iapply Hk
  isplitl [HO]; · iexists W; iexact HO
  isplitl [Hat]; · iexact Hat
  rw [hSR]
  iexact HcS

end Talk

end Cert.KernelIdeal.Talk

end
-- ==== Proof.Slices.lean ====
/-
  How a buffer of three blocks is cut into its blocks, a block into its halves, and how they are put together
  again; what a block holds whose halves hold given rows.
-/
module

public import proofs.«01_k».proof.Proof.Steps
public import Idealize.ShloMosaic.Lib.Pipeline.Value

@[expose] public section

set_option maxRecDepth 16384

noncomputable section

namespace Cert.KernelIdeal.Talk

open Idealize.ShloMosaic Idealize.ShloMosaic.TcCoe
open Cert.KernelIdeal Cert.KernelIdeal.Gen
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-! ## Sets of elements -/

theorem rect_split (j : Fin 3) :
    (Rect.unit (s := S3x1024x1024) ![j.val, 0, 0] S1x1024x1024.size (inb_x j)).set
      = (Rect.unit (s := S3x1024x1024) ![j.val, 512 * (0 : Fin 2).val, 0] S1x512x1024.size (inb_h j 0)).set
        ∪ (Rect.unit (s := S3x1024x1024) ![j.val, 512 * (1 : Fin 2).val, 0] S1x512x1024.size (inb_h j 1)).set := by
  ext i
  simp only [Finset.mem_union, Rect.mem_set_unit, Fin.forall_fin_succ]
  have h1 : (i 1).val < 1024 := (i 1).isLt
  have h2 : (i 2).val < 1024 := (i 2).isLt
  simp [S1x1024x1024, S1x512x1024]
  omega

theorem rect_disj (j : Fin 3) :
    Disjoint (Rect.unit (s := S3x1024x1024) ![j.val, 512 * (0 : Fin 2).val, 0] S1x512x1024.size (inb_h j 0)).set
      (Rect.unit (s := S3x1024x1024) ![j.val, 512 * (1 : Fin 2).val, 0] S1x512x1024.size (inb_h j 1)).set := by
  rw [Finset.disjoint_left]
  intro i h0 h1
  rw [Rect.mem_set_unit] at h0 h1
  have a := (h0 1).2
  have b := (h1 1).1
  simp [S1x512x1024] at a b
  omega

theorem rect_disj3 (j j' : Fin 3) (h : j ≠ j') :
    Disjoint (Rect.unit (s := S3x1024x1024) ![j.val, 0, 0] S1x1024x1024.size (inb_x j)).set
      (Rect.unit (s := S3x1024x1024) ![j'.val, 0, 0] S1x1024x1024.size (inb_x j')).set := by
  rw [Finset.disjoint_left]
  intro i h0 h1
  rw [Rect.mem_set_unit] at h0 h1
  have a := h0 0
  have b := h1 0
  simp [S1x1024x1024] at a b
  exact h (Fin.ext (by omega))

theorem rect_cover :
    (Finset.univ : Finset S3x1024x1024.Idx)
      = (Rect.unit (s := S3x1024x1024) ![(0 : Fin 3).val, 0, 0] S1x1024x1024.size (inb_x 0)).set
        ∪ ((Rect.unit (s := S3x1024x1024) ![(1 : Fin 3).val, 0, 0] S1x1024x1024.size (inb_x 1)).set
        ∪ (Rect.unit (s := S3x1024x1024) ![(2 : Fin 3).val, 0, 0] S1x1024x1024.size (inb_x 2)).set) := by
  ext i
  simp only [Finset.mem_univ, Finset.mem_union, Rect.mem_set_unit, true_iff, Fin.forall_fin_succ]
  have h0 : (i 0).val < 3 := (i 0).isLt
  have h1 : (i 1).val < 1024 := (i 1).isLt
  have h2 : (i 2).val < 1024 := (i 2).isLt
  simp [S1x1024x1024]
  omega

/-! ## Cutting and joining -/

section Gen

variable (c : Dev nD) {s : Shape} {e : EltTy} (b : Memref sig .tc .vmem s e) (r r0 r1 : Rect s)
  (h : ∀ a, r.stride a = 1) (h0 : ∀ a, r0.stride a = 1) (h1 : ∀ a, r1.stride a = 1)

/-- What is held on two disjoint rectangles is held on their union. -/
theorem any_cut (hs : r.set = r0.set ∪ r1.set) (hd : Disjoint r0.set r1.set) :
    (anyOf (F := F) c (b.slice r h) : sProp 𝕄) ⊢ iprop(anyOf c (b.slice r0 h0) ∗ anyOf c (b.slice r1 h1)) := by
  have e (t : Rect s) (ht : ∀ a, t.stride a = 1) : (anyOf (F := F) c (b.slice t ht) : sProp 𝕄)
      = iprop(∃ f, b.view.loc (c : Thread nD τ) ↦[t.set.map b.view.emb]{fullShare} f) := by
    rw [← View.set_slice]; rfl
  rw [e, e, e, hs, Finset.map_union]
  iintro ⟨%f, H⟩
  ihave H := (pointsTo_union ((Finset.disjoint_map _).mpr hd)).1 $$ H
  icases H with ⟨H0, H1⟩
  isplitl [H0]; · iexists f; iexact H0
  iexists f; iexact H1

theorem any_join (hs : r.set = r0.set ∪ r1.set) (hd : Disjoint r0.set r1.set) :
    iprop(anyOf c (b.slice r0 h0) ∗ anyOf c (b.slice r1 h1)) ⊢ (anyOf (F := F) c (b.slice r h) : sProp 𝕄) := by
  have e (t : Rect s) (ht : ∀ a, t.stride a = 1) : (anyOf (F := F) c (b.slice t ht) : sProp 𝕄)
      = iprop(∃ f, b.view.loc (c : Thread nD τ) ↦[t.set.map b.view.emb]{fullShare} f) := by
    rw [← View.set_slice]; rfl
  rw [e, e, e, hs, Finset.map_union]
  iintro ⟨⟨%f0, H0⟩, ⟨%f1, H1⟩⟩
  ihave H := (pointsTo_join ((Finset.disjoint_map _).mpr hd)) $$ [H0 H1]
  · isplitl [H0]; · iexact H0
    iexact H1
  iexists _; iexact H

/-- A buffer of three blocks, cut into them and put together. -/
theorem any_cut3 (r2 : Rect s) (h2 : ∀ a, r2.stride a = 1) (hs : (Finset.univ : Finset s.Idx) = r0.set ∪ (r1.set ∪ r2.set))
    (hd01 : Disjoint r0.set r1.set) (hd02 : Disjoint r0.set r2.set) (hd12 : Disjoint r1.set r2.set) :
    (anyOf (F := F) c b : sProp 𝕄) ⊢ iprop(anyOf c (b.slice r0 h0) ∗ anyOf c (b.slice r1 h1) ∗ anyOf c (b.slice r2 h2)) := by
  have e (t : Rect s) (ht : ∀ a, t.stride a = 1) : (anyOf (F := F) c (b.slice t ht) : sProp 𝕄)
      = iprop(∃ f, b.view.loc (c : Thread nD τ) ↦[t.set.map b.view.emb]{fullShare} f) := by
    rw [← View.set_slice]; rfl
  have e' : (anyOf (F := F) c b : sProp 𝕄)
      = iprop(∃ f, b.view.loc (c : Thread nD τ) ↦[(Finset.univ : Finset s.Idx).map b.view.emb]{fullShare} f) := rfl
  have hdd : Disjoint (r0.set.map b.view.emb) (r1.set.map b.view.emb ∪ r2.set.map b.view.emb) := by
    rw [← Finset.map_union]; exact (Finset.disjoint_map _).mpr (Finset.disjoint_union_right.mpr ⟨hd01, hd02⟩)
  rw [e, e, e, e', hs, Finset.map_union, Finset.map_union]
  iintro ⟨%f, H⟩
  ihave H := (pointsTo_union hdd).1 $$ H
  icases H with ⟨H0, H⟩
  ihave H := (pointsTo_union ((Finset.disjoint_map _).mpr hd12)).1 $$ H
  icases H with ⟨H1, H2⟩
  isplitl [H0]; · iexists f; iexact H0
  isplitl [H1]; · iexists f; iexact H1
  iexists f; iexact H2

theorem any_join3 (r2 : Rect s) (h2 : ∀ a, r2.stride a = 1) (hs : (Finset.univ : Finset s.Idx) = r0.set ∪ (r1.set ∪ r2.set))
    (hd01 : Disjoint r0.set r1.set) (hd02 : Disjoint r0.set r2.set) (hd12 : Disjoint r1.set r2.set) :
    iprop(anyOf c (b.slice r0 h0) ∗ anyOf c (b.slice r1 h1) ∗ anyOf c (b.slice r2 h2)) ⊢ (anyOf (F := F) c b : sProp 𝕄) := by
  have e (t : Rect s) (ht : ∀ a, t.stride a = 1) : (anyOf (F := F) c (b.slice t ht) : sProp 𝕄)
      = iprop(∃ f, b.view.loc (c : Thread nD τ) ↦[t.set.map b.view.emb]{fullShare} f) := by
    rw [← View.set_slice]; rfl
  have e' : (anyOf (F := F) c b : sProp 𝕄)
      = iprop(∃ f, b.view.loc (c : Thread nD τ) ↦[(Finset.univ : Finset s.Idx).map b.view.emb]{fullShare} f) := rfl
  have hdd : Disjoint (r0.set.map b.view.emb) (r1.set.map b.view.emb ∪ r2.set.map b.view.emb) := by
    rw [← Finset.map_union]; exact (Finset.disjoint_map _).mpr (Finset.disjoint_union_right.mpr ⟨hd01, hd02⟩)
  rw [e, e, e, e', hs, Finset.map_union, Finset.map_union]
  iintro ⟨⟨%f0, H0⟩, ⟨%f1, H1⟩, ⟨%f2, H2⟩⟩
  ihave H := (pointsTo_join ((Finset.disjoint_map _).mpr hd12)) $$ [H1 H2]
  · isplitl [H1]; · iexact H1
    iexact H2
  ihave H := (pointsTo_join (f := f0) (g := _) hdd) $$ [H0 H]
  · isplitl [H0]; · iexact H0
    iexact H
  iexists _; iexact H

/-- Two disjoint rectangles held at contents which agree with `X` make their union held at `X`. -/
theorem owns_join (hs : r.set = r0.set ∪ r1.set) (hd : Disjoint r0.set r1.set)
    (X : r.shape.Idx → Elt F e) (X0 : r0.shape.Idx → Elt F e) (X1 : r1.shape.Idx → Elt F e)
    (hX : ∀ i, (∃ k, r.emb i = r0.emb k ∧ X i = X0 k) ∨ (∃ k, r.emb i = r1.emb k ∧ X i = X1 k)) :
    iprop(ownsTc c (b.slice r0 h0) fullShare X0 ∗ ownsTc c (b.slice r1 h1) fullShare X1)
      ⊢ (ownsTc c (b.slice r h) fullShare X : sProp 𝕄) := by
  have ee (t : Rect s) (ht : ∀ a, t.stride a = 1) (Y : t.shape.Idx → Elt F e) : (ownsTc c (b.slice t ht) fullShare Y : sProp 𝕄)
      = iprop(∃ f, ⌜(fun k => b.view.read (Elt F) f (t.emb k)) = Y⌝ ∗ b.view.loc (c : Thread nD τ) ↦[t.set.map b.view.emb]{fullShare} f) := by
    rw [← View.set_slice]; rfl
  rw [ee, ee, ee, hs, Finset.map_union]
  iintro ⟨⟨%f0, %e0, H0⟩, ⟨%f1, %e1, H1⟩⟩
  ihave H := (pointsTo_join ((Finset.disjoint_map _).mpr hd)) $$ [H0 H1]
  · isplitl [H0]; · iexact H0
    iexact H1
  iexists _
  isplitr
  rotate_left
  · iexact H
  ipureintro
  subst e0 e1
  funext i
  rcases hX i with ⟨k, ek, hk⟩ | ⟨k, ek, hk⟩
  · rw [hk, ek]
    show _ = b.view.read (Elt F) _ _
    rw [View.read_apply, View.read_apply, Finset.piecewise_eq_of_notMem]
    intro hm
    obtain ⟨y, hy, hye⟩ := Finset.mem_map.mp hm
    exact Finset.disjoint_left.mp hd (show r0.emb k ∈ r0.set from r0.map_emb_univ ▸ Finset.mem_map_of_mem _ (Finset.mem_univ k))
      (b.view.emb.injective hye ▸ hy)
  · rw [hk, ek]
    show _ = b.view.read (Elt F) _ _
    rw [View.read_apply, View.read_apply, Finset.piecewise_eq_of_mem]
    exact Finset.mem_map_of_mem _ (r1.map_emb_univ ▸ Finset.mem_map_of_mem _ (Finset.mem_univ k))

end Gen

section Cut

variable (c : Dev nD) (b : Memref sig .tc .vmem S3x1024x1024 .bf16)

/-- A buffer is its three blocks. -/
theorem any_blocks : (anyOf (F := F) c b : sProp 𝕄) ⊢ iprop(anyOf c (sl b 0) ∗ anyOf c (sl b 1) ∗ anyOf c (sl b 2)) :=
  any_cut3 c b _ _ _ _ _ _ rect_cover (rect_disj3 0 1 (by decide)) (rect_disj3 0 2 (by decide)) (rect_disj3 1 2 (by decide))
theorem any_blocks_join : iprop(anyOf c (sl b 0) ∗ anyOf c (sl b 1) ∗ anyOf c (sl b 2)) ⊢ (anyOf (F := F) c b : sProp 𝕄) :=
  any_join3 c b _ _ _ _ _ _ rect_cover (rect_disj3 0 1 (by decide)) (rect_disj3 0 2 (by decide)) (rect_disj3 1 2 (by decide))
/-- A block is its two halves. -/
theorem any_halves (j : Fin 3) : (anyOf (F := F) c (sl b j) : sProp 𝕄) ⊢ iprop(anyOf c (slh b j 0) ∗ anyOf c (slh b j 1)) :=
  any_cut c b _ _ _ _ _ _ (rect_split j) (rect_disj j)
theorem any_halves_join (j : Fin 3) : iprop(anyOf c (slh b j 0) ∗ anyOf c (slh b j 1)) ⊢ (anyOf (F := F) c (sl b j) : sProp 𝕄) :=
  any_join c b _ _ _ _ _ _ (rect_split j) (rect_disj j)

/-- The element of a half at the given coordinates. -/
def at3 (i0 : Fin 1) (i1 : Fin 512) (i2 : Fin 1024) : S1x512x1024.Idx := fun a => match a with
  | ⟨0, _⟩ => i0
  | ⟨1, _⟩ => i1
  | ⟨2, _⟩ => i2

/-- The block whose upper half holds the rows `X` and whose lower half holds the rows `Y`. -/
def joinF (X Y : FVec F S1x512x1024 .bf16) : FVec F S1x1024x1024 .bf16 := fun i =>
  if h : (i 1).val < 512 then X (at3 (i 0) ⟨(i 1).val, h⟩ (i 2))
  else Y (at3 (i 0) ⟨(i 1).val - 512, by have : (i 1).val < 1024 := (i 1).isLt; omega⟩ (i 2))

theorem halves_join (j : Fin 3) (X Y : FVec F S1x512x1024 .bf16) :
    iprop(ownsTc c (slh b j 0) fullShare X ∗ ownsTc c (slh b j 1) fullShare Y)
      ⊢ (ownsTc c (sl b j) fullShare (joinF X Y) : sProp 𝕄) := by
  refine owns_join c b _ _ _ _ _ _ (rect_split j) (rect_disj j) _ _ _ fun i => ?_
  by_cases h : (i 1).val < 512
  · left
    refine ⟨at3 (i 0) ⟨(i 1).val, h⟩ (i 2), ?_, ?_⟩
    · funext a
      refine Fin.ext ?_
      match a with
      | ⟨0, _⟩ => rfl
      | ⟨1, _⟩ => rfl
      | ⟨2, _⟩ => rfl
    · unfold joinF; rw [dif_pos h]
  · right
    have hi : (i 1).val < 1024 := (i 1).isLt
    refine ⟨at3 (i 0) ⟨(i 1).val - 512, by omega⟩ (i 2), ?_, ?_⟩
    · funext a
      refine Fin.ext ?_
      match a with
      | ⟨0, _⟩ => rfl
      | ⟨1, _⟩ =>
        show 0 + 1 * (i 1).val = 512 * 1 + 1 * ((i 1).val - 512)
        omega
      | ⟨2, _⟩ => rfl
    · unfold joinF; rw [dif_neg h]

end Cut

/-! ## A memref with its leading axis dropped -/

section Squeeze

variable (c : Dev nD) {s s' : Shape} {e : EltTy} (mr : Memref sig .tc .vmem s e) (h : s.Squeezes s')

theorem any_sq : (anyOf (F := F) c (mr.squeeze s' h) : sProp 𝕄) = anyOf c mr := by
  unfold anyOf
  rw [show (mr.squeeze s' h).view.set = mr.view.set from View.set_reshape _ _]

theorem owns_sq (q : PosShare TreeShare) (X : s.Idx → Elt F e) (hc : s.ShapeCasts s') :
    (ownsTc c mr q X : sProp 𝕄) ⊢ ownsTc c (mr.squeeze s' h) q (shapeCast s' X hc) := by
  unfold ownsTc owns
  rw [show (mr.squeeze s' h).view.set = mr.view.set from View.set_reshape _ _]
  iintro ⟨%f, %hf, H⟩
  iexists f
  isplitr; · ipureintro; rw [← hf]; rfl
  iexact H

theorem owns_unsq (q : PosShare TreeShare) (X : s'.Idx → Elt F e) (hc : s'.ShapeCasts s) (hc' : s.ShapeCasts s') :
    (ownsTc c (mr.squeeze s' h) q X : sProp 𝕄) ⊢ ownsTc c mr q (shapeCast s X hc) := by
  unfold ownsTc owns
  rw [show (mr.squeeze s' h).view.set = mr.view.set from View.set_reshape _ _]
  iintro ⟨%f, %hf, H⟩
  iexists f
  isplitr
  · ipureintro; rw [← hf]
    exact (shapeCast_shapeCast (mr.view.read (Elt F) f) hc' hc).symm
  iexact H

end Squeeze

/-! ## A whole memref read at its full rectangle; shares; the device a copy or a signal names -/

theorem unit_zero {s : Shape} (off : Fin s.rank → Nat) (inb) (h : ∀ a, off a = 0) (j : s.Idx) :
    (Rect.unit (s := s) off s.size inb).emb j = j := by
  funext a
  refine Fin.ext ?_
  show off a + 1 * (j a).val = (j a).val
  rw [h a]; omega

section Shares

variable (c : Dev nD) {s : Shape} {e : EltTy} (mr : Memref sig .tc .vmem s e)

theorem owns_two (q : PosShare TreeShare) (X : s.Idx → Elt F e) :
    (ownsTc c mr q X : sProp 𝕄) ⊢ iprop(ownsTc c mr q.left X ∗ ownsTc c mr q.right X) := by
  unfold ownsTc owns
  iintro ⟨%f, %hf, H⟩
  ihave H := (pointsTo_share (PosShare.mem_left_op_right q)).1 $$ H
  icases H with ⟨H0, H1⟩
  isplitl [H0]
  · iexists f; isplitr; · ipureintro; exact hf
    iexact H0
  · iexists f; isplitr; · ipureintro; exact hf
    iexact H1

/-- Two shares of a block held at the same contents make one. -/
theorem owns_two_join (q : PosShare TreeShare) (X : s.Idx → Elt F e) :
    iprop(ownsTc c mr q.left X ∗ ownsTc c mr q.right X) ⊢ (ownsTc c mr q X : sProp 𝕄) := by
  unfold ownsTc owns
  iintro ⟨⟨%f, %hf, H0⟩, ⟨%g, %hg, H1⟩⟩
  have hfg : ∀ i ∈ mr.view.set, g i = f i := by
    intro i hi
    obtain ⟨x, -, rfl⟩ := Finset.mem_map.mp hi
    have := congrFun (hg.trans hf.symm) x
    rw [View.read_apply, View.read_apply] at this
    exact (Equiv.cast _).injective this
  have hc : (mr.view.loc (c : Thread nD τ) ↦[mr.view.set]{q.right} g : sProp 𝕄)
      ⊢ mr.view.loc (c : Thread nD τ) ↦[mr.view.set]{q.right} f := Entails.of_eq (pointsTo_congr hfg)
  ihave H1 := hc $$ H1
  iexists f
  isplitr; · ipureintro; exact hf
  iapply (pointsTo_share (PosShare.mem_left_op_right q)).2
  isplitl [H0]; · iexact H0
  iexact H1

end Shares

section Full

variable (c : Dev nD) {s : Shape} {e : EltTy} (mr : Memref sig .tc .vmem s e)

/-- The slice of a memref at its full rectangle is held as the memref is. -/
theorem owns_full (off : Fin s.rank → Nat) (inb) (hr) (h0 : ∀ a, off a = 0) (q : PosShare TreeShare) (X : s.Idx → Elt F e) :
    (ownsTc c (mr.slice (Rect.unit (s := s) off s.size inb) hr) q X : sProp 𝕄) = ownsTc c mr q X := by
  have hs : (mr.view.slice (Rect.unit (s := s) off s.size inb)).set = mr.view.set := by
    show Finset.univ.map _ = Finset.univ.map _
    congr 1
    ext j : 1
    exact congrArg mr.view.emb (unit_zero off inb h0 j)
  have hrd (f : mr.view.ty.Contents (Elt F)) : (mr.view.slice (Rect.unit (s := s) off s.size inb)).read (Elt F) f = mr.view.read (Elt F) f := by
    funext j
    exact congrArg (mr.view.read (Elt F) f) (unit_zero off inb h0 j)
  unfold ownsTc owns
  show iprop(∃ f, ⌜(mr.view.slice (Rect.unit (s := s) off s.size inb)).read (Elt F) f = X⌝ ∗ mr.view.loc (c : Thread nD τ) ↦[(mr.view.slice (Rect.unit (s := s) off s.size inb)).set]{q} f) = _
  rw [hs]
  simp only [hrd]

theorem any_full (off : Fin s.rank → Nat) (inb) (hr) (h0 : ∀ a, off a = 0) :
    (anyOf (F := F) c (mr.slice (Rect.unit (s := s) off s.size inb) hr) : sProp 𝕄) = anyOf c mr := by
  have hs : (mr.view.slice (Rect.unit (s := s) off s.size inb)).set = mr.view.set := by
    show Finset.univ.map _ = Finset.univ.map _
    congr 1
    ext j : 1
    exact congrArg mr.view.emb (unit_zero off inb h0 j)
  unfold anyOf
  show iprop(∃ f, mr.view.loc (c : Thread nD τ) ↦[(mr.view.slice (Rect.unit (s := s) off s.size inb)).set]{fullShare} f) = _
  rw [hs]

/-- A load of the whole of a memref held at `X` yields `X`. -/
theorem ldF (Q : PUnit → sProp 𝕄) (off : Fin s.rank → Nat) (inb) (h0 : ∀ a, off a = 0)
    {hl : mr.view.LoadsAt (Rect.unit (s := s) off s.size inb).toLoadRect} (q : PosShare TreeShare)
    (X : s.Idx → Elt F e) (k : (s.Idx → Elt F e) → Prog (TpuEff nD τ sig (Elt F) Λ₀ .tc) PUnit) :
    (ownsTc c mr q X : sProp 𝕄)
      ⊢ iprop((ownsTc c mr q X -∗ WP c (k X) Q) -∗ WP c (.op (.load mr (Rect.unit (s := s) off s.size inb).toLoadRect hl) k) Q) := by
  rw [← owns_full c mr off inb (fun _ => rfl) h0 q X]
  exact ld_slice c Q mr (Rect.unit (s := s) off s.size inb) (fun _ => rfl) q X k

theorem ldF_any (Q : PUnit → sProp 𝕄) (off : Fin s.rank → Nat) (inb) (h0 : ∀ a, off a = 0)
    {hl : mr.view.LoadsAt (Rect.unit (s := s) off s.size inb).toLoadRect}
    (k : (s.Idx → Elt F e) → Prog (TpuEff nD τ sig (Elt F) Λ₀ .tc) PUnit) :
    (anyOf c mr : sProp 𝕄)
      ⊢ iprop((∀ X, anyOf c mr -∗ WP c (k X) Q) -∗ WP c (.op (.load mr (Rect.unit (s := s) off s.size inb).toLoadRect hl) k) Q) := by
  rw [← any_full c mr off inb (fun _ => rfl) h0]
  exact ld_any c Q mr (Rect.unit (s := s) off s.size inb) (fun _ => rfl) k

/-- A store over the whole of a memref leaves it at what was stored. -/
theorem stF_any (Q : PUnit → sProp 𝕄) (off : Fin s.rank → Nat) (inb) (h0 : ∀ a, off a = 0) (w : s.Idx → Elt F e)
    {hx : (mr.access (Rect.unit (s := s) off s.size inb)).Stores Finset.univ} {hm}
    (k : PUnit → Prog (TpuEff nD τ sig (Elt F) Λ₀ .tc) PUnit) :
    (anyOf c mr : sProp 𝕄)
      ⊢ iprop((ownsTc c mr fullShare w -∗ WP c (k ⟨⟩) Q) -∗ WP c (.op (.store mr (Rect.unit (s := s) off s.size inb) w Finset.univ hx hm) k) Q) := by
  rw [← any_full c mr off inb (fun _ => rfl) h0, ← owns_full c mr off inb (fun _ => rfl) h0 fullShare w]
  exact st_any c Q mr (Rect.unit (s := s) off s.size inb) (fun _ => rfl) w k

end Full

section Devs
variable (c : Dev nD)

theorem dev1 : (⟨k0_dev1 c, k0_dev1_lt c⟩ : Dev nD) = pe 1 c := by revert c; decide
theorem dev2 : (⟨k0_dev2 c, k0_dev2_lt c⟩ : Dev nD) = pe 2 c := by revert c; decide
theorem dev3 : (⟨k0_dev3 c, k0_dev3_lt c⟩ : Dev nD) = pe 3 c := by revert c; decide
theorem dev4 : (⟨k0_dev4 c, k0_dev4_lt c⟩ : Dev nD) = pe 1 c := by revert c; decide
theorem dev5 : (⟨k0_dev5 c, k0_dev5_lt c⟩ : Dev nD) = pe 3 c := by revert c; decide
theorem dev6 : (⟨k0_dev6 c, k0_dev6_lt c⟩ : Dev nD) = pe 2 c := by revert c; decide
theorem dev7 : (⟨k0_dev7 c, k0_dev7_lt c⟩ : Dev nD) = pe 1 c := by revert c; decide
theorem dev8 : (⟨k0_dev8 c, k0_dev8_lt c⟩ : Dev nD) = pe 1 c := by revert c; decide
theorem dev9 : (⟨k0_dev9 c, k0_dev9_lt c⟩ : Dev nD) = pe 2 c := by revert c; decide
theorem dev10 : (⟨k0_dev10 c, k0_dev10_lt c⟩ : Dev nD) = pe 2 c := by revert c; decide
theorem dev11 : (⟨k0_dev11 c, k0_dev11_lt c⟩ : Dev nD) = pe 3 c := by revert c; decide
theorem dev12 : (⟨k0_dev12 c, k0_dev12_lt c⟩ : Dev nD) = pe 3 c := by revert c; decide

end Devs

/-! ## The semaphore a slice of a semaphore array names -/

theorem sem_xs0 : ((cc0_scratch5.slice (Rect.unit (s := S3) ![0] S1.size inb_S3_S1_0)).squeeze S_ squeezes_S1_S_).sem = (8 : Fin 26) := rfl
theorem sem_xs1 : ((cc0_scratch5.slice (Rect.unit (s := S3) ![1] S1.size inb_S3_S1_1)).squeeze S_ squeezes_S1_S_).sem = (9 : Fin 26) := rfl
theorem sem_xs2 : ((cc0_scratch5.slice (Rect.unit (s := S3) ![2] S1.size inb_S3_S1_2)).squeeze S_ squeezes_S1_S_).sem = (10 : Fin 26) := rfl
theorem sem_xr0 : ((cc0_scratch6.slice (Rect.unit (s := S3) ![0] S1.size inb_S3_S1_0)).squeeze S_ squeezes_S1_S_).sem = (11 : Fin 26) := rfl
theorem sem_xr1 : ((cc0_scratch6.slice (Rect.unit (s := S3) ![1] S1.size inb_S3_S1_1)).squeeze S_ squeezes_S1_S_).sem = (12 : Fin 26) := rfl
theorem sem_xr2 : ((cc0_scratch6.slice (Rect.unit (s := S3) ![2] S1.size inb_S3_S1_2)).squeeze S_ squeezes_S1_S_).sem = (13 : Fin 26) := rfl
theorem sem_ps00 : ((cc0_scratch7.slice (Rect.unit (s := S3x2) ![0, 0] S1x1.size inb_S3x2_S1x1_0_0)).squeeze S_ squeezes_S1x1_S_).sem = (14 : Fin 26) := rfl
theorem sem_ps01 : ((cc0_scratch7.slice (Rect.unit (s := S3x2) ![0, 1] S1x1.size inb_S3x2_S1x1_0_1)).squeeze S_ squeezes_S1x1_S_).sem = (15 : Fin 26) := rfl
theorem sem_ps10 : ((cc0_scratch7.slice (Rect.unit (s := S3x2) ![1, 0] S1x1.size inb_S3x2_S1x1_1_0)).squeeze S_ squeezes_S1x1_S_).sem = (16 : Fin 26) := rfl
theorem sem_ps11 : ((cc0_scratch7.slice (Rect.unit (s := S3x2) ![1, 1] S1x1.size inb_S3x2_S1x1_1_1)).squeeze S_ squeezes_S1x1_S_).sem = (17 : Fin 26) := rfl
theorem sem_ps20 : ((cc0_scratch7.slice (Rect.unit (s := S3x2) ![2, 0] S1x1.size inb_S3x2_S1x1_2_0)).squeeze S_ squeezes_S1x1_S_).sem = (18 : Fin 26) := rfl
theorem sem_ps21 : ((cc0_scratch7.slice (Rect.unit (s := S3x2) ![2, 1] S1x1.size inb_S3x2_S1x1_2_1)).squeeze S_ squeezes_S1x1_S_).sem = (19 : Fin 26) := rfl
theorem sem_pr00 : ((cc0_scratch8.slice (Rect.unit (s := S3x2) ![0, 0] S1x1.size inb_S3x2_S1x1_0_0)).squeeze S_ squeezes_S1x1_S_).sem = (20 : Fin 26) := rfl
theorem sem_pr01 : ((cc0_scratch8.slice (Rect.unit (s := S3x2) ![0, 1] S1x1.size inb_S3x2_S1x1_0_1)).squeeze S_ squeezes_S1x1_S_).sem = (21 : Fin 26) := rfl
theorem sem_pr10 : ((cc0_scratch8.slice (Rect.unit (s := S3x2) ![1, 0] S1x1.size inb_S3x2_S1x1_1_0)).squeeze S_ squeezes_S1x1_S_).sem = (22 : Fin 26) := rfl
theorem sem_pr11 : ((cc0_scratch8.slice (Rect.unit (s := S3x2) ![1, 1] S1x1.size inb_S3x2_S1x1_1_1)).squeeze S_ squeezes_S1x1_S_).sem = (23 : Fin 26) := rfl
theorem sem_pr20 : ((cc0_scratch8.slice (Rect.unit (s := S3x2) ![2, 0] S1x1.size inb_S3x2_S1x1_2_0)).squeeze S_ squeezes_S1x1_S_).sem = (24 : Fin 26) := rfl
theorem sem_pr21 : ((cc0_scratch8.slice (Rect.unit (s := S3x2) ![2, 1] S1x1.size inb_S3x2_S1x1_2_1)).squeeze S_ squeezes_S1x1_S_).sem = (25 : Fin 26) := rfl

end Cert.KernelIdeal.Talk

end
-- ==== Proof.Setting.lean ====
/-
  The setting of a device's body: the windows it is called on, what it reads from them, and the loads of them.
-/
module

public import proofs.«01_k».proof.Proof.Slices

@[expose] public section

set_option maxRecDepth 16384

noncomputable section

namespace Cert.KernelIdeal.Talk

open Idealize.ShloMosaic Idealize.ShloMosaic.TcCoe
open Cert.KernelIdeal Cert.KernelIdeal.Gen
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-- The eight windows the body is called on. -/
structure Win where
  a0 : Memref sig .tc .vmem S1x1024x1024 .bf16
  h0 : a0.IsWhole
  a1 : Memref sig .tc .vmem S1024x3072 .bf16
  h1 : a1.IsWhole
  a2 : Memref sig .tc .vmem S1024x1024 .bf16
  h2 : a2.IsWhole
  a3 : Memref sig .tc .vmem S1024x1024 .bf16
  h3 : a3.IsWhole
  a4 : Memref sig .tc .vmem S1024x1024 .bf16
  h4 : a4.IsWhole
  a5 : Memref sig .tc .vmem S1024x1024 .bf16
  h5 : a5.IsWhole
  a6 : Memref sig .tc .vmem S1024x1024 .bf16
  h6 : a6.IsWhole
  a7 : Memref sig .tc .vmem S1x1024x1024 .bf16
  h7 : a7.IsWhole

universe u

/-- A part of the body, called on the windows and the kernel's own buffers. -/
abbrev Win.on (W : Win) {β : Type u} (f : (arg0 : Memref sig .tc .vmem S1x1024x1024 .bf16) → (harg0 : arg0.IsWhole) → (arg1 : Memref sig .tc .vmem S1024x3072 .bf16) → (harg1 : arg1.IsWhole) → (arg2 : Memref sig .tc .vmem S1024x1024 .bf16) → (harg2 : arg2.IsWhole) → (arg3 : Memref sig .tc .vmem S1024x1024 .bf16) → (harg3 : arg3.IsWhole) → (arg4 : Memref sig .tc .vmem S1024x1024 .bf16) → (harg4 : arg4.IsWhole) → (arg5 : Memref sig .tc .vmem S1024x1024 .bf16) → (harg5 : arg5.IsWhole) → (arg6 : Memref sig .tc .vmem S1024x1024 .bf16) → (harg6 : arg6.IsWhole) → (arg7 : Memref sig .tc .vmem S1x1024x1024 .bf16) → (harg7 : arg7.IsWhole) → (arg8 : Memref sig .tc .vmem S1024x1024 .bf16) → (harg8 : arg8.IsWhole) → (arg9 : Memref sig .tc .vmem S3x1024x1024 .bf16) → (harg9 : arg9.IsWhole) → (arg10 : Memref sig .tc .vmem S3x1024x1024 .bf16) → (harg10 : arg10.IsWhole) → (arg11 : Memref sig .tc .vmem S3x1024x1024 .bf16) → (harg11 : arg11.IsWhole) → (arg12 : Memref sig .tc .vmem S3x1024x1024 .bf16) → (harg12 : arg12.IsWhole) → (arg13 : DmaSems sig S3) → (arg14 : DmaSems sig S3) → (arg15 : DmaSems sig S3x2) → (arg16 : DmaSems sig S3x2) → β) : β :=
  f W.a0 W.h0 W.a1 W.h1 W.a2 W.h2 W.a3 W.h3 W.a4 W.h4 W.a5 W.h5 W.a6 W.h6 W.a7 W.h7 B8 (Memref.isWhole_whole _) B9 (Memref.isWhole_whole _) B10 (Memref.isWhole_whole _) B11 (Memref.isWhole_whole _) B12 (Memref.isWhole_whole _) cc0_scratch5 cc0_scratch6 cc0_scratch7 cc0_scratch8

/-- Contents not known are some contents. -/
theorem any_ex (c : Dev nD) {s : Shape} {e : EltTy} (mr : Memref sig .tc .vmem s e) :
    (anyOf (F := F) c mr : sProp 𝕄) ⊢ iprop(∃ X, ownsTc c mr fullShare X) := by
  unfold anyOf ownsTc owns
  iintro ⟨%f, H⟩
  iexists _; iexists f
  isplitr; · ipureintro; rfl
  iexact H

/-- The seven input windows, held at the inputs. -/
def insR (W : Win) (c : Dev nD) (i : Ins F) : sProp 𝕄 :=
  iprop(ownsTc c W.a0 fullShare i.x ∗ ownsTc c W.a1 fullShare i.w ∗ ownsTc c W.a2 fullShare i.wo ∗ ownsTc c W.a3 fullShare i.cb
    ∗ ownsTc c W.a4 fullShare i.sb ∗ ownsTc c W.a5 fullShare i.cq ∗ ownsTc c W.a6 fullShare i.sq)

theorem zero2 : ∀ a : Fin 2, (![0, 0] : Fin 2 → ℕ) a = 0 := by decide
theorem zero3 : ∀ a : Fin 3, (![0, 0, 0] : Fin 3 → ℕ) a = 0 := by decide

section Ins

variable (W : Win) (c : Dev nD) (i : Ins F)

theorem ldI0 (Q : PUnit → sProp 𝕄) (off : Fin _ → Nat) (inb) (h0 : ∀ a, off a = 0)
    {hl : W.a0.view.LoadsAt (Rect.unit (s := S1x1024x1024) off S1x1024x1024.size inb).toLoadRect}
    (k : (S1x1024x1024.Idx → Elt F .bf16) → Prog (TpuEff nD τ sig (Elt F) Λ₀ .tc) PUnit) :
    (insR W c i : sProp 𝕄)
      ⊢ iprop((insR W c i -∗ WP c (k i.x) Q) -∗ WP c (.op (.load W.a0 (Rect.unit (s := S1x1024x1024) off S1x1024x1024.size inb).toLoadRect hl) k) Q) := by
  unfold insR
  iintro ⟨H0, H1, H2, H3, H4, H5, H6⟩ Hk
  iapply (ldF c W.a0 Q off inb h0 fullShare i.x k) $$ H0
  iintro H0
  iapply Hk
  isplitl [H0]; · iexact H0
  isplitl [H1]; · iexact H1
  isplitl [H2]; · iexact H2
  isplitl [H3]; · iexact H3
  isplitl [H4]; · iexact H4
  isplitl [H5]; · iexact H5
  iexact H6

theorem ldI1 (Q : PUnit → sProp 𝕄) (off : Fin _ → Nat) (inb) (h0 : ∀ a, off a = 0)
    {hl : W.a1.view.LoadsAt (Rect.unit (s := S1024x3072) off S1024x3072.size inb).toLoadRect}
    (k : (S1024x3072.Idx → Elt F .bf16) → Prog (TpuEff nD τ sig (Elt F) Λ₀ .tc) PUnit) :
    (insR W c i : sProp 𝕄)
      ⊢ iprop((insR W c i -∗ WP c (k i.w) Q) -∗ WP c (.op (.load W.a1 (Rect.unit (s := S1024x3072) off S1024x3072.size inb).toLoadRect hl) k) Q) := by
  unfold insR
  iintro ⟨H0, H1, H2, H3, H4, H5, H6⟩ Hk
  iapply (ldF c W.a1 Q off inb h0 fullShare i.w k) $$ H1
  iintro H1
  iapply Hk
  isplitl [H0]; · iexact H0
  isplitl [H1]; · iexact H1
  isplitl [H2]; · iexact H2
  isplitl [H3]; · iexact H3
  isplitl [H4]; · iexact H4
  isplitl [H5]; · iexact H5
  iexact H6

theorem ldI2 (Q : PUnit → sProp 𝕄) (off : Fin _ → Nat) (inb) (h0 : ∀ a, off a = 0)
    {hl : W.a2.view.LoadsAt (Rect.unit (s := S1024x1024) off S1024x1024.size inb).toLoadRect}
    (k : (S1024x1024.Idx → Elt F .bf16) → Prog (TpuEff nD τ sig (Elt F) Λ₀ .tc) PUnit) :
    (insR W c i : sProp 𝕄)
      ⊢ iprop((insR W c i -∗ WP c (k i.wo) Q) -∗ WP c (.op (.load W.a2 (Rect.unit (s := S1024x1024) off S1024x1024.size inb).toLoadRect hl) k) Q) := by
  unfold insR
  iintro ⟨H0, H1, H2, H3, H4, H5, H6⟩ Hk
  iapply (ldF c W.a2 Q off inb h0 fullShare i.wo k) $$ H2
  iintro H2
  iapply Hk
  isplitl [H0]; · iexact H0
  isplitl [H1]; · iexact H1
  isplitl [H2]; · iexact H2
  isplitl [H3]; · iexact H3
  isplitl [H4]; · iexact H4
  isplitl [H5]; · iexact H5
  iexact H6

theorem ldI3 (Q : PUnit → sProp 𝕄) (off : Fin _ → Nat) (inb) (h0 : ∀ a, off a = 0)
    {hl : W.a3.view.LoadsAt (Rect.unit (s := S1024x1024) off S1024x1024.size inb).toLoadRect}
    (k : (S1024x1024.Idx → Elt F .bf16) → Prog (TpuEff nD τ sig (Elt F) Λ₀ .tc) PUnit) :
    (insR W c i : sProp 𝕄)
      ⊢ iprop((insR W c i -∗ WP c (k i.cb) Q) -∗ WP c (.op (.load W.a3 (Rect.unit (s := S1024x1024) off S1024x1024.size inb).toLoadRect hl) k) Q) := by
  unfold insR
  iintro ⟨H0, H1, H2, H3, H4, H5, H6⟩ Hk
  iapply (ldF c W.a3 Q off inb h0 fullShare i.cb k) $$ H3
  iintro H3
  iapply Hk
  isplitl [H0]; · iexact H0
  isplitl [H1]; · iexact H1
  isplitl [H2]; · iexact H2
  isplitl [H3]; · iexact H3
  isplitl [H4]; · iexact H4
  isplitl [H5]; · iexact H5
  iexact H6

theorem ldI4 (Q : PUnit → sProp 𝕄) (off : Fin _ → Nat) (inb) (h0 : ∀ a, off a = 0)
    {hl : W.a4.view.LoadsAt (Rect.unit (s := S1024x1024) off S1024x1024.size inb).toLoadRect}
    (k : (S1024x1024.Idx → Elt F .bf16) → Prog (TpuEff nD τ sig (Elt F) Λ₀ .tc) PUnit) :
    (insR W c i : sProp 𝕄)
      ⊢ iprop((insR W c i -∗ WP c (k i.sb) Q) -∗ WP c (.op (.load W.a4 (Rect.unit (s := S1024x1024) off S1024x1024.size inb).toLoadRect hl) k) Q) := by
  unfold insR
  iintro ⟨H0, H1, H2, H3, H4, H5, H6⟩ Hk
  iapply (ldF c W.a4 Q off inb h0 fullShare i.sb k) $$ H4
  iintro H4
  iapply Hk
  isplitl [H0]; · iexact H0
  isplitl [H1]; · iexact H1
  isplitl [H2]; · iexact H2
  isplitl [H3]; · iexact H3
  isplitl [H4]; · iexact H4
  isplitl [H5]; · iexact H5
  iexact H6

theorem ldI5 (Q : PUnit → sProp 𝕄) (off : Fin _ → Nat) (inb) (h0 : ∀ a, off a = 0)
    {hl : W.a5.view.LoadsAt (Rect.unit (s := S1024x1024) off S1024x1024.size inb).toLoadRect}
    (k : (S1024x1024.Idx → Elt F .bf16) → Prog (TpuEff nD τ sig (Elt F) Λ₀ .tc) PUnit) :
    (insR W c i : sProp 𝕄)
      ⊢ iprop((insR W c i -∗ WP c (k i.cq) Q) -∗ WP c (.op (.load W.a5 (Rect.unit (s := S1024x1024) off S1024x1024.size inb).toLoadRect hl) k) Q) := by
  unfold insR
  iintro ⟨H0, H1, H2, H3, H4, H5, H6⟩ Hk
  iapply (ldF c W.a5 Q off inb h0 fullShare i.cq k) $$ H5
  iintro H5
  iapply Hk
  isplitl [H0]; · iexact H0
  isplitl [H1]; · iexact H1
  isplitl [H2]; · iexact H2
  isplitl [H3]; · iexact H3
  isplitl [H4]; · iexact H4
  isplitl [H5]; · iexact H5
  iexact H6

theorem ldI6 (Q : PUnit → sProp 𝕄) (off : Fin _ → Nat) (inb) (h0 : ∀ a, off a = 0)
    {hl : W.a6.view.LoadsAt (Rect.unit (s := S1024x1024) off S1024x1024.size inb).toLoadRect}
    (k : (S1024x1024.Idx → Elt F .bf16) → Prog (TpuEff nD τ sig (Elt F) Λ₀ .tc) PUnit) :
    (insR W c i : sProp 𝕄)
      ⊢ iprop((insR W c i -∗ WP c (k i.sq) Q) -∗ WP c (.op (.load W.a6 (Rect.unit (s := S1024x1024) off S1024x1024.size inb).toLoadRect hl) k) Q) := by
  unfold insR
  iintro ⟨H0, H1, H2, H3, H4, H5, H6⟩ Hk
  iapply (ldF c W.a6 Q off inb h0 fullShare i.sq k) $$ H6
  iintro H6
  iapply Hk
  isplitl [H0]; · iexact H0
  isplitl [H1]; · iexact H1
  isplitl [H2]; · iexact H2
  isplitl [H3]; · iexact H3
  isplitl [H4]; · iexact H4
  isplitl [H5]; · iexact H5
  iexact H6

/-- A load of some rows of the output weights. -/
theorem ldI2r (Q : PUnit → sProp 𝕄) (r : Rect S1024x1024)
    {hl : W.a2.view.LoadsAt r.toLoadRect}
    (k : (r.shape.Idx → Elt F .bf16) → Prog (TpuEff nD τ sig (Elt F) Λ₀ .tc) PUnit) :
    (insR W c i : sProp 𝕄)
      ⊢ iprop((insR W c i -∗ WP c (k fun j => i.wo (r.emb j)) Q) -∗ WP c (.op (.load W.a2 r.toLoadRect hl) k) Q) := by
  unfold insR
  iintro ⟨H0, H1, H2, H3, H4, H5, H6⟩ Hk
  iapply (ld c Q W.a2 r fullShare i.wo k) $$ H2
  iintro H2
  iapply Hk
  isplitl [H0]; · iexact H0
  isplitl [H1]; · iexact H1
  isplitl [H2]; · iexact H2
  isplitl [H3]; · iexact H3
  isplitl [H4]; · iexact H4
  isplitl [H5]; · iexact H5
  iexact H6

end Ins

end Cert.KernelIdeal.Talk

end
-- ==== Proof.Moves.lean ====
/-
  The moves of the exchange as the body makes them: a copy of the rows, a copy of half a partial output, and the
  waits.
-/
module

public import proofs.«01_k».proof.Proof.Setting

@[expose] public section

set_option maxRecDepth 16384

noncomputable section

namespace Cert.KernelIdeal.Talk

open Idealize.ShloMosaic Idealize.ShloMosaic.TcCoe
open Cert.KernelIdeal Cert.KernelIdeal.Gen
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

section Moves

variable (I : Dev nD → Ins F) (K : GSem nD τ sig → ℕ) (c : Dev nD)

/-- What a device's signal to device `t` takes. -/
def sigR (t c : Dev nD) : sProp 𝕄 :=
  iprop(dutyTok ER (bar t) 0 c ∗ reached ER (bar t) 0 ∗ barPay t c)

/-- A copy of the device's rows into block `j` of device `t`. -/
theorem send_x (Q : PUnit → sProp 𝕄) (t dv : Dev nD) (hdv : dv = t) (nS nR : Fin 26) (k : ℕ) (j : Fin 3) (q : PosShare TreeShare)
    (hS : 8 ≤ nS.val ∧ (payer c nS = c)) (hR : 8 ≤ nR.val ∧ payer t nR = c)
    (hd : (due c).drop k = cell t nR :: (due c).drop (k + 1)) (hj : pe (j.val + 1) t = c)
    (hx : amtN nS = nx ∧ amtN nR = nx)
    (pay₁ : (ownsTc c B8 q (xbV (I c)) : sProp 𝕄) ⊢ dmaPay I c nS) (pay₂ : dmaPay I t nR = xgot I t j)
    {hws hwd hh} (kt : PUnit → Prog (TpuEff nD τ sig (Elt F) Λ₀ .tc) PUnit) :
    iprop(env I K ∗ owesD c k ∗ sc c nS ∗ dutyTok ER (cell t nR) 0 c ∗ reached ER (cell t nR) 0
        ∗ ownsTc c B8 q (xbV (I c)) ∗ anyOf t (sl B10 j))
      ⊢ iprop((iprop(owesD c (k + 1) ∗ sw c nS) -∗ WP c (kt ⟨⟩) Q)
        -∗ WP c (.op (.enqueueDma B8 (.remote (Dev.tc dv) ((sl B10 j).squeeze S1024x1024 squeezes_S1x1024x1024_S1024x1024) (.dma nS)) (.dma nR) hws hwd hh) kt) Q) := by
  subst hdv
  rw [← any_sq dv (sl B10 j) squeezes_S1x1024x1024_S1024x1024]
  refine send_step I K c Q dv nS nR k hS hR hd B8 _ (by rw [hx.2]) (by rw [hx.1, hx.2]) q (xbV (I c)) pay₁ ?_ kt
  rw [pay₂]
  unfold xgot
  rw [hj]
  exact owns_unsq dv (sl B10 j) _ fullShare (xbV (I c)) shapeCasts_S1024x1024_S1x1024x1024 shapeCasts_S1x1024x1024_S1024x1024

theorem squeeze_half_casts : S1x512x1024.ShapeCasts S512x1024 := by decide

/-- A copy of half `h` of the partial output of device `t`'s rows. -/
theorem send_p (Q : PUnit → sProp 𝕄) (t dv : Dev nD) (hdv : dv = t) (nS nR : Fin 26) (k : ℕ) (s j : Fin 3) (h : Fin 2)
    (hS : 8 ≤ nS.val ∧ (payer c nS = c)) (hR : 8 ≤ nR.val ∧ payer t nR = c)
    (hd : (due c).drop k = cell t nR :: (due c).drop (k + 1)) (hj : pe (j.val + 1) t = c)
    (hx : amtN nS = np ∧ amtN nR = np)
    (pay₁ : dmaPay I c nS = anyOf c (slh B11 s h)) (pay₂ : dmaPay I t nR = pgot I t j h)
    {hws hwd hh} (kt : PUnit → Prog (TpuEff nD τ sig (Elt F) Λ₀ .tc) PUnit) :
    iprop(env I K ∗ owesD c k ∗ sc c nS ∗ dutyTok ER (cell t nR) 0 c ∗ reached ER (cell t nR) 0
        ∗ ownsTc c (slh B11 s h) fullShare (partV (I c) (xbV (I t)) h) ∗ anyOf t (slh B12 j h))
      ⊢ iprop((iprop(owesD c (k + 1) ∗ sw c nS) -∗ WP c (kt ⟨⟩) Q)
        -∗ WP c (.op (.enqueueDma ((slh B11 s h).squeeze S512x1024 squeezes_S1x512x1024_S512x1024)
            (.remote (Dev.tc dv) ((slh B12 j h).squeeze S512x1024 squeezes_S1x512x1024_S512x1024) (.dma nS)) (.dma nR) hws hwd hh) kt) Q) := by
  subst hdv
  rw [← any_sq dv (slh B12 j h) squeezes_S1x512x1024_S512x1024]
  iintro ⟨He, HO, Hs, Ht, Hr, Hp, Hd⟩ Hk
  ihave Hp := (owns_sq c (slh B11 s h) squeezes_S1x512x1024_S512x1024 fullShare _ squeeze_half_casts) $$ Hp
  iapply (send_step I K c Q dv nS nR k hS hR hd ((slh B11 s h).squeeze S512x1024 squeezes_S1x512x1024_S512x1024)
    ((slh B12 j h).squeeze S512x1024 squeezes_S1x512x1024_S512x1024) (by rw [hx.2]) (by rw [hx.1, hx.2]) fullShare
    (shapeCast S512x1024 (partV (I c) (xbV (I dv)) h) squeeze_half_casts) (by
      rw [pay₁, ← any_sq c (slh B11 s h) squeezes_S1x512x1024_S512x1024]; exact anyOf_owns _ _ _) (by
      rw [pay₂]
      unfold pgot
      rw [hj]
      refine (owns_unsq dv (slh B12 j h) _ fullShare _ shapeCasts_S512x1024_S1x512x1024 squeeze_half_casts).trans (Entails.of_eq ?_)
      rw [shapeCast_shapeCast]) kt) $$ [He HO Hs Ht Hr Hp Hd]
  · isplitl [He]; · iexact He
    isplitl [HO]; · iexact HO
    isplitl [Hs]; · iexact Hs
    isplitl [Ht]; · iexact Ht
    isplitl [Hr]; · iexact Hr
    isplitl [Hp]; · iexact Hp
    iexact Hd
  iexact Hk

/-- A wait for a copy of rows or of half a partial output, its amount given in two steps. -/
theorem wait_step (Q : PUnit → sProp 𝕄) (n : Fin 26) (k : ℕ) (a : ℕ) (h8 : 8 ≤ n.val)
    (hl : ∀ g ∈ (due c).drop k, g.1.2 = .tc ∧ lv (cell c n) () < lv g ())
    {sp sp' : Space} {s s' : Shape} {e e' : EltTy}
    (src : Memref sig .tc sp s e) (dst : Memref sig .tc sp' s' e')
    {hs : src.view.WordExact} {hd : dst.view.WordExact}
    (ha : dst.view.dmaCredit = a) (hn : amtN n = a)
    (kt : PUnit → Prog (TpuEff nD τ sig (Elt F) Λ₀ .tc) PUnit) :
    iprop(env I K ∗ owesD c k ∗ sw c n)
      ⊢ iprop((iprop(owesD c k ∗ semVal (cell c n) 0 ∗ dmaPay I c n) -∗ WP c (kt ⟨⟩) Q)
        -∗ WP c (.op (.waitDma2 n src dst hs hd) kt) Q) :=
  dma_step I K c Q n k h8 hl src dst (ha.trans hn.symm) kt

/-- The levels of what is owed after the first `k` payments. -/
theorem after_six : ∀ g ∈ (due c).drop 6, g.1.2 = .tc ∧ lv g () = 3 := by
  intro g hg
  have hg' : g ∈ [cell (pe 1 c) 24, cell (pe 1 c) 25, cell (pe 2 c) 22, cell (pe 2 c) 23, cell (pe 3 c) 20, cell (pe 3 c) 21] := hg
  simp only [List.mem_cons, List.not_mem_nil, or_false] at hg'
  rcases hg' with rfl | rfl | rfl | rfl | rfl | rfl <;> exact ⟨rfl, rfl⟩
theorem above_bar : ∀ g ∈ (due c).drop 3, g.1.2 = .tc ∧ lv (bar c) () < lv g () := by
  intro g hg
  have hg' : g ∈ cell (pe 1 c) 13 :: cell (pe 3 c) 11 :: cell (pe 2 c) 12 :: (due c).drop 6 := hg
  simp only [List.mem_cons] at hg'
  have hb : lv (bar c) () = 1 := rfl
  rw [hb]
  rcases hg' with rfl | rfl | rfl | h
  · exact ⟨rfl, (by decide : 1 < 2)⟩
  · exact ⟨rfl, (by decide : 1 < 2)⟩
  · exact ⟨rfl, (by decide : 1 < 2)⟩
  · obtain ⟨h1, h2⟩ := after_six c g h
    exact ⟨h1, by rw [h2]; decide⟩
theorem above_x (n : Fin 26) (hn : n.val < 14) : ∀ g ∈ (due c).drop 6, g.1.2 = .tc ∧ lv (cell c n) () < lv g () := by
  have h2 : lv (cell c n) () < 3 := by
    show (if n.val < 11 then 0 else if n.val < 14 then 2 else if n.val < 20 then 0 else 3) < 3
    split <;> omega
  exact fun g hg => ⟨(after_six c g hg).1, (after_six c g hg).2 ▸ h2⟩
theorem drop_sub {m k : ℕ} (h : m ≤ k) {P : GSem nD τ sig → Prop} (hP : ∀ g ∈ (due c).drop m, P g) : ∀ g ∈ (due c).drop k, P g := by
  intro g hg
  refine hP g ?_
  obtain ⟨d, rfl⟩ := Nat.exists_eq_add_of_le h
  rw [← List.drop_drop] at hg
  exact List.mem_of_mem_drop hg
theorem above_none (n : Fin 26) : ∀ g ∈ (due c).drop 12, g.1.2 = .tc ∧ lv (cell c n) () < lv g () := by
  intro g hg
  exact absurd hg (by simp [due])

end Moves

end Cert.KernelIdeal.Talk

end
-- ==== Proof.BodyA.lean ====
/-
  The first parts of a device's body: it stores its rows, signals the other three devices, waits for their
  signals, starts the three copies of its rows and forms its own queries, keys and values.
-/
module

public import proofs.«01_k».proof.Proof.Moves

@[expose] public section

set_option maxRecDepth 16384

noncomputable section

namespace Cert.KernelIdeal.Talk

open Idealize.ShloMosaic Idealize.ShloMosaic.TcCoe
open Cert.KernelIdeal Cert.KernelIdeal.Gen
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

theorem flat_lift (x : FVec F S1024x1024 .bf16) : flat (lift x) = x := by
  unfold flat lift; exact shapeCast_shapeCast _ _ _

/-- The first 256 rows of the output weights. -/
def woA (wo : FVec F S1024x1024 .bf16) : FVec F S256x1024 .bf16 := fun j =>
  wo ((Rect.unit (s := S1024x1024) ![0, 0] S256x1024.size inb_S1024x1024_S256x1024_0_0).emb j)

/-- The other 768 rows of the output weights. -/
def woB (wo : FVec F S1024x1024 .bf16) : FVec F S768x1024 .bf16 := fun j =>
  wo ((Rect.unit (s := S1024x1024) ![256, 0] S768x1024.size inb_S1024x1024_S768x1024_256_0).emb j)

/-- The queries, keys and values device `i` forms for the rows `x`. -/
def qV (i : Ins F) (x : FVec F S1024x1024 .bf16) : FVec F S1024x1024 .bf16 := qF x i.w i.cq i.sq
def kV (i : Ins F) (x : FVec F S1024x1024 .bf16) : FVec F S1024x1024 .bf16 := kF x i.w i.cb i.sb
def vV (i : Ins F) (x : FVec F S1024x1024 .bf16) : FVec F S1024x1024 .bf16 := vF x i.w

/-- A device's first two own heads, as it stores them. -/
def outA (i : Ins F) : FVec F S1x1024x1024 .bf16 :=
  ownA (qV i (xbV i)) (kV i (xbV i)) (vV i (xbV i)) (woA i.wo)

theorem pay13_eq (q k v : FVec F S1024x1024 .bf16) (w : FVec F S256x1024 .bf16) :
    k0_pay13 k0_pay6 (lift q) (lift k) (lift v) w = ownA q k v w := by
  have h : k0_pay13 k0_pay6 (lift q) (lift k) (lift v) w = ownA (flat (lift q)) (flat (lift k)) (flat (lift v)) w := rfl
  rw [h, flat_lift, flat_lift, flat_lift]

theorem sem_bar (h) : (SemArray.scalar (sig.barrier 0 h) : Sems sig S_).sem = barrier0 := rfl
theorem one_int : (1#32).toInt = 1 := rfl
theorem three_int : (3#32).toInt = 3 := rfl

section Parts

variable (I : Dev nD → Ins F) (K : GSem nD τ sig → ℕ) (W : Win) (c : Dev nD)

theorem part1 (Q : PUnit → sProp 𝕄) (k : _ → Prog (TpuEff nD τ sig (Elt F) Λ₀ .tc) PUnit) :
    iprop(env I K ∗ insR W c (I c) ∗ anyOf c B8 ∗ owesD c 0 ∗ sigR (pe 1 c) c)
      ⊢ iprop((iprop(insR W c (I c) ∗ ownsTc c B8 fullShare (xbV (I c)) ∗ owesD c 1)
          -∗ ∀ v2 v32, WP c (k ⟨c, v2, SemArray.scalar (sig.barrier 0 rfl), v32⟩) Q)
        -∗ WP c (W.on (k0_part1 (F := F)) >>= k) Q) := by
  unfold sigR
  iintro ⟨#He, Hi, H8, HO, Ht, #Hr, Hp⟩ Hk
  dsimp only [Win.on]
  rw [k0_part1_eq_skeleton]; unfold k0_part1_skel
  simp only [semSignalWord, semWaitWord, Prog.lift, Prog.bind_op, Prog.bind_ret, Prog.pure_eq_ret, wp_deviceId]
  simp only [sem_bar, one_int, dev1]
  iapply (ldI0 W c (I c) Q ![0, 0, 0] _ zero3 _) $$ Hi
  iintro Hi
  iapply (ldF_any c B8 Q ![0, 0] _ zero2 _) $$ H8
  iintro %X H8
  iapply (stF_any c B8 Q ![0, 0] _ zero2 _ _) $$ H8
  iintro H8
  iapply (sig_step I K c Q (pe 1 c) 0 (pe1_ne c) rfl _) $$ [HO Ht Hp]
  · isplitr; · iexact He
    isplitl [HO]; · iexact HO
    isplitl [Ht]; · iexact Ht
    isplitr; · iexact Hr
    iexact Hp
  iintro HO
  ihave Hk := Hk $$ [Hi H8 HO]
  · isplitl [Hi]; · iexact Hi
    isplitl [H8]; · iexact H8
    iexact HO
  iapply Hk

theorem part2 (Q : PUnit → sProp 𝕄) (v2 v32 : BitVec 32) (k : _ → Prog (TpuEff nD τ sig (Elt F) Λ₀ .tc) PUnit) :
    iprop(env I K ∗ owesD c 1 ∗ sigR (pe 2 c) c ∗ sigR (pe 3 c) c ∗ atPos ER (bar c) 0 ∅ 0 ∗ cred (tallyAt (bar c) () 3))
      ⊢ iprop((iprop(owesD c 3 ∗ semVal (bar c) 0 ∗ give (pe 1 c) 2 13 24 25 ∗ give (pe 2 c) 1 12 22 23
          ∗ give (pe 3 c) 0 11 20 21) -∗ WP c (k ⟨⟩) Q)
        -∗ WP c (W.on (k0_part2 (F := F)) c v2 (SemArray.scalar (sig.barrier 0 rfl)) v32 >>= k) Q) := by
  unfold sigR
  iintro ⟨#He, HO, ⟨Ht2, #Hr2, Hp2⟩, ⟨Ht3, #Hr3, Hp3⟩, Hat, Hc⟩ Hk
  dsimp only [Win.on]
  rw [k0_part2_eq_skeleton]; unfold k0_part2_skel
  simp only [semSignalWord, semWaitWord, Prog.lift, Prog.bind_op, Prog.bind_ret, Prog.pure_eq_ret, wp_deviceId]
  simp only [sem_bar, one_int, three_int, dev2, dev3]
  iapply (sig_step I K c Q (pe 2 c) 1 (pe2_ne c) rfl _) $$ [HO Ht2 Hp2]
  · isplitr; · iexact He
    isplitl [HO]; · iexact HO
    isplitl [Ht2]; · iexact Ht2
    isplitr; · iexact Hr2
    iexact Hp2
  iintro HO
  iapply (sig_step I K c Q (pe 3 c) 2 (pe3_ne c) rfl _) $$ [HO Ht3 Hp3]
  · isplitr; · iexact He
    isplitl [HO]; · iexact HO
    isplitl [Ht3]; · iexact Ht3
    isplitr; · iexact Hr3
    iexact Hp3
  iintro HO
  iapply (bar_step I K c Q 3 (above_bar c) _) $$ [HO Hat Hc]
  · isplitr; · iexact He
    isplitl [HO]; · iexact HO
    isplitl [Hat]; · iexact Hat
    iexact Hc
  iexact Hk

theorem part3 (Q : PUnit → sProp 𝕄) (v2 : BitVec 32) (k : _ → Prog (TpuEff nD τ sig (Elt F) Λ₀ .tc) PUnit) :
    iprop(env I K ∗ owesD c 3 ∗ sc c 8 ∗ sc c 10 ∗ dutyTok ER (cell (pe 1 c) 13) 0 c ∗ dutyTok ER (cell (pe 3 c) 11) 0 c
        ∗ reached ER (cell (pe 1 c) 13) 0 ∗ reached ER (cell (pe 3 c) 11) 0
        ∗ ownsTc c B8 sh1 (xbV (I c)) ∗ ownsTc c B8 sh3 (xbV (I c)) ∗ anyOf (pe 1 c) (sl B10 2) ∗ anyOf (pe 3 c) (sl B10 0))
      ⊢ iprop((iprop(owesD c 5 ∗ sw c 8 ∗ sw c 10)
          -∗ WP c (k ⟨Scalar.select (Scalar.cmpi .eq 2#32 0#32) 1#32 2#32, k0_pay2, k0_pay3, k0_pay4⟩) Q)
        -∗ WP c (W.on (k0_part3 (F := F)) c v2 >>= k) Q) := by
  iintro ⟨#He, HO, Hs8, Hs10, Ht1, Ht3, #Hr1, #Hr3, Hx1, Hx3, Hd1, Hd3⟩ Hk
  dsimp only [Win.on]
  rw [k0_part3_eq_skeleton]; unfold k0_part3_skel
  simp only [semSignalWord, semWaitWord, Prog.lift, Prog.bind_op, Prog.bind_ret, Prog.pure_eq_ret, wp_deviceId]
  iapply (send_x I K c Q (pe 1 c) _ (dev4 c) 8 13 3 2 sh1 ⟨by decide, rfl⟩ ⟨by decide, by revert c; decide⟩ rfl (by revert c; decide) ⟨rfl, rfl⟩ .rfl rfl _) $$ [HO Hs8 Ht1 Hx1 Hd1]
  · isplitr; · iexact He
    isplitl [HO]; · iexact HO
    isplitl [Hs8]; · iexact Hs8
    isplitl [Ht1]; · iexact Ht1
    isplitr; · iexact Hr1
    isplitl [Hx1]; · iexact Hx1
    iexact Hd1
  iintro ⟨HO, Hw8⟩
  iapply (send_x I K c Q (pe 3 c) _ (dev5 c) 10 11 4 0 sh3 ⟨by decide, rfl⟩ ⟨by decide, by revert c; decide⟩ rfl (by revert c; decide) ⟨rfl, rfl⟩ .rfl rfl _) $$ [HO Hs10 Ht3 Hx3 Hd3]
  · isplitr; · iexact He
    isplitl [HO]; · iexact HO
    isplitl [Hs10]; · iexact Hs10
    isplitl [Ht3]; · iexact Ht3
    isplitr; · iexact Hr3
    isplitl [Hx3]; · iexact Hx3
    iexact Hd3
  iintro ⟨HO, Hw10⟩
  iapply Hk
  isplitl [HO]; · iexact HO
  isplitl [Hw8]; · iexact Hw8
  iexact Hw10

theorem part4 (Q : PUnit → sProp 𝕄) (x : FVec F S1024x1024 .bf16) (k : _ → Prog (TpuEff nD τ sig (Elt F) Λ₀ .tc) PUnit) :
    iprop(insR W c (I c) ∗ ownsTc c B8 sh4 x)
      ⊢ iprop((iprop(insR W c (I c) ∗ ownsTc c B8 sh4 x)
          -∗ WP c (k ⟨maskV, k0_pay6, prodF x (I c).w, qV (I c) x, kV (I c) x⟩) Q)
        -∗ WP c (W.on (k0_part4 (F := F)) (Scalar.select (Scalar.cmpi .eq 2#32 0#32) 1#32 2#32) k0_pay2 k0_pay3 k0_pay4 >>= k) Q) := by
  iintro ⟨Hi, H8⟩ Hk
  dsimp only [Win.on]
  rw [k0_part4_eq_skeleton]; unfold k0_part4_skel
  simp only [semSignalWord, semWaitWord, Prog.lift, Prog.bind_op, Prog.bind_ret, Prog.pure_eq_ret, wp_deviceId]
  iapply (ldF c B8 Q ![0, 0] _ zero2 sh4 x _) $$ H8
  iintro H8
  iapply (ldI1 W c (I c) Q ![0, 0] _ zero2 _) $$ Hi
  iintro Hi
  iapply (ldI5 W c (I c) Q ![0, 0] _ zero2 _) $$ Hi
  iintro Hi
  iapply (ldI6 W c (I c) Q ![0, 0] _ zero2 _) $$ Hi
  iintro Hi
  iapply (ldI3 W c (I c) Q ![0, 0] _ zero2 _) $$ Hi
  iintro Hi
  iapply (ldI4 W c (I c) Q ![0, 0] _ zero2 _) $$ Hi
  iintro Hi
  iapply Hk
  isplitl [Hi]; · iexact Hi
  iexact H8

theorem part5 (Q : PUnit → sProp 𝕄) (v2 : BitVec 32) (x : FVec F S1024x1024 .bf16) (k : _ → Prog (TpuEff nD τ sig (Elt F) Λ₀ .tc) PUnit) :
    iprop(env I K ∗ owesD c 5 ∗ sc c 9 ∗ dutyTok ER (cell (pe 2 c) 12) 0 c ∗ reached ER (cell (pe 2 c) 12) 0
        ∗ ownsTc c B8 sh2 (xbV (I c)) ∗ anyOf (pe 2 c) (sl B10 1) ∗ anyOf c (sl B9 0) ∗ anyOf c (sl B9 1) ∗ anyOf c (sl B9 2))
      ⊢ iprop((iprop(owesD c 6 ∗ sw c 9 ∗ ownsTc c (sl B9 0) fullShare (lift (qV (I c) x)) ∗ ownsTc c (sl B9 1) fullShare (lift (kV (I c) x))
          ∗ ownsTc c (sl B9 2) fullShare (lift (vV (I c) x))) -∗ WP c (k ⟨⟩) Q)
        -∗ WP c (W.on (k0_part5 (F := F)) c v2 (prodF x (I c).w) (qV (I c) x) (kV (I c) x) >>= k) Q) := by
  iintro ⟨#He, HO, Hs9, Ht2, #Hr2, Hx2, Hd2, Ha, Hb, Hc⟩ Hk
  dsimp only [Win.on]
  rw [k0_part5_eq_skeleton]; unfold k0_part5_skel
  simp only [semSignalWord, semWaitWord, Prog.lift, Prog.bind_op, Prog.bind_ret, Prog.pure_eq_ret, wp_deviceId]
  iapply (ld_any c Q B9 _ (fun _ => rfl) _) $$ Ha
  iintro %X0 Ha
  iapply (st_any c Q B9 _ (fun _ => rfl) _ _) $$ Ha
  iintro Ha
  iapply (ld_any c Q B9 _ (fun _ => rfl) _) $$ Hb
  iintro %X1 Hb
  iapply (st_any c Q B9 _ (fun _ => rfl) _ _) $$ Hb
  iintro Hb
  iapply (ld_any c Q B9 _ (fun _ => rfl) _) $$ Hc
  iintro %X2 Hc
  iapply (st_any c Q B9 _ (fun _ => rfl) _ _) $$ Hc
  iintro Hc
  iapply (send_x I K c Q (pe 2 c) _ (dev6 c) 9 12 5 1 sh2 ⟨by decide, rfl⟩ ⟨by decide, by revert c; decide⟩ rfl (by revert c; decide) ⟨rfl, rfl⟩ .rfl rfl _) $$ [HO Hs9 Ht2 Hx2 Hd2]
  · isplitr; · iexact He
    isplitl [HO]; · iexact HO
    isplitl [Hs9]; · iexact Hs9
    isplitl [Ht2]; · iexact Ht2
    isplitr; · iexact Hr2
    isplitl [Hx2]; · iexact Hx2
    iexact Hd2
  iintro ⟨HO, Hw9⟩
  iapply Hk
  isplitl [HO]; · iexact HO
  isplitl [Hw9]; · iexact Hw9
  isplitl [Ha]; · iexact Ha
  isplitl [Hb]; · iexact Hb
  iexact Hc

theorem part6 (Q : PUnit → sProp 𝕄) (q k' v : FVec F S1024x1024 .bf16) (k : _ → Prog (TpuEff nD τ sig (Elt F) Λ₀ .tc) PUnit) :
    iprop(insR W c (I c) ∗ ownsTc c (sl B9 0) fullShare (lift q) ∗ ownsTc c (sl B9 1) fullShare (lift k')
          ∗ ownsTc c (sl B9 2) fullShare (lift v) ∗ anyOf c W.a7)
      ⊢ iprop((iprop(insR W c (I c) ∗ ownsTc c (sl B9 0) fullShare (lift q) ∗ ownsTc c (sl B9 1) fullShare (lift k')
          ∗ ownsTc c (sl B9 2) fullShare (lift v) ∗ ownsTc c W.a7 fullShare (ownA q k' v (woA (I c).wo))) -∗ WP c (k ⟨⟩) Q)
        -∗ WP c (W.on (k0_part6 (F := F)) k0_pay6 >>= k) Q) := by
  iintro ⟨Hi, Ha, Hb, Hc, Ho⟩ Hk
  dsimp only [Win.on]
  rw [k0_part6_eq_skeleton]; unfold k0_part6_skel
  simp only [semSignalWord, semWaitWord, Prog.lift, Prog.bind_op, Prog.bind_ret, Prog.pure_eq_ret, wp_deviceId]
  iapply (ld_slice c Q B9 _ (fun _ => rfl) fullShare (lift q) _) $$ Ha
  iintro Ha
  iapply (ld_slice c Q B9 _ (fun _ => rfl) fullShare (lift k') _) $$ Hb
  iintro Hb
  iapply (ld_slice c Q B9 _ (fun _ => rfl) fullShare (lift v) _) $$ Hc
  iintro Hc
  iapply (ldI2r W c (I c) Q _ _) $$ Hi
  iintro Hi
  iapply (ldF_any c W.a7 Q ![0, 0, 0] _ zero3 _) $$ Ho
  iintro %X Ho
  iapply (stF_any c W.a7 Q ![0, 0, 0] _ zero3 _ _) $$ Ho
  iintro Ho
  rw [← pay13_eq q k' v]
  iapply Hk
  isplitl [Hi]; · iexact Hi
  isplitl [Ha]; · iexact Ha
  isplitl [Hb]; · iexact Hb
  isplitl [Hc]; · iexact Hc
  iexact Ho

end Parts

end Cert.KernelIdeal.Talk

end
-- ==== Proof.BodyB.lean ====
/-
  The parts of the body that form the partial output of the first device met and send it back.
-/
module

public import proofs.«01_k».proof.Proof.BodyA

@[expose] public section

set_option maxRecDepth 16384

noncomputable section

namespace Cert.KernelIdeal.Talk

open Idealize.ShloMosaic Idealize.ShloMosaic.TcCoe
open Cert.KernelIdeal Cert.KernelIdeal.Gen
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

section Parts

variable (I : Dev nD → Ins F) (K : GSem nD τ sig → ℕ) (W : Win) (c : Dev nD)

theorem part7 (Q : PUnit → sProp 𝕄) (v2 : BitVec 32) (X : FVec F S1x1024x1024 .bf16) (hX : lift (xbV (I (pe 1 c))) = X) (k : _ → Prog (TpuEff nD τ sig (Elt F) Λ₀ .tc) PUnit) :
    iprop(env I K ∗ owesD c 6 ∗ insR W c (I c) ∗ sw c 11)
      ⊢ iprop((iprop(owesD c 6 ∗ insR W c (I c) ∗ semVal (cell c 11) 0 ∗ ownsTc c (sl B10 0) fullShare (lift (xbV (I (pe 1 c)))))
          -∗ WP c (k ⟨(prodF (flat X) (I c).w), (qV (I c) (flat X)), k0_pay16 (I c).cb, k0_pay17 (I c).sb, k0_pay18 X (I c).w, k0_pay19 X (I c).w, k0_pay20 X (I c).w⟩) Q)
        -∗ WP c (W.on (k0_part7 (F := F)) v2 maskV >>= k) Q) := by
  subst hX
  iintro ⟨#He, HO, Hi, Hv⟩ Hk
  dsimp only [Win.on]
  rw [k0_part7_eq_skeleton]; unfold k0_part7_skel
  simp only [semSignalWord, semWaitWord, Prog.lift, Prog.bind_op, Prog.bind_ret, Prog.pure_eq_ret, wp_deviceId]
  iapply (wait_step I K c Q 11 6 nx (by decide) (drop_sub c (by decide) (above_x c 11 (by decide))) _ ((sl B10 0).squeeze S1024x1024 squeezes_S1x1024x1024_S1024x1024) rfl rfl _) $$ [HO Hv]
  · isplitr; · iexact He
    isplitl [HO]; · iexact HO
    iexact Hv
  iintro ⟨HO, Hz, Hx⟩
  ihave Hx := (show dmaPay I c 11 ⊢ ownsTc c (sl B10 0) fullShare (lift (xbV (I (pe 1 c)))) from .rfl) $$ Hx
  iapply (ld_slice c Q B10 _ (fun _ => rfl) fullShare _ _) $$ Hx
  iintro Hx
  iapply (ldI1 W c (I c) Q ![0, 0] _ zero2 _) $$ Hi
  iintro Hi
  iapply (ldI5 W c (I c) Q ![0, 0] _ zero2 _) $$ Hi
  iintro Hi
  iapply (ldI6 W c (I c) Q ![0, 0] _ zero2 _) $$ Hi
  iintro Hi
  iapply (ldI3 W c (I c) Q ![0, 0] _ zero2 _) $$ Hi
  iintro Hi
  iapply (ldI4 W c (I c) Q ![0, 0] _ zero2 _) $$ Hi
  iintro Hi
  iapply Hk
  isplitl [HO]; · iexact HO
  isplitl [Hi]; · iexact Hi
  isplitl [Hz]; · iexact Hz
  iexact Hx

theorem part8 (Q : PUnit → sProp 𝕄) (X : FVec F S1x1024x1024 .bf16) (k : _ → Prog (TpuEff nD τ sig (Elt F) Λ₀ .tc) PUnit) :
    WP c (k ⟨(kV (I c) (flat X)), (vV (I c) (flat X)), hd 0 0 (qV (I c) (flat X)) (kV (I c) (flat X)) (vV (I c) (flat X)), hd 0 1 (qV (I c) (flat X)) (kV (I c) (flat X)) (vV (I c) (flat X)), hd 0 2 (qV (I c) (flat X)) (kV (I c) (flat X)) (vV (I c) (flat X)), k0_pay26 maskV (qV (I c) (flat X)) (k0_pay16 (I c).cb) (k0_pay17 (I c).sb) (k0_pay18 X (I c).w) (k0_pay19 X (I c).w) (k0_pay20 X (I c).w), k0_pay27 k0_pay6 (prodF (flat X) (I c).w), constant S512x256 .f32 0x00000000#32⟩) Q ⊢ WP c (W.on (k0_part8 (F := F)) maskV k0_pay6 (prodF (flat X) (I c).w) (qV (I c) (flat X)) (k0_pay16 (I c).cb) (k0_pay17 (I c).sb) (k0_pay18 X (I c).w) (k0_pay19 X (I c).w) (k0_pay20 X (I c).w) >>= k) Q := by
  dsimp only [Win.on]
  rw [k0_part8_eq_skeleton]; unfold k0_part8_skel
  simp only [semSignalWord, semWaitWord, Prog.lift, Prog.bind_op, Prog.bind_ret, Prog.pure_eq_ret, wp_deviceId]
  exact BIBase.Entails.rfl

theorem part9 (Q : PUnit → sProp 𝕄) (X : FVec F S1x1024x1024 .bf16) (k : _ → Prog (TpuEff nD τ sig (Elt F) Λ₀ .tc) PUnit) :
    WP c (k ⟨hd 0 3 (qV (I c) (flat X)) (kV (I c) (flat X)) (vV (I c) (flat X)), hd 0 4 (qV (I c) (flat X)) (kV (I c) (flat X)) (vV (I c) (flat X)), hd 0 5 (qV (I c) (flat X)) (kV (I c) (flat X)) (vV (I c) (flat X)), hd 0 6 (qV (I c) (flat X)) (kV (I c) (flat X)) (vV (I c) (flat X)), k0_pay32 (qV (I c) (flat X)) (kV (I c) (flat X)), k0_pay33 k0_pay6 (vV (I c) (flat X)), constant S512x256 .f32 0x00000000#32⟩) Q ⊢ WP c (W.on (k0_part9 (F := F)) k0_pay6 (qV (I c) (flat X)) (kV (I c) (flat X)) (vV (I c) (flat X)) (k0_pay26 maskV (qV (I c) (flat X)) (k0_pay16 (I c).cb) (k0_pay17 (I c).sb) (k0_pay18 X (I c).w) (k0_pay19 X (I c).w) (k0_pay20 X (I c).w)) (k0_pay27 k0_pay6 (prodF (flat X) (I c).w)) (constant S512x256 .f32 0x00000000#32) >>= k) Q := by
  dsimp only [Win.on]
  rw [k0_part9_eq_skeleton]; unfold k0_part9_skel
  simp only [semSignalWord, semWaitWord, Prog.lift, Prog.bind_op, Prog.bind_ret, Prog.pure_eq_ret, wp_deviceId]
  exact BIBase.Entails.rfl

theorem part10 (Q : PUnit → sProp 𝕄) (v2 : BitVec 32) (a0 a1 a2 a3 a4 a5 a6 : FVec F S512x128 .bf16) (e : FVec F S512x1024 .bf16) (o : FVec F S1024x256 .bf16) (z : FVec F S512x256 .f32) (Y : FVec F S1x512x1024 .bf16) (hY : k0_pay34 a0 a1 a2 a3 a4 a5 a6 e o z (I c).wo = Y)
    (k : _ → Prog (TpuEff nD τ sig (Elt F) Λ₀ .tc) PUnit) :
    iprop(insR W c (I c) ∗ anyOf c (slh B11 0 0))
      ⊢ iprop((iprop(insR W c (I c) ∗ ownsTc c (slh B11 0 0) fullShare Y) -∗ WP c (k ⟨⟩) Q)
        -∗ WP c (W.on (k0_part10 (F := F)) v2 a0 a1 a2 a3 a4 a5 a6 e o z >>= k) Q) := by
  iintro ⟨Hi, Ho⟩ Hk
  dsimp only [Win.on]
  rw [k0_part10_eq_skeleton]; unfold k0_part10_skel
  simp only [semSignalWord, semWaitWord, Prog.lift, Prog.bind_op, Prog.bind_ret, Prog.pure_eq_ret, wp_deviceId]
  iapply (ldI2 W c (I c) Q ![0, 0] _ zero2 _) $$ Hi
  iintro Hi
  iapply (ld_any c Q B11 _ (fun _ => rfl) _) $$ Ho
  iintro %Z Ho
  iapply (st_any c Q B11 _ (fun _ => rfl) _ _) $$ Ho
  iintro Ho
  subst hY
  iapply Hk
  isplitl [Hi]; · iexact Hi
  iexact Ho

theorem part11 (Q : PUnit → sProp 𝕄) (X : FVec F S1x1024x1024 .bf16)  (k : _ → Prog (TpuEff nD τ sig (Elt F) Λ₀ .tc) PUnit) :
    iprop(env I K ∗ owesD c 6 ∗ sc c 14 ∗ dutyTok ER (cell (pe 1 c) 24) 0 c ∗ reached ER (cell (pe 1 c) 24) 0
        ∗ ownsTc c (slh B11 0 0) fullShare (partV (I c) (xbV (I (pe 1 c))) 0) ∗ anyOf (pe 1 c) (slh B12 2 0))
      ⊢ iprop((iprop(owesD c 7 ∗ sw c 14)
          -∗ WP c (k ⟨hd 1 0 (qV (I c) (flat X)) (kV (I c) (flat X)) (vV (I c) (flat X)), hd 1 1 (qV (I c) (flat X)) (kV (I c) (flat X)) (vV (I c) (flat X)), hd 1 2 (qV (I c) (flat X)) (kV (I c) (flat X)) (vV (I c) (flat X)), k0_pay38 k0_pay6 (qV (I c) (flat X)) (kV (I c) (flat X)) (vV (I c) (flat X)), k0_pay39 k0_pay6 (qV (I c) (flat X)) (kV (I c) (flat X)) (vV (I c) (flat X))⟩) Q)
        -∗ WP c (W.on (k0_part11 (F := F)) c k0_pay6 (qV (I c) (flat X)) (kV (I c) (flat X)) (vV (I c) (flat X)) >>= k) Q) := by
  iintro ⟨#He, HO, Hs, Ht, #Hr, Hp, Hd⟩ Hk
  dsimp only [Win.on]
  rw [k0_part11_eq_skeleton]; unfold k0_part11_skel
  simp only [semSignalWord, semWaitWord, Prog.lift, Prog.bind_op, Prog.bind_ret, Prog.pure_eq_ret, wp_deviceId]
  iapply (send_p I K c Q (pe 1 c) _ (dev7 c) 14 24 6 0 2 0 ⟨by decide, rfl⟩ ⟨by decide, by revert c; decide⟩ rfl (by revert c; decide) ⟨rfl, rfl⟩ rfl rfl _) $$ [HO Hs Ht Hp Hd]
  · isplitr; · iexact He
    isplitl [HO]; · iexact HO
    isplitl [Hs]; · iexact Hs
    isplitl [Ht]; · iexact Ht
    isplitr; · iexact Hr
    isplitl [Hp]; · iexact Hp
    iexact Hd
  iintro ⟨HO, Hw⟩
  iapply Hk
  isplitl [HO]; · iexact HO
  iexact Hw

theorem part12 (Q : PUnit → sProp 𝕄) (X : FVec F S1x1024x1024 .bf16) (k : _ → Prog (TpuEff nD τ sig (Elt F) Λ₀ .tc) PUnit) :
    WP c (k ⟨hd 1 3 (qV (I c) (flat X)) (kV (I c) (flat X)) (vV (I c) (flat X)), hd 1 4 (qV (I c) (flat X)) (kV (I c) (flat X)) (vV (I c) (flat X)), hd 1 5 (qV (I c) (flat X)) (kV (I c) (flat X)) (vV (I c) (flat X)), hd 1 6 (qV (I c) (flat X)) (kV (I c) (flat X)) (vV (I c) (flat X)), k0_pay44 k0_pay6 (qV (I c) (flat X)) (kV (I c) (flat X)) (vV (I c) (flat X)), k0_pay45 k0_pay6 (qV (I c) (flat X)) (kV (I c) (flat X)) (vV (I c) (flat X))⟩) Q ⊢ WP c (W.on (k0_part12 (F := F)) k0_pay6 (qV (I c) (flat X)) (kV (I c) (flat X)) (vV (I c) (flat X)) (k0_pay38 k0_pay6 (qV (I c) (flat X)) (kV (I c) (flat X)) (vV (I c) (flat X))) (k0_pay39 k0_pay6 (qV (I c) (flat X)) (kV (I c) (flat X)) (vV (I c) (flat X))) >>= k) Q := by
  dsimp only [Win.on]
  rw [k0_part12_eq_skeleton]; unfold k0_part12_skel
  simp only [semSignalWord, semWaitWord, Prog.lift, Prog.bind_op, Prog.bind_ret, Prog.pure_eq_ret, wp_deviceId]
  exact BIBase.Entails.rfl

theorem part13 (Q : PUnit → sProp 𝕄) (v2 : BitVec 32) (a0 a1 a2 a3 a4 a5 a6 : FVec F S512x128 .bf16) (e : FVec F S512x256 .f32) (o : FVec F S512x128 .f32) (Y : FVec F S1x512x1024 .bf16) (hY : k0_pay46 a0 a1 a2 a3 a4 a5 a6 e o (I c).wo = Y)
    (k : _ → Prog (TpuEff nD τ sig (Elt F) Λ₀ .tc) PUnit) :
    iprop(insR W c (I c) ∗ anyOf c (slh B11 0 1))
      ⊢ iprop((iprop(insR W c (I c) ∗ ownsTc c (slh B11 0 1) fullShare Y) -∗ WP c (k ⟨⟩) Q)
        -∗ WP c (W.on (k0_part13 (F := F)) v2 a0 a1 a2 a3 a4 a5 a6 e o >>= k) Q) := by
  iintro ⟨Hi, Ho⟩ Hk
  dsimp only [Win.on]
  rw [k0_part13_eq_skeleton]; unfold k0_part13_skel
  simp only [semSignalWord, semWaitWord, Prog.lift, Prog.bind_op, Prog.bind_ret, Prog.pure_eq_ret, wp_deviceId]
  iapply (ldI2 W c (I c) Q ![0, 0] _ zero2 _) $$ Hi
  iintro Hi
  iapply (ld_any c Q B11 _ (fun _ => rfl) _) $$ Ho
  iintro %Z Ho
  iapply (st_any c Q B11 _ (fun _ => rfl) _ _) $$ Ho
  iintro Ho
  subst hY
  iapply Hk
  isplitl [Hi]; · iexact Hi
  iexact Ho

end Parts

end Cert.KernelIdeal.Talk

end
-- ==== Proof.BodyC.lean ====
/-
  The parts of the body that form the partial output of the second device met and send it back.
-/
module

public import proofs.«01_k».proof.Proof.BodyA

@[expose] public section

set_option maxRecDepth 16384

noncomputable section

namespace Cert.KernelIdeal.Talk

open Idealize.ShloMosaic Idealize.ShloMosaic.TcCoe
open Cert.KernelIdeal Cert.KernelIdeal.Gen
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

section Parts

variable (I : Dev nD → Ins F) (K : GSem nD τ sig → ℕ) (W : Win) (c : Dev nD)

theorem part14 (Q : PUnit → sProp 𝕄) (X : FVec F S1x1024x1024 .bf16) (hX : lift (xbV (I (pe 2 c))) = X) (v2 : BitVec 32) (k : _ → Prog (TpuEff nD τ sig (Elt F) Λ₀ .tc) PUnit) :
    iprop(env I K ∗ owesD c 7 ∗ sc c 15 ∗ dutyTok ER (cell (pe 1 c) 25) 0 c ∗ reached ER (cell (pe 1 c) 25) 0
        ∗ ownsTc c (slh B11 0 1) fullShare (partV (I c) (xbV (I (pe 1 c))) 1) ∗ anyOf (pe 1 c) (slh B12 2 1)
        ∗ insR W c (I c) ∗ sw c 12)
      ⊢ iprop((iprop(owesD c 8 ∗ sw c 15 ∗ insR W c (I c) ∗ semVal (cell c 12) 0 ∗ ownsTc c (sl B10 1) fullShare (lift (xbV (I (pe 2 c)))))
          -∗ WP c (k ⟨(prodF (flat X) (I c).w), (qV (I c) (flat X)), k0_pay49 (I c).cb, k0_pay50 (I c).sb, k0_pay51 X (I c).w, k0_pay52 X (I c).w⟩) Q)
        -∗ WP c (W.on (k0_part14 (F := F)) c v2 maskV >>= k) Q) := by
  iintro ⟨#He, HO, Hs, Ht, #Hr, Hp, Hd, Hi, Hv⟩ Hk
  dsimp only [Win.on]
  rw [k0_part14_eq_skeleton]; unfold k0_part14_skel
  simp only [semSignalWord, semWaitWord, Prog.lift, Prog.bind_op, Prog.bind_ret, Prog.pure_eq_ret, wp_deviceId]
  subst hX
  iapply (send_p I K c Q (pe 1 c) _ (dev8 c) 15 25 7 0 2 1 ⟨by decide, rfl⟩ ⟨by decide, by revert c; decide⟩ rfl (by revert c; decide) ⟨rfl, rfl⟩ rfl rfl _) $$ [HO Hs Ht Hp Hd]
  · isplitr; · iexact He
    isplitl [HO]; · iexact HO
    isplitl [Hs]; · iexact Hs
    isplitl [Ht]; · iexact Ht
    isplitr; · iexact Hr
    isplitl [Hp]; · iexact Hp
    iexact Hd
  iintro ⟨HO, Hw⟩
  iapply (wait_step I K c Q 12 8 nx (by decide) (drop_sub c (by decide) (above_x c 12 (by decide))) _ ((sl B10 1).squeeze S1024x1024 squeezes_S1x1024x1024_S1024x1024) rfl rfl _) $$ [HO Hv]
  · isplitr; · iexact He
    isplitl [HO]; · iexact HO
    iexact Hv
  iintro ⟨HO, Hz, Hx⟩
  ihave Hx := (show dmaPay I c 12 ⊢ ownsTc c (sl B10 1) fullShare (lift (xbV (I (pe 2 c)))) from .rfl) $$ Hx
  iapply (ld_slice c Q B10 _ (fun _ => rfl) fullShare _ _) $$ Hx
  iintro Hx
  iapply (ldI1 W c (I c) Q ![0, 0] _ zero2 _) $$ Hi
  iintro Hi
  iapply (ldI5 W c (I c) Q ![0, 0] _ zero2 _) $$ Hi
  iintro Hi
  iapply (ldI6 W c (I c) Q ![0, 0] _ zero2 _) $$ Hi
  iintro Hi
  iapply (ldI3 W c (I c) Q ![0, 0] _ zero2 _) $$ Hi
  iintro Hi
  iapply (ldI4 W c (I c) Q ![0, 0] _ zero2 _) $$ Hi
  iintro Hi
  iapply Hk
  isplitl [HO]; · iexact HO
  isplitl [Hw]; · iexact Hw
  isplitl [Hi]; · iexact Hi
  isplitl [Hz]; · iexact Hz
  iexact Hx

theorem part15 (Q : PUnit → sProp 𝕄) (X : FVec F S1x1024x1024 .bf16) (k : _ → Prog (TpuEff nD τ sig (Elt F) Λ₀ .tc) PUnit) :
    WP c (k ⟨(kV (I c) (flat X)), (vV (I c) (flat X)), hd 0 0 (qV (I c) (flat X)) (kV (I c) (flat X)) (vV (I c) (flat X)), hd 0 1 (qV (I c) (flat X)) (kV (I c) (flat X)) (vV (I c) (flat X)), hd 0 2 (qV (I c) (flat X)) (kV (I c) (flat X)) (vV (I c) (flat X)), k0_pay58 maskV (qV (I c) (flat X)) (k0_pay49 (I c).cb) (k0_pay50 (I c).sb) (k0_pay51 X (I c).w) (k0_pay52 X (I c).w)⟩) Q ⊢ WP c (W.on (k0_part15 (F := F)) maskV k0_pay6 (prodF (flat X) (I c).w) (qV (I c) (flat X)) (k0_pay49 (I c).cb) (k0_pay50 (I c).sb) (k0_pay51 X (I c).w) (k0_pay52 X (I c).w) >>= k) Q := by
  dsimp only [Win.on]
  rw [k0_part15_eq_skeleton]; unfold k0_part15_skel
  simp only [semSignalWord, semWaitWord, Prog.lift, Prog.bind_op, Prog.bind_ret, Prog.pure_eq_ret, wp_deviceId]
  exact BIBase.Entails.rfl

theorem part16 (Q : PUnit → sProp 𝕄) (X : FVec F S1x1024x1024 .bf16) (k : _ → Prog (TpuEff nD τ sig (Elt F) Λ₀ .tc) PUnit) :
    WP c (k ⟨hd 0 3 (qV (I c) (flat X)) (kV (I c) (flat X)) (vV (I c) (flat X)), hd 0 4 (qV (I c) (flat X)) (kV (I c) (flat X)) (vV (I c) (flat X)), hd 0 5 (qV (I c) (flat X)) (kV (I c) (flat X)) (vV (I c) (flat X)), hd 0 6 (qV (I c) (flat X)) (kV (I c) (flat X)) (vV (I c) (flat X)), k0_pay63 (qV (I c) (flat X)) (kV (I c) (flat X))⟩) Q ⊢ WP c (W.on (k0_part16 (F := F)) k0_pay6 (qV (I c) (flat X)) (kV (I c) (flat X)) (vV (I c) (flat X)) (k0_pay58 maskV (qV (I c) (flat X)) (k0_pay49 (I c).cb) (k0_pay50 (I c).sb) (k0_pay51 X (I c).w) (k0_pay52 X (I c).w)) >>= k) Q := by
  dsimp only [Win.on]
  rw [k0_part16_eq_skeleton]; unfold k0_part16_skel
  simp only [semSignalWord, semWaitWord, Prog.lift, Prog.bind_op, Prog.bind_ret, Prog.pure_eq_ret, wp_deviceId]
  exact BIBase.Entails.rfl

theorem part17 (Q : PUnit → sProp 𝕄) (v2 : BitVec 32) (a0 a1 a2 a3 a4 a5 a6 : FVec F S512x128 .bf16) (o : FVec F S1024x128 .bf16) (v : FVec F S1024x1024 .bf16) (e : FVec F S512x1024 .f32) (Y : FVec F S1x512x1024 .bf16) (hY : k0_pay64 o v a0 a1 a2 a3 a4 a5 a6 e (I c).wo = Y)
    (k : _ → Prog (TpuEff nD τ sig (Elt F) Λ₀ .tc) PUnit) :
    iprop(insR W c (I c) ∗ anyOf c (slh B11 1 0))
      ⊢ iprop((iprop(insR W c (I c) ∗ ownsTc c (slh B11 1 0) fullShare Y) -∗ WP c (k ⟨⟩) Q)
        -∗ WP c (W.on (k0_part17 (F := F)) v2 o v a0 a1 a2 a3 a4 a5 a6 e >>= k) Q) := by
  iintro ⟨Hi, Ho⟩ Hk
  dsimp only [Win.on]
  rw [k0_part17_eq_skeleton]; unfold k0_part17_skel
  simp only [semSignalWord, semWaitWord, Prog.lift, Prog.bind_op, Prog.bind_ret, Prog.pure_eq_ret, wp_deviceId]
  iapply (ldI2 W c (I c) Q ![0, 0] _ zero2 _) $$ Hi
  iintro Hi
  iapply (ld_any c Q B11 _ (fun _ => rfl) _) $$ Ho
  iintro %Z Ho
  iapply (st_any c Q B11 _ (fun _ => rfl) _ _) $$ Ho
  iintro Ho
  subst hY
  iapply Hk
  isplitl [Hi]; · iexact Hi
  iexact Ho

theorem part18 (Q : PUnit → sProp 𝕄) (X : FVec F S1x1024x1024 .bf16)  (k : _ → Prog (TpuEff nD τ sig (Elt F) Λ₀ .tc) PUnit) :
    iprop(env I K ∗ owesD c 8 ∗ sc c 16 ∗ dutyTok ER (cell (pe 2 c) 22) 0 c ∗ reached ER (cell (pe 2 c) 22) 0
        ∗ ownsTc c (slh B11 1 0) fullShare (partV (I c) (xbV (I (pe 2 c))) 0) ∗ anyOf (pe 2 c) (slh B12 1 0))
      ⊢ iprop((iprop(owesD c 9 ∗ sw c 16)
          -∗ WP c (k ⟨hd 1 0 (qV (I c) (flat X)) (kV (I c) (flat X)) (vV (I c) (flat X)), hd 1 1 (qV (I c) (flat X)) (kV (I c) (flat X)) (vV (I c) (flat X)), hd 1 2 (qV (I c) (flat X)) (kV (I c) (flat X)) (vV (I c) (flat X)), k0_pay68 (qV (I c) (flat X)) (kV (I c) (flat X))⟩) Q)
        -∗ WP c (W.on (k0_part18 (F := F)) c k0_pay6 (qV (I c) (flat X)) (kV (I c) (flat X)) (vV (I c) (flat X)) >>= k) Q) := by
  iintro ⟨#He, HO, Hs, Ht, #Hr, Hp, Hd⟩ Hk
  dsimp only [Win.on]
  rw [k0_part18_eq_skeleton]; unfold k0_part18_skel
  simp only [semSignalWord, semWaitWord, Prog.lift, Prog.bind_op, Prog.bind_ret, Prog.pure_eq_ret, wp_deviceId]
  iapply (send_p I K c Q (pe 2 c) _ (dev9 c) 16 22 8 1 1 0 ⟨by decide, rfl⟩ ⟨by decide, by revert c; decide⟩ rfl (by revert c; decide) ⟨rfl, rfl⟩ rfl rfl _) $$ [HO Hs Ht Hp Hd]
  · isplitr; · iexact He
    isplitl [HO]; · iexact HO
    isplitl [Hs]; · iexact Hs
    isplitl [Ht]; · iexact Ht
    isplitr; · iexact Hr
    isplitl [Hp]; · iexact Hp
    iexact Hd
  iintro ⟨HO, Hw⟩
  iapply Hk
  isplitl [HO]; · iexact HO
  iexact Hw

theorem part19 (Q : PUnit → sProp 𝕄) (X : FVec F S1x1024x1024 .bf16) (k : _ → Prog (TpuEff nD τ sig (Elt F) Λ₀ .tc) PUnit) :
    WP c (k ⟨hd 1 3 (qV (I c) (flat X)) (kV (I c) (flat X)) (vV (I c) (flat X)), hd 1 4 (qV (I c) (flat X)) (kV (I c) (flat X)) (vV (I c) (flat X)), hd 1 5 (qV (I c) (flat X)) (kV (I c) (flat X)) (vV (I c) (flat X)), hd 1 6 (qV (I c) (flat X)) (kV (I c) (flat X)) (vV (I c) (flat X)), k0_pay73 (qV (I c) (flat X)) (kV (I c) (flat X))⟩) Q ⊢ WP c (W.on (k0_part19 (F := F)) k0_pay6 (qV (I c) (flat X)) (kV (I c) (flat X)) (vV (I c) (flat X)) (k0_pay68 (qV (I c) (flat X)) (kV (I c) (flat X))) >>= k) Q := by
  dsimp only [Win.on]
  rw [k0_part19_eq_skeleton]; unfold k0_part19_skel
  simp only [semSignalWord, semWaitWord, Prog.lift, Prog.bind_op, Prog.bind_ret, Prog.pure_eq_ret, wp_deviceId]
  exact BIBase.Entails.rfl

theorem part20 (Q : PUnit → sProp 𝕄) (v2 : BitVec 32) (a0 a1 a2 a3 a4 a5 a6 : FVec F S512x128 .bf16) (o : FVec F S1024x128 .bf16) (v : FVec F S1024x1024 .bf16) (e : FVec F S512x1024 .bf16) (Y : FVec F S1x512x1024 .bf16) (hY : k0_pay74 o v a0 a1 a2 a3 a4 a5 a6 e (I c).wo = Y)
    (k : _ → Prog (TpuEff nD τ sig (Elt F) Λ₀ .tc) PUnit) :
    iprop(insR W c (I c) ∗ anyOf c (slh B11 1 1))
      ⊢ iprop((iprop(insR W c (I c) ∗ ownsTc c (slh B11 1 1) fullShare Y) -∗ WP c (k ⟨⟩) Q)
        -∗ WP c (W.on (k0_part20 (F := F)) v2 o v a0 a1 a2 a3 a4 a5 a6 e >>= k) Q) := by
  iintro ⟨Hi, Ho⟩ Hk
  dsimp only [Win.on]
  rw [k0_part20_eq_skeleton]; unfold k0_part20_skel
  simp only [semSignalWord, semWaitWord, Prog.lift, Prog.bind_op, Prog.bind_ret, Prog.pure_eq_ret, wp_deviceId]
  iapply (ldI2 W c (I c) Q ![0, 0] _ zero2 _) $$ Hi
  iintro Hi
  iapply (ld_any c Q B11 _ (fun _ => rfl) _) $$ Ho
  iintro %Z Ho
  iapply (st_any c Q B11 _ (fun _ => rfl) _ _) $$ Ho
  iintro Ho
  subst hY
  iapply Hk
  isplitl [Hi]; · iexact Hi
  iexact Ho

end Parts

end Cert.KernelIdeal.Talk

end
-- ==== Proof.BodyD.lean ====
/-
  The parts of the body that form the partial output of the third device met and send it back.
-/
module

public import proofs.«01_k».proof.Proof.BodyA

@[expose] public section

set_option maxRecDepth 16384

noncomputable section

namespace Cert.KernelIdeal.Talk

open Idealize.ShloMosaic Idealize.ShloMosaic.TcCoe
open Cert.KernelIdeal Cert.KernelIdeal.Gen
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

section Parts

variable (I : Dev nD → Ins F) (K : GSem nD τ sig → ℕ) (W : Win) (c : Dev nD)

theorem part21 (Q : PUnit → sProp 𝕄) (X : FVec F S1x1024x1024 .bf16) (hX : lift (xbV (I (pe 3 c))) = X) (v2 : BitVec 32) (k : _ → Prog (TpuEff nD τ sig (Elt F) Λ₀ .tc) PUnit) :
    iprop(env I K ∗ owesD c 9 ∗ sc c 17 ∗ dutyTok ER (cell (pe 2 c) 23) 0 c ∗ reached ER (cell (pe 2 c) 23) 0
        ∗ ownsTc c (slh B11 1 1) fullShare (partV (I c) (xbV (I (pe 2 c))) 1) ∗ anyOf (pe 2 c) (slh B12 1 1)
        ∗ insR W c (I c) ∗ sw c 13)
      ⊢ iprop((iprop(owesD c 10 ∗ sw c 17 ∗ insR W c (I c) ∗ semVal (cell c 13) 0 ∗ ownsTc c (sl B10 2) fullShare (lift (xbV (I (pe 3 c)))))
          -∗ WP c (k ⟨(prodF (flat X) (I c).w), (qV (I c) (flat X)), k0_pay77 X (I c).w, k0_pay78 (I c).cb⟩) Q)
        -∗ WP c (W.on (k0_part21 (F := F)) c v2 maskV >>= k) Q) := by
  iintro ⟨#He, HO, Hs, Ht, #Hr, Hp, Hd, Hi, Hv⟩ Hk
  dsimp only [Win.on]
  rw [k0_part21_eq_skeleton]; unfold k0_part21_skel
  simp only [semSignalWord, semWaitWord, Prog.lift, Prog.bind_op, Prog.bind_ret, Prog.pure_eq_ret, wp_deviceId]
  subst hX
  iapply (send_p I K c Q (pe 2 c) _ (dev10 c) 17 23 9 1 1 1 ⟨by decide, rfl⟩ ⟨by decide, by revert c; decide⟩ rfl (by revert c; decide) ⟨rfl, rfl⟩ rfl rfl _) $$ [HO Hs Ht Hp Hd]
  · isplitr; · iexact He
    isplitl [HO]; · iexact HO
    isplitl [Hs]; · iexact Hs
    isplitl [Ht]; · iexact Ht
    isplitr; · iexact Hr
    isplitl [Hp]; · iexact Hp
    iexact Hd
  iintro ⟨HO, Hw⟩
  iapply (wait_step I K c Q 13 10 nx (by decide) (drop_sub c (by decide) (above_x c 13 (by decide))) _ ((sl B10 2).squeeze S1024x1024 squeezes_S1x1024x1024_S1024x1024) rfl rfl _) $$ [HO Hv]
  · isplitr; · iexact He
    isplitl [HO]; · iexact HO
    iexact Hv
  iintro ⟨HO, Hz, Hx⟩
  ihave Hx := (show dmaPay I c 13 ⊢ ownsTc c (sl B10 2) fullShare (lift (xbV (I (pe 3 c)))) from .rfl) $$ Hx
  iapply (ld_slice c Q B10 _ (fun _ => rfl) fullShare _ _) $$ Hx
  iintro Hx
  iapply (ldI1 W c (I c) Q ![0, 0] _ zero2 _) $$ Hi
  iintro Hi
  iapply (ldI5 W c (I c) Q ![0, 0] _ zero2 _) $$ Hi
  iintro Hi
  iapply (ldI6 W c (I c) Q ![0, 0] _ zero2 _) $$ Hi
  iintro Hi
  iapply (ldI3 W c (I c) Q ![0, 0] _ zero2 _) $$ Hi
  iintro Hi
  iapply Hk
  isplitl [HO]; · iexact HO
  isplitl [Hw]; · iexact Hw
  isplitl [Hi]; · iexact Hi
  isplitl [Hz]; · iexact Hz
  iexact Hx

theorem part22 (Q : PUnit → sProp 𝕄) (X : FVec F S1x1024x1024 .bf16) (k : _ → Prog (TpuEff nD τ sig (Elt F) Λ₀ .tc) PUnit) :
    insR W c (I c) ⊢ iprop((insR W c (I c) -∗ WP c (k ⟨(kV (I c) (flat X)), (vV (I c) (flat X)), hd 0 0 (qV (I c) (flat X)) (kV (I c) (flat X)) (vV (I c) (flat X)), hd 0 1 (qV (I c) (flat X)) (kV (I c) (flat X)) (vV (I c) (flat X)), k0_pay83 maskV k0_pay6 (prodF (flat X) (I c).w) (qV (I c) (flat X)) (k0_pay77 X (I c).w) (k0_pay78 (I c).cb) (I c).sb⟩) Q)
      -∗ WP c (W.on (k0_part22 (F := F)) maskV k0_pay6 (prodF (flat X) (I c).w) (qV (I c) (flat X)) (k0_pay77 X (I c).w) (k0_pay78 (I c).cb) >>= k) Q) := by
  iintro Hi Hk
  dsimp only [Win.on]
  rw [k0_part22_eq_skeleton]; unfold k0_part22_skel
  simp only [semSignalWord, semWaitWord, Prog.lift, Prog.bind_op, Prog.bind_ret, Prog.pure_eq_ret, wp_deviceId]
  iapply (ldI4 W c (I c) Q ![0, 0] _ zero2 _) $$ Hi
  iintro Hi
  iapply Hk
  iexact Hi

theorem part23 (Q : PUnit → sProp 𝕄) (X : FVec F S1x1024x1024 .bf16) (k : _ → Prog (TpuEff nD τ sig (Elt F) Λ₀ .tc) PUnit) :
    WP c (k ⟨hd 0 2 (qV (I c) (flat X)) (kV (I c) (flat X)) (vV (I c) (flat X)), hd 0 3 (qV (I c) (flat X)) (kV (I c) (flat X)) (vV (I c) (flat X)), hd 0 4 (qV (I c) (flat X)) (kV (I c) (flat X)) (vV (I c) (flat X)), hd 0 5 (qV (I c) (flat X)) (kV (I c) (flat X)) (vV (I c) (flat X)), k0_pay88 k0_pay6 (qV (I c) (flat X)) (kV (I c) (flat X)) (vV (I c) (flat X))⟩) Q ⊢ WP c (W.on (k0_part23 (F := F)) k0_pay6 (qV (I c) (flat X)) (kV (I c) (flat X)) (vV (I c) (flat X)) (k0_pay83 maskV k0_pay6 (prodF (flat X) (I c).w) (qV (I c) (flat X)) (k0_pay77 X (I c).w) (k0_pay78 (I c).cb) (I c).sb) >>= k) Q := by
  dsimp only [Win.on]
  rw [k0_part23_eq_skeleton]; unfold k0_part23_skel
  simp only [semSignalWord, semWaitWord, Prog.lift, Prog.bind_op, Prog.bind_ret, Prog.pure_eq_ret, wp_deviceId]
  exact BIBase.Entails.rfl

theorem part24 (Q : PUnit → sProp 𝕄) (v2 : BitVec 32) (a0 a1 a2 a3 a4 a5 : FVec F S512x128 .bf16) (o : FVec F S1024x128 .bf16) (q k' v : FVec F S1024x1024 .bf16) (e : FVec F S512x128 .f32) (Y : FVec F S1x512x1024 .bf16) (hY : k0_pay89 o q k' v a0 a1 a2 a3 a4 a5 e (I c).wo = Y)
    (k : _ → Prog (TpuEff nD τ sig (Elt F) Λ₀ .tc) PUnit) :
    iprop(insR W c (I c) ∗ anyOf c (slh B11 2 0))
      ⊢ iprop((iprop(insR W c (I c) ∗ ownsTc c (slh B11 2 0) fullShare Y) -∗ ∀ a b, WP c (k ⟨a, b⟩) Q)
        -∗ WP c (W.on (k0_part24 (F := F)) v2 o q k' v a0 a1 a2 a3 a4 a5 e >>= k) Q) := by
  iintro ⟨Hi, Ho⟩ Hk
  dsimp only [Win.on]
  rw [k0_part24_eq_skeleton]; unfold k0_part24_skel
  simp only [semSignalWord, semWaitWord, Prog.lift, Prog.bind_op, Prog.bind_ret, Prog.pure_eq_ret, wp_deviceId]
  iapply (ldI2 W c (I c) Q ![0, 0] _ zero2 _) $$ Hi
  iintro Hi
  iapply (ld_any c Q B11 _ (fun _ => rfl) _) $$ Ho
  iintro %Z Ho
  iapply (st_any c Q B11 _ (fun _ => rfl) _ _) $$ Ho
  iintro Ho
  subst hY
  ihave Hk := Hk $$ [Hi Ho]
  · isplitl [Hi]; · iexact Hi
    iexact Ho
  iapply Hk

theorem part25 (Q : PUnit → sProp 𝕄) (X : FVec F S1x1024x1024 .bf16) (v991 z : BitVec 32) (k : _ → Prog (TpuEff nD τ sig (Elt F) Λ₀ .tc) PUnit) :
    iprop(env I K ∗ owesD c 10 ∗ sc c 18 ∗ dutyTok ER (cell (pe 3 c) 20) 0 c ∗ reached ER (cell (pe 3 c) 20) 0
        ∗ ownsTc c (slh B11 2 0) fullShare (partV (I c) (xbV (I (pe 3 c))) 0) ∗ anyOf (pe 3 c) (slh B12 0 0))
      ⊢ iprop((iprop(owesD c 11 ∗ sw c 18)
          -∗ WP c (k ⟨hd 1 0 (qV (I c) (flat X)) (kV (I c) (flat X)) (vV (I c) (flat X)), hd 1 1 (qV (I c) (flat X)) (kV (I c) (flat X)) (vV (I c) (flat X)), hd 1 2 (qV (I c) (flat X)) (kV (I c) (flat X)) (vV (I c) (flat X)), k0_pay93 (qV (I c) (flat X))⟩) Q)
        -∗ WP c (W.on (k0_part25 (F := F)) c k0_pay6 (qV (I c) (flat X)) (kV (I c) (flat X)) (vV (I c) (flat X)) v991 z >>= k) Q) := by
  iintro ⟨#He, HO, Hs, Ht, #Hr, Hp, Hd⟩ Hk
  dsimp only [Win.on]
  rw [k0_part25_eq_skeleton]; unfold k0_part25_skel
  simp only [semSignalWord, semWaitWord, Prog.lift, Prog.bind_op, Prog.bind_ret, Prog.pure_eq_ret, wp_deviceId]
  iapply (send_p I K c Q (pe 3 c) _ (dev11 c) 18 20 10 2 0 0 ⟨by decide, rfl⟩ ⟨by decide, by revert c; decide⟩ rfl (by revert c; decide) ⟨rfl, rfl⟩ rfl rfl _) $$ [HO Hs Ht Hp Hd]
  · isplitr; · iexact He
    isplitl [HO]; · iexact HO
    isplitl [Hs]; · iexact Hs
    isplitl [Ht]; · iexact Ht
    isplitr; · iexact Hr
    isplitl [Hp]; · iexact Hp
    iexact Hd
  iintro ⟨HO, Hw⟩
  iapply Hk
  isplitl [HO]; · iexact HO
  iexact Hw

theorem part26 (Q : PUnit → sProp 𝕄) (X : FVec F S1x1024x1024 .bf16) (k : _ → Prog (TpuEff nD τ sig (Elt F) Λ₀ .tc) PUnit) :
    WP c (k ⟨hd 1 3 (qV (I c) (flat X)) (kV (I c) (flat X)) (vV (I c) (flat X)), hd 1 4 (qV (I c) (flat X)) (kV (I c) (flat X)) (vV (I c) (flat X)), hd 1 5 (qV (I c) (flat X)) (kV (I c) (flat X)) (vV (I c) (flat X)), hd 1 6 (qV (I c) (flat X)) (kV (I c) (flat X)) (vV (I c) (flat X)), k0_pay98 (qV (I c) (flat X))⟩) Q ⊢ WP c (W.on (k0_part26 (F := F)) k0_pay6 (qV (I c) (flat X)) (kV (I c) (flat X)) (vV (I c) (flat X)) (k0_pay93 (qV (I c) (flat X))) >>= k) Q := by
  dsimp only [Win.on]
  rw [k0_part26_eq_skeleton]; unfold k0_part26_skel
  simp only [semSignalWord, semWaitWord, Prog.lift, Prog.bind_op, Prog.bind_ret, Prog.pure_eq_ret, wp_deviceId]
  exact BIBase.Entails.rfl

theorem part27 (Q : PUnit → sProp 𝕄) (v2 : BitVec 32) (a0 a1 a2 a3 a4 a5 a6 : FVec F S512x128 .bf16) (o : FVec F S1024x128 .bf16) (k' v : FVec F S1024x1024 .bf16) (e : FVec F S512x128 .bf16) (Y : FVec F S1x512x1024 .bf16) (hY : k0_pay99 o k' v a0 a1 a2 a3 a4 a5 a6 e (I c).wo = Y)
    (k : _ → Prog (TpuEff nD τ sig (Elt F) Λ₀ .tc) PUnit) :
    iprop(insR W c (I c) ∗ anyOf c (slh B11 2 1))
      ⊢ iprop((iprop(insR W c (I c) ∗ ownsTc c (slh B11 2 1) fullShare Y) -∗ WP c (k ⟨⟩) Q)
        -∗ WP c (W.on (k0_part27 (F := F)) v2 o k' v a0 a1 a2 a3 a4 a5 a6 e >>= k) Q) := by
  iintro ⟨Hi, Ho⟩ Hk
  dsimp only [Win.on]
  rw [k0_part27_eq_skeleton]; unfold k0_part27_skel
  simp only [semSignalWord, semWaitWord, Prog.lift, Prog.bind_op, Prog.bind_ret, Prog.pure_eq_ret, wp_deviceId]
  iapply (ldI2 W c (I c) Q ![0, 0] _ zero2 _) $$ Hi
  iintro Hi
  iapply (ld_any c Q B11 _ (fun _ => rfl) _) $$ Ho
  iintro %Z Ho
  iapply (st_any c Q B11 _ (fun _ => rfl) _ _) $$ Ho
  iintro Ho
  subst hY
  iapply Hk
  isplitl [Hi]; · iexact Hi
  iexact Ho

theorem part28 (Q : PUnit → sProp 𝕄) (A B C : FVec F S1x1024x1024 .bf16)  (k : _ → Prog (TpuEff nD τ sig (Elt F) Λ₀ .tc) PUnit) :
    iprop(env I K ∗ owesD c 11 ∗ sc c 19 ∗ dutyTok ER (cell (pe 3 c) 21) 0 c ∗ reached ER (cell (pe 3 c) 21) 0
        ∗ ownsTc c (slh B11 2 1) fullShare (partV (I c) (xbV (I (pe 3 c))) 1) ∗ anyOf (pe 3 c) (slh B12 0 1)
        ∗ ownsTc c (sl B9 0) fullShare A ∗ ownsTc c (sl B9 1) fullShare B ∗ ownsTc c (sl B9 2) fullShare C)
      ⊢ iprop((iprop(owesD c 12 ∗ sw c 19
        ∗ ownsTc c (sl B9 0) fullShare A ∗ ownsTc c (sl B9 1) fullShare B ∗ ownsTc c (sl B9 2) fullShare C)
          -∗ WP c (k ⟨k0_pay100 A, k0_pay101 B, k0_pay102 C, k0_pay103 k0_pay6 A B C, k0_pay104 k0_pay6 A B C, k0_pay105 A, k0_pay106 B, constant S1024x1024 .f32 0x00000000#32⟩) Q)
        -∗ WP c (W.on (k0_part28 (F := F)) c k0_pay6 >>= k) Q) := by
  iintro ⟨#He, HO, Hs, Ht, #Hr, Hp, Hd, Ha, Hb, Hc⟩ Hk
  dsimp only [Win.on]
  rw [k0_part28_eq_skeleton]; unfold k0_part28_skel
  simp only [semSignalWord, semWaitWord, Prog.lift, Prog.bind_op, Prog.bind_ret, Prog.pure_eq_ret, wp_deviceId]
  iapply (send_p I K c Q (pe 3 c) _ (dev12 c) 19 21 11 2 0 1 ⟨by decide, rfl⟩ ⟨by decide, by revert c; decide⟩ rfl (by revert c; decide) ⟨rfl, rfl⟩ rfl rfl _) $$ [HO Hs Ht Hp Hd]
  · isplitr; · iexact He
    isplitl [HO]; · iexact HO
    isplitl [Hs]; · iexact Hs
    isplitl [Ht]; · iexact Ht
    isplitr; · iexact Hr
    isplitl [Hp]; · iexact Hp
    iexact Hd
  iintro ⟨HO, Hw⟩
  iapply (ld_slice c Q B9 _ (fun _ => rfl) fullShare A _) $$ Ha
  iintro Ha
  iapply (ld_slice c Q B9 _ (fun _ => rfl) fullShare B _) $$ Hb
  iintro Hb
  iapply (ld_slice c Q B9 _ (fun _ => rfl) fullShare C _) $$ Hc
  iintro Hc
  iapply Hk
  isplitl [HO]; · iexact HO
  isplitl [Hw]; · iexact Hw
  isplitl [Ha]; · iexact Ha
  isplitl [Hb]; · iexact Hb
  iexact Hc

end Parts

end Cert.KernelIdeal.Talk

end
-- ==== Proof.BodyE.lean ====
/-
  The parts of the body that form a device's own output, wait for what it receives, add all up and wait for its copies.
-/
module

public import proofs.«01_k».proof.Proof.BodyA

@[expose] public section

set_option maxRecDepth 16384

noncomputable section

namespace Cert.KernelIdeal.Talk

open Idealize.ShloMosaic Idealize.ShloMosaic.TcCoe
open Cert.KernelIdeal Cert.KernelIdeal.Gen
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

section Parts

variable (I : Dev nD → Ins F) (K : GSem nD τ sig → ℕ) (W : Win) (c : Dev nD)

/-- The sum of what device `j + 1` further on forms for this device, its two halves joined. -/
def recvF (d : Dev nD) (j : Fin 3) : FVec F S1x1024x1024 .bf16 :=
  joinF (partV (I (pe (j.val + 1) d)) (xbV (I d)) 0) (partV (I (pe (j.val + 1) d)) (xbV (I d)) 1)

theorem got (j : Fin 3) : iprop(pgot I c j 0 ∗ pgot I c j 1) ⊢ (ownsTc c (sl B12 j) fullShare (recvF I c j) : sProp 𝕄) := by
  unfold pgot recvF
  exact halves_join c B12 j _ _

/-- The other six heads of a device's own block, times their rows of the output weights. -/
def outB (i : Ins F) : FVec F S1024x1024 .f32 :=
  ownB (qV i (xbV i)) (kV i (xbV i)) (vV i (xbV i)) (woB i.wo)

/-- A device's result: its own heads and what it receives. -/
def resF (d : Dev nD) : FVec F S1x1024x1024 .bf16 :=
  sumF (outA (I d)) (outB (I d)) (recvF I d 0) (recvF I d 1) (recvF I d 2)

theorem outB_eq (i : Ins F) (A B C : FVec F S1x1024x1024 .bf16) (hA : lift (qV i (xbV i)) = A) (hB : lift (kV i (xbV i)) = B)
    (hC : lift (vV i (xbV i)) = C) :
    k0_pay108 (k0_pay107 k0_pay6 (k0_pay100 A) (k0_pay101 B) (k0_pay102 C) (k0_pay103 k0_pay6 A B C) (k0_pay104 k0_pay6 A B C) (k0_pay105 A) (k0_pay106 B) (constant S1024x1024 .f32 0x00000000#32)) (woB i.wo) = outB i := by
  have h : k0_pay108 (k0_pay107 k0_pay6 (k0_pay100 A) (k0_pay101 B) (k0_pay102 C) (k0_pay103 k0_pay6 A B C) (k0_pay104 k0_pay6 A B C) (k0_pay105 A) (k0_pay106 B) (constant S1024x1024 .f32 0x00000000#32)) (woB i.wo) = ownB (flat A) (flat B) (flat C) (woB i.wo) := rfl
  rw [h, ← hA, ← hB, ← hC, flat_lift, flat_lift, flat_lift]
  rfl

theorem part29 (Q : PUnit → sProp 𝕄) (A B C : FVec F S1x1024x1024 .bf16) (k : _ → Prog (TpuEff nD τ sig (Elt F) Λ₀ .tc) PUnit) :
    WP c (k (k0_pay107 k0_pay6 (k0_pay100 A) (k0_pay101 B) (k0_pay102 C) (k0_pay103 k0_pay6 A B C) (k0_pay104 k0_pay6 A B C) (k0_pay105 A) (k0_pay106 B) (constant S1024x1024 .f32 0x00000000#32))) Q ⊢ WP c (W.on (k0_part29 (F := F)) k0_pay6 (k0_pay100 A) (k0_pay101 B) (k0_pay102 C) (k0_pay103 k0_pay6 A B C) (k0_pay104 k0_pay6 A B C) (k0_pay105 A) (k0_pay106 B) (constant S1024x1024 .f32 0x00000000#32) >>= k) Q := by
  dsimp only [Win.on]
  rw [k0_part29_eq_skeleton]; unfold k0_part29_skel
  simp only [semSignalWord, semWaitWord, Prog.lift, Prog.bind_op, Prog.bind_ret, Prog.pure_eq_ret, wp_deviceId]
  exact BIBase.Entails.rfl

theorem part30 (Q : PUnit → sProp 𝕄) (v2 : BitVec 32) (v1219 : FVec F S1024x768 .bf16) (k : _ → Prog (TpuEff nD τ sig (Elt F) Λ₀ .tc) PUnit) :
    iprop(env I K ∗ owesD c 12 ∗ insR W c (I c) ∗ sw c 20 ∗ sw c 21)
      ⊢ iprop((iprop(owesD c 12 ∗ insR W c (I c) ∗ semVal (cell c 20) 0 ∗ pgot I c 0 0 ∗ semVal (cell c 21) 0 ∗ pgot I c 0 1) -∗ WP c (k (k0_pay108 v1219 (woB (I c).wo))) Q)
        -∗ WP c (W.on (k0_part30 (F := F)) v2 v1219 >>= k) Q) := by
  iintro ⟨#He, HO, Hi, Hv20, Hv21⟩ Hk
  dsimp only [Win.on]
  rw [k0_part30_eq_skeleton]; unfold k0_part30_skel
  simp only [semSignalWord, semWaitWord, Prog.lift, Prog.bind_op, Prog.bind_ret, Prog.pure_eq_ret, wp_deviceId]
  iapply (ldI2r W c (I c) Q _ _) $$ Hi
  iintro Hi
  iapply (wait_step I K c Q 20 12 np (by decide) (above_none c 20) _ ((slh B12 0 0).squeeze S512x1024 squeezes_S1x512x1024_S512x1024) rfl rfl _) $$ [HO Hv20]
  · isplitr; · iexact He
    isplitl [HO]; · iexact HO
    iexact Hv20
  iintro ⟨HO, Hz20, Hp20⟩
  ihave Hp20 := (show dmaPay I c 20 ⊢ (pgot I c 0 0 : sProp 𝕄) from .rfl) $$ Hp20
  iapply (wait_step I K c Q 21 12 np (by decide) (above_none c 21) _ ((slh B12 0 1).squeeze S512x1024 squeezes_S1x512x1024_S512x1024) rfl rfl _) $$ [HO Hv21]
  · isplitr; · iexact He
    isplitl [HO]; · iexact HO
    iexact Hv21
  iintro ⟨HO, Hz21, Hp21⟩
  ihave Hp21 := (show dmaPay I c 21 ⊢ (pgot I c 0 1 : sProp 𝕄) from .rfl) $$ Hp21
  iapply Hk
  isplitl [HO]; · iexact HO
  isplitl [Hi]; · iexact Hi
  isplitl [Hz20]; · iexact Hz20
  isplitl [Hp20]; · iexact Hp20
  isplitl [Hz21]; · iexact Hz21
  iexact Hp21

theorem part31 (Q : PUnit → sProp 𝕄) (v2 : BitVec 32) (k : _ → Prog (TpuEff nD τ sig (Elt F) Λ₀ .tc) PUnit) :
    iprop(env I K ∗ owesD c 12 ∗ sw c 22 ∗ sw c 23 ∗ sw c 24)
      ⊢ iprop((iprop(owesD c 12 ∗ semVal (cell c 22) 0 ∗ pgot I c 1 0 ∗ semVal (cell c 23) 0 ∗ pgot I c 1 1 ∗ semVal (cell c 24) 0 ∗ pgot I c 2 0) -∗ WP c (k ⟨⟩) Q)
        -∗ WP c (W.on (k0_part31 (F := F)) v2 >>= k) Q) := by
  iintro ⟨#He, HO, Hv22, Hv23, Hv24⟩ Hk
  dsimp only [Win.on]
  rw [k0_part31_eq_skeleton]; unfold k0_part31_skel
  simp only [semSignalWord, semWaitWord, Prog.lift, Prog.bind_op, Prog.bind_ret, Prog.pure_eq_ret, wp_deviceId]
  iapply (wait_step I K c Q 22 12 np (by decide) (above_none c 22) _ ((slh B12 1 0).squeeze S512x1024 squeezes_S1x512x1024_S512x1024) rfl rfl _) $$ [HO Hv22]
  · isplitr; · iexact He
    isplitl [HO]; · iexact HO
    iexact Hv22
  iintro ⟨HO, Hz22, Hp22⟩
  ihave Hp22 := (show dmaPay I c 22 ⊢ (pgot I c 1 0 : sProp 𝕄) from .rfl) $$ Hp22
  iapply (wait_step I K c Q 23 12 np (by decide) (above_none c 23) _ ((slh B12 1 1).squeeze S512x1024 squeezes_S1x512x1024_S512x1024) rfl rfl _) $$ [HO Hv23]
  · isplitr; · iexact He
    isplitl [HO]; · iexact HO
    iexact Hv23
  iintro ⟨HO, Hz23, Hp23⟩
  ihave Hp23 := (show dmaPay I c 23 ⊢ (pgot I c 1 1 : sProp 𝕄) from .rfl) $$ Hp23
  iapply (wait_step I K c Q 24 12 np (by decide) (above_none c 24) _ ((slh B12 2 0).squeeze S512x1024 squeezes_S1x512x1024_S512x1024) rfl rfl _) $$ [HO Hv24]
  · isplitr; · iexact He
    isplitl [HO]; · iexact HO
    iexact Hv24
  iintro ⟨HO, Hz24, Hp24⟩
  ihave Hp24 := (show dmaPay I c 24 ⊢ (pgot I c 2 0 : sProp 𝕄) from .rfl) $$ Hp24
  iapply Hk
  isplitl [HO]; · iexact HO
  isplitl [Hz22]; · iexact Hz22
  isplitl [Hp22]; · iexact Hp22
  isplitl [Hz23]; · iexact Hz23
  isplitl [Hp23]; · iexact Hp23
  isplitl [Hz24]; · iexact Hz24
  iexact Hp24

theorem part32 (Q : PUnit → sProp 𝕄) (b : FVec F S1024x1024 .f32) (a r0 r1 : FVec F S1x1024x1024 .bf16) (k : _ → Prog (TpuEff nD τ sig (Elt F) Λ₀ .tc) PUnit) :
    iprop(env I K ∗ owesD c 12 ∗ ownsTc c W.a7 fullShare a ∗ ownsTc c (sl B12 0) fullShare r0 ∗ ownsTc c (sl B12 1) fullShare r1
        ∗ pgot I c 2 0 ∗ sw c 25 ∗ sw c 8)
      ⊢ iprop((iprop(owesD c 12 ∗ ownsTc c W.a7 fullShare (sumF a b r0 r1 (recvF I c 2)) ∗ ownsTc c (sl B12 0) fullShare r0
            ∗ ownsTc c (sl B12 1) fullShare r1 ∗ ownsTc c (sl B12 2) fullShare (recvF I c 2) ∗ semVal (cell c 25) 0
            ∗ semVal (cell c 8) 0 ∗ ownsTc c B8 sh1 (xbV (I c))) -∗ WP c (k ⟨⟩) Q)
        -∗ WP c (W.on (k0_part32 (F := F)) b >>= k) Q) := by
  iintro ⟨#He, HO, Ha, Hr0, Hr1, Hg, Hv25, Hv8⟩ Hk
  dsimp only [Win.on]
  rw [k0_part32_eq_skeleton]; unfold k0_part32_skel
  simp only [semSignalWord, semWaitWord, Prog.lift, Prog.bind_op, Prog.bind_ret, Prog.pure_eq_ret, wp_deviceId]
  iapply (wait_step I K c Q 25 12 np (by decide) (above_none c 25) _ ((slh B12 2 1).squeeze S512x1024 squeezes_S1x512x1024_S512x1024) rfl rfl _) $$ [HO Hv25]
  · isplitr; · iexact He
    isplitl [HO]; · iexact HO
    iexact Hv25
  iintro ⟨HO, Hz25, Hp25⟩
  ihave Hp25 := (show dmaPay I c 25 ⊢ (pgot I c 2 1 : sProp 𝕄) from .rfl) $$ Hp25
  ihave Hr2 := (got I c 2) $$ [Hg Hp25]
  · isplitl [Hg]; · iexact Hg
    iexact Hp25
  iapply (ldF c W.a7 Q ![0, 0, 0] _ zero3 fullShare a _) $$ Ha
  iintro Ha
  iapply (ld_slice c Q B12 _ (fun _ => rfl) fullShare r0 _) $$ Hr0
  iintro Hr0
  iapply (ld_slice c Q B12 _ (fun _ => rfl) fullShare r1 _) $$ Hr1
  iintro Hr1
  iapply (ld_slice c Q B12 _ (fun _ => rfl) fullShare (recvF I c 2) _) $$ Hr2
  iintro Hr2
  iapply (ldF c W.a7 Q ![0, 0, 0] _ zero3 fullShare a _) $$ Ha
  iintro Ha
  ihave Ha := (anyOf_owns c W.a7 a) $$ Ha
  iapply (stF_any c W.a7 Q ![0, 0, 0] _ zero3 _ _) $$ Ha
  iintro Ha
  ihave Ha := (show ownsTc c W.a7 fullShare (k0_pay109 b a r0 r1 (recvF I c 2)) ⊢ (ownsTc c W.a7 fullShare (sumF a b r0 r1 (recvF I c 2)) : sProp 𝕄) from .rfl) $$ Ha
  iapply (wait_step I K c Q 8 12 nx (by decide) (above_none c 8) _ B8 rfl rfl _) $$ [HO Hv8]
  · isplitr; · iexact He
    isplitl [HO]; · iexact HO
    iexact Hv8
  iintro ⟨HO, Hz8, Hp8⟩
  ihave Hp8 := (show dmaPay I c 8 ⊢ (ownsTc c B8 sh1 (xbV (I c)) : sProp 𝕄) from .rfl) $$ Hp8
  iapply Hk
  isplitl [HO]; · iexact HO
  isplitl [Ha]; · iexact Ha
  isplitl [Hr0]; · iexact Hr0
  isplitl [Hr1]; · iexact Hr1
  isplitl [Hr2]; · iexact Hr2
  isplitl [Hz25]; · iexact Hz25
  isplitl [Hz8]; · iexact Hz8
  iexact Hp8

theorem part33 (Q : PUnit → sProp 𝕄)  (k : _ → Prog (TpuEff nD τ sig (Elt F) Λ₀ .tc) PUnit) :
    iprop(env I K ∗ owesD c 12 ∗ sw c 10 ∗ sw c 9 ∗ sw c 14 ∗ sw c 15)
      ⊢ iprop((iprop(owesD c 12 ∗ semVal (cell c 10) 0 ∗ ownsTc c B8 sh3 (xbV (I c)) ∗ semVal (cell c 9) 0 ∗ ownsTc c B8 sh2 (xbV (I c)) ∗ semVal (cell c 14) 0 ∗ anyOf c (slh B11 0 0) ∗ semVal (cell c 15) 0 ∗ anyOf c (slh B11 0 1)) -∗ WP c (k ⟨⟩) Q)
        -∗ WP c (W.on (k0_part33 (F := F)) >>= k) Q) := by
  iintro ⟨#He, HO, Hv10, Hv9, Hv14, Hv15⟩ Hk
  dsimp only [Win.on]
  rw [k0_part33_eq_skeleton]; unfold k0_part33_skel
  simp only [semSignalWord, semWaitWord, Prog.lift, Prog.bind_op, Prog.bind_ret, Prog.pure_eq_ret, wp_deviceId]
  iapply (wait_step I K c Q 10 12 nx (by decide) (above_none c 10) _ B8 rfl rfl _) $$ [HO Hv10]
  · isplitr; · iexact He
    isplitl [HO]; · iexact HO
    iexact Hv10
  iintro ⟨HO, Hz10, Hp10⟩
  ihave Hp10 := (show dmaPay I c 10 ⊢ (ownsTc c B8 sh3 (xbV (I c)) : sProp 𝕄) from .rfl) $$ Hp10
  iapply (wait_step I K c Q 9 12 nx (by decide) (above_none c 9) _ B8 rfl rfl _) $$ [HO Hv9]
  · isplitr; · iexact He
    isplitl [HO]; · iexact HO
    iexact Hv9
  iintro ⟨HO, Hz9, Hp9⟩
  ihave Hp9 := (show dmaPay I c 9 ⊢ (ownsTc c B8 sh2 (xbV (I c)) : sProp 𝕄) from .rfl) $$ Hp9
  iapply (wait_step I K c Q 14 12 np (by decide) (above_none c 14) _ ((slh B11 0 0).squeeze S512x1024 squeezes_S1x512x1024_S512x1024) rfl rfl _) $$ [HO Hv14]
  · isplitr; · iexact He
    isplitl [HO]; · iexact HO
    iexact Hv14
  iintro ⟨HO, Hz14, Hp14⟩
  ihave Hp14 := (show dmaPay I c 14 ⊢ (anyOf c (slh B11 0 0) : sProp 𝕄) from .rfl) $$ Hp14
  iapply (wait_step I K c Q 15 12 np (by decide) (above_none c 15) _ ((slh B11 0 1).squeeze S512x1024 squeezes_S1x512x1024_S512x1024) rfl rfl _) $$ [HO Hv15]
  · isplitr; · iexact He
    isplitl [HO]; · iexact HO
    iexact Hv15
  iintro ⟨HO, Hz15, Hp15⟩
  ihave Hp15 := (show dmaPay I c 15 ⊢ (anyOf c (slh B11 0 1) : sProp 𝕄) from .rfl) $$ Hp15
  iapply Hk
  isplitl [HO]; · iexact HO
  isplitl [Hz10]; · iexact Hz10
  isplitl [Hp10]; · iexact Hp10
  isplitl [Hz9]; · iexact Hz9
  isplitl [Hp9]; · iexact Hp9
  isplitl [Hz14]; · iexact Hz14
  isplitl [Hp14]; · iexact Hp14
  isplitl [Hz15]; · iexact Hz15
  iexact Hp15

theorem part34 (Q : PUnit → sProp 𝕄)  (k : _ → Prog (TpuEff nD τ sig (Elt F) Λ₀ .tc) PUnit) :
    iprop(env I K ∗ owesD c 12 ∗ sw c 16 ∗ sw c 17 ∗ sw c 18)
      ⊢ iprop((iprop(owesD c 12 ∗ semVal (cell c 16) 0 ∗ anyOf c (slh B11 1 0) ∗ semVal (cell c 17) 0 ∗ anyOf c (slh B11 1 1) ∗ semVal (cell c 18) 0 ∗ anyOf c (slh B11 2 0)) -∗ WP c (k ⟨⟩) Q)
        -∗ WP c (W.on (k0_part34 (F := F)) >>= k) Q) := by
  iintro ⟨#He, HO, Hv16, Hv17, Hv18⟩ Hk
  dsimp only [Win.on]
  rw [k0_part34_eq_skeleton]; unfold k0_part34_skel
  simp only [semSignalWord, semWaitWord, Prog.lift, Prog.bind_op, Prog.bind_ret, Prog.pure_eq_ret, wp_deviceId]
  iapply (wait_step I K c Q 16 12 np (by decide) (above_none c 16) _ ((slh B11 1 0).squeeze S512x1024 squeezes_S1x512x1024_S512x1024) rfl rfl _) $$ [HO Hv16]
  · isplitr; · iexact He
    isplitl [HO]; · iexact HO
    iexact Hv16
  iintro ⟨HO, Hz16, Hp16⟩
  ihave Hp16 := (show dmaPay I c 16 ⊢ (anyOf c (slh B11 1 0) : sProp 𝕄) from .rfl) $$ Hp16
  iapply (wait_step I K c Q 17 12 np (by decide) (above_none c 17) _ ((slh B11 1 1).squeeze S512x1024 squeezes_S1x512x1024_S512x1024) rfl rfl _) $$ [HO Hv17]
  · isplitr; · iexact He
    isplitl [HO]; · iexact HO
    iexact Hv17
  iintro ⟨HO, Hz17, Hp17⟩
  ihave Hp17 := (show dmaPay I c 17 ⊢ (anyOf c (slh B11 1 1) : sProp 𝕄) from .rfl) $$ Hp17
  iapply (wait_step I K c Q 18 12 np (by decide) (above_none c 18) _ ((slh B11 2 0).squeeze S512x1024 squeezes_S1x512x1024_S512x1024) rfl rfl _) $$ [HO Hv18]
  · isplitr; · iexact He
    isplitl [HO]; · iexact HO
    iexact Hv18
  iintro ⟨HO, Hz18, Hp18⟩
  ihave Hp18 := (show dmaPay I c 18 ⊢ (anyOf c (slh B11 2 0) : sProp 𝕄) from .rfl) $$ Hp18
  iapply Hk
  isplitl [HO]; · iexact HO
  isplitl [Hz16]; · iexact Hz16
  isplitl [Hp16]; · iexact Hp16
  isplitl [Hz17]; · iexact Hz17
  isplitl [Hp17]; · iexact Hp17
  isplitl [Hz18]; · iexact Hz18
  iexact Hp18

end Parts

end Cert.KernelIdeal.Talk

end
-- ==== Proof.Body.lean ====
/-
  The body of the kernel on one device, from what the launch hands it to what it leaves.
-/
module

public import proofs.«01_k».proof.Proof.BodyB
public import proofs.«01_k».proof.Proof.BodyC
public import proofs.«01_k».proof.Proof.BodyD
public import proofs.«01_k».proof.Proof.BodyE

@[expose] public section

set_option maxRecDepth 16384

noncomputable section

namespace Cert.KernelIdeal.Talk

open Idealize.ShloMosaic Idealize.ShloMosaic.TcCoe
open Cert.KernelIdeal Cert.KernelIdeal.Gen
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

section Parts

variable (I : Dev nD → Ins F) (K : GSem nD τ sig → ℕ) (W : Win) (c : Dev nD)

theorem part10_eq (i : Ins F) (x : FVec F S1024x1024 .bf16) :
    k0_pay34 (hd 0 0 (qV i (flat (lift x))) (kV i (flat (lift x))) (vV i (flat (lift x)))) (hd 0 1 (qV i (flat (lift x))) (kV i (flat (lift x))) (vV i (flat (lift x)))) (hd 0 2 (qV i (flat (lift x))) (kV i (flat (lift x))) (vV i (flat (lift x)))) (hd 0 3 (qV i (flat (lift x))) (kV i (flat (lift x))) (vV i (flat (lift x)))) (hd 0 4 (qV i (flat (lift x))) (kV i (flat (lift x))) (vV i (flat (lift x)))) (hd 0 5 (qV i (flat (lift x))) (kV i (flat (lift x))) (vV i (flat (lift x)))) (hd 0 6 (qV i (flat (lift x))) (kV i (flat (lift x))) (vV i (flat (lift x)))) (k0_pay32 (qV i (flat (lift x))) (kV i (flat (lift x)))) (k0_pay33 k0_pay6 (vV i (flat (lift x)))) (constant S512x256 .f32 0x00000000#32) i.wo = partV i x 0 := by
  have h : k0_pay34 (hd 0 0 (qV i (flat (lift x))) (kV i (flat (lift x))) (vV i (flat (lift x)))) (hd 0 1 (qV i (flat (lift x))) (kV i (flat (lift x))) (vV i (flat (lift x)))) (hd 0 2 (qV i (flat (lift x))) (kV i (flat (lift x))) (vV i (flat (lift x)))) (hd 0 3 (qV i (flat (lift x))) (kV i (flat (lift x))) (vV i (flat (lift x)))) (hd 0 4 (qV i (flat (lift x))) (kV i (flat (lift x))) (vV i (flat (lift x)))) (hd 0 5 (qV i (flat (lift x))) (kV i (flat (lift x))) (vV i (flat (lift x)))) (hd 0 6 (qV i (flat (lift x))) (kV i (flat (lift x))) (vV i (flat (lift x)))) (k0_pay32 (qV i (flat (lift x))) (kV i (flat (lift x)))) (k0_pay33 k0_pay6 (vV i (flat (lift x)))) (constant S512x256 .f32 0x00000000#32) i.wo = partV i (flat (lift x)) 0 := rfl
  rw [h, flat_lift]

theorem part13_eq (i : Ins F) (x : FVec F S1024x1024 .bf16) :
    k0_pay46 (hd 1 0 (qV i (flat (lift x))) (kV i (flat (lift x))) (vV i (flat (lift x)))) (hd 1 1 (qV i (flat (lift x))) (kV i (flat (lift x))) (vV i (flat (lift x)))) (hd 1 2 (qV i (flat (lift x))) (kV i (flat (lift x))) (vV i (flat (lift x)))) (hd 1 3 (qV i (flat (lift x))) (kV i (flat (lift x))) (vV i (flat (lift x)))) (hd 1 4 (qV i (flat (lift x))) (kV i (flat (lift x))) (vV i (flat (lift x)))) (hd 1 5 (qV i (flat (lift x))) (kV i (flat (lift x))) (vV i (flat (lift x)))) (hd 1 6 (qV i (flat (lift x))) (kV i (flat (lift x))) (vV i (flat (lift x)))) (k0_pay44 k0_pay6 (qV i (flat (lift x))) (kV i (flat (lift x))) (vV i (flat (lift x)))) (k0_pay45 k0_pay6 (qV i (flat (lift x))) (kV i (flat (lift x))) (vV i (flat (lift x)))) i.wo = partV i x 1 := by
  have h : k0_pay46 (hd 1 0 (qV i (flat (lift x))) (kV i (flat (lift x))) (vV i (flat (lift x)))) (hd 1 1 (qV i (flat (lift x))) (kV i (flat (lift x))) (vV i (flat (lift x)))) (hd 1 2 (qV i (flat (lift x))) (kV i (flat (lift x))) (vV i (flat (lift x)))) (hd 1 3 (qV i (flat (lift x))) (kV i (flat (lift x))) (vV i (flat (lift x)))) (hd 1 4 (qV i (flat (lift x))) (kV i (flat (lift x))) (vV i (flat (lift x)))) (hd 1 5 (qV i (flat (lift x))) (kV i (flat (lift x))) (vV i (flat (lift x)))) (hd 1 6 (qV i (flat (lift x))) (kV i (flat (lift x))) (vV i (flat (lift x)))) (k0_pay44 k0_pay6 (qV i (flat (lift x))) (kV i (flat (lift x))) (vV i (flat (lift x)))) (k0_pay45 k0_pay6 (qV i (flat (lift x))) (kV i (flat (lift x))) (vV i (flat (lift x)))) i.wo = partV i (flat (lift x)) 1 := rfl
  rw [h, flat_lift]

theorem part17_eq (i : Ins F) (x : FVec F S1024x1024 .bf16) :
    k0_pay64 k0_pay6 (vV i (flat (lift x))) (hd 0 0 (qV i (flat (lift x))) (kV i (flat (lift x))) (vV i (flat (lift x)))) (hd 0 1 (qV i (flat (lift x))) (kV i (flat (lift x))) (vV i (flat (lift x)))) (hd 0 2 (qV i (flat (lift x))) (kV i (flat (lift x))) (vV i (flat (lift x)))) (hd 0 3 (qV i (flat (lift x))) (kV i (flat (lift x))) (vV i (flat (lift x)))) (hd 0 4 (qV i (flat (lift x))) (kV i (flat (lift x))) (vV i (flat (lift x)))) (hd 0 5 (qV i (flat (lift x))) (kV i (flat (lift x))) (vV i (flat (lift x)))) (hd 0 6 (qV i (flat (lift x))) (kV i (flat (lift x))) (vV i (flat (lift x)))) (k0_pay63 (qV i (flat (lift x))) (kV i (flat (lift x)))) i.wo = partV i x 0 := by
  have h : k0_pay64 k0_pay6 (vV i (flat (lift x))) (hd 0 0 (qV i (flat (lift x))) (kV i (flat (lift x))) (vV i (flat (lift x)))) (hd 0 1 (qV i (flat (lift x))) (kV i (flat (lift x))) (vV i (flat (lift x)))) (hd 0 2 (qV i (flat (lift x))) (kV i (flat (lift x))) (vV i (flat (lift x)))) (hd 0 3 (qV i (flat (lift x))) (kV i (flat (lift x))) (vV i (flat (lift x)))) (hd 0 4 (qV i (flat (lift x))) (kV i (flat (lift x))) (vV i (flat (lift x)))) (hd 0 5 (qV i (flat (lift x))) (kV i (flat (lift x))) (vV i (flat (lift x)))) (hd 0 6 (qV i (flat (lift x))) (kV i (flat (lift x))) (vV i (flat (lift x)))) (k0_pay63 (qV i (flat (lift x))) (kV i (flat (lift x)))) i.wo = partV i (flat (lift x)) 0 := rfl
  rw [h, flat_lift]

theorem part20_eq (i : Ins F) (x : FVec F S1024x1024 .bf16) :
    k0_pay74 k0_pay6 (vV i (flat (lift x))) (hd 1 0 (qV i (flat (lift x))) (kV i (flat (lift x))) (vV i (flat (lift x)))) (hd 1 1 (qV i (flat (lift x))) (kV i (flat (lift x))) (vV i (flat (lift x)))) (hd 1 2 (qV i (flat (lift x))) (kV i (flat (lift x))) (vV i (flat (lift x)))) (hd 1 3 (qV i (flat (lift x))) (kV i (flat (lift x))) (vV i (flat (lift x)))) (hd 1 4 (qV i (flat (lift x))) (kV i (flat (lift x))) (vV i (flat (lift x)))) (hd 1 5 (qV i (flat (lift x))) (kV i (flat (lift x))) (vV i (flat (lift x)))) (hd 1 6 (qV i (flat (lift x))) (kV i (flat (lift x))) (vV i (flat (lift x)))) (k0_pay73 (qV i (flat (lift x))) (kV i (flat (lift x)))) i.wo = partV i x 1 := by
  have h : k0_pay74 k0_pay6 (vV i (flat (lift x))) (hd 1 0 (qV i (flat (lift x))) (kV i (flat (lift x))) (vV i (flat (lift x)))) (hd 1 1 (qV i (flat (lift x))) (kV i (flat (lift x))) (vV i (flat (lift x)))) (hd 1 2 (qV i (flat (lift x))) (kV i (flat (lift x))) (vV i (flat (lift x)))) (hd 1 3 (qV i (flat (lift x))) (kV i (flat (lift x))) (vV i (flat (lift x)))) (hd 1 4 (qV i (flat (lift x))) (kV i (flat (lift x))) (vV i (flat (lift x)))) (hd 1 5 (qV i (flat (lift x))) (kV i (flat (lift x))) (vV i (flat (lift x)))) (hd 1 6 (qV i (flat (lift x))) (kV i (flat (lift x))) (vV i (flat (lift x)))) (k0_pay73 (qV i (flat (lift x))) (kV i (flat (lift x)))) i.wo = partV i (flat (lift x)) 1 := rfl
  rw [h, flat_lift]

theorem part24_eq (i : Ins F) (x : FVec F S1024x1024 .bf16) :
    k0_pay89 k0_pay6 (qV i (flat (lift x))) (kV i (flat (lift x))) (vV i (flat (lift x))) (hd 0 0 (qV i (flat (lift x))) (kV i (flat (lift x))) (vV i (flat (lift x)))) (hd 0 1 (qV i (flat (lift x))) (kV i (flat (lift x))) (vV i (flat (lift x)))) (hd 0 2 (qV i (flat (lift x))) (kV i (flat (lift x))) (vV i (flat (lift x)))) (hd 0 3 (qV i (flat (lift x))) (kV i (flat (lift x))) (vV i (flat (lift x)))) (hd 0 4 (qV i (flat (lift x))) (kV i (flat (lift x))) (vV i (flat (lift x)))) (hd 0 5 (qV i (flat (lift x))) (kV i (flat (lift x))) (vV i (flat (lift x)))) (k0_pay88 k0_pay6 (qV i (flat (lift x))) (kV i (flat (lift x))) (vV i (flat (lift x)))) i.wo = partV i x 0 := by
  have h : k0_pay89 k0_pay6 (qV i (flat (lift x))) (kV i (flat (lift x))) (vV i (flat (lift x))) (hd 0 0 (qV i (flat (lift x))) (kV i (flat (lift x))) (vV i (flat (lift x)))) (hd 0 1 (qV i (flat (lift x))) (kV i (flat (lift x))) (vV i (flat (lift x)))) (hd 0 2 (qV i (flat (lift x))) (kV i (flat (lift x))) (vV i (flat (lift x)))) (hd 0 3 (qV i (flat (lift x))) (kV i (flat (lift x))) (vV i (flat (lift x)))) (hd 0 4 (qV i (flat (lift x))) (kV i (flat (lift x))) (vV i (flat (lift x)))) (hd 0 5 (qV i (flat (lift x))) (kV i (flat (lift x))) (vV i (flat (lift x)))) (k0_pay88 k0_pay6 (qV i (flat (lift x))) (kV i (flat (lift x))) (vV i (flat (lift x)))) i.wo = partV i (flat (lift x)) 0 := rfl
  rw [h, flat_lift]

theorem part27_eq (i : Ins F) (x : FVec F S1024x1024 .bf16) :
    k0_pay99 k0_pay6 (kV i (flat (lift x))) (vV i (flat (lift x))) (hd 1 0 (qV i (flat (lift x))) (kV i (flat (lift x))) (vV i (flat (lift x)))) (hd 1 1 (qV i (flat (lift x))) (kV i (flat (lift x))) (vV i (flat (lift x)))) (hd 1 2 (qV i (flat (lift x))) (kV i (flat (lift x))) (vV i (flat (lift x)))) (hd 1 3 (qV i (flat (lift x))) (kV i (flat (lift x))) (vV i (flat (lift x)))) (hd 1 4 (qV i (flat (lift x))) (kV i (flat (lift x))) (vV i (flat (lift x)))) (hd 1 5 (qV i (flat (lift x))) (kV i (flat (lift x))) (vV i (flat (lift x)))) (hd 1 6 (qV i (flat (lift x))) (kV i (flat (lift x))) (vV i (flat (lift x)))) (k0_pay98 (qV i (flat (lift x)))) i.wo = partV i x 1 := by
  have h : k0_pay99 k0_pay6 (kV i (flat (lift x))) (vV i (flat (lift x))) (hd 1 0 (qV i (flat (lift x))) (kV i (flat (lift x))) (vV i (flat (lift x)))) (hd 1 1 (qV i (flat (lift x))) (kV i (flat (lift x))) (vV i (flat (lift x)))) (hd 1 2 (qV i (flat (lift x))) (kV i (flat (lift x))) (vV i (flat (lift x)))) (hd 1 3 (qV i (flat (lift x))) (kV i (flat (lift x))) (vV i (flat (lift x)))) (hd 1 4 (qV i (flat (lift x))) (kV i (flat (lift x))) (vV i (flat (lift x)))) (hd 1 5 (qV i (flat (lift x))) (kV i (flat (lift x))) (vV i (flat (lift x)))) (hd 1 6 (qV i (flat (lift x))) (kV i (flat (lift x))) (vV i (flat (lift x)))) (k0_pay98 (qV i (flat (lift x)))) i.wo = partV i (flat (lift x)) 1 := rfl
  rw [h, flat_lift]

/-- What a device starts the body with, besides the shared invariants. -/
def bodyIn : sProp 𝕄 :=
  iprop(insR W c (I c)
    ∗ anyOf c W.a7
    ∗ anyOf c B8
    ∗ anyOf c B9
    ∗ anyOf c B10
    ∗ anyOf c B11
    ∗ anyOf c B12
    ∗ owesD c 0
    ∗ dutyTok ER (bar (pe 1 c)) 0 c ∗ reached ER (bar (pe 1 c)) 0
    ∗ dutyTok ER (bar (pe 2 c)) 0 c ∗ reached ER (bar (pe 2 c)) 0
    ∗ dutyTok ER (bar (pe 3 c)) 0 c ∗ reached ER (bar (pe 3 c)) 0
    ∗ atPos ER (bar c) 0 ∅ 0
    ∗ cred (tallyAt (bar c) () 3)
    ∗ sc c 8
    ∗ sc c 9
    ∗ sc c 10
    ∗ sc c 14
    ∗ sc c 15
    ∗ sc c 16
    ∗ sc c 17
    ∗ sc c 18
    ∗ sc c 19
    ∗ sw c 11
    ∗ sw c 12
    ∗ sw c 13
    ∗ sw c 20
    ∗ sw c 21
    ∗ sw c 22
    ∗ sw c 23
    ∗ sw c 24
    ∗ sw c 25
    ∗ reached ER (cell c 11) 0
    ∗ reached ER (cell c 12) 0
    ∗ reached ER (cell c 13) 0
    ∗ reached ER (cell c 20) 0
    ∗ reached ER (cell c 21) 0
    ∗ reached ER (cell c 22) 0
    ∗ reached ER (cell c 23) 0
    ∗ reached ER (cell c 24) 0
    ∗ reached ER (cell c 25) 0
    ∗ dutyTok ER (cell (pe 1 c) 13) 0 c
    ∗ dutyTok ER (cell (pe 3 c) 11) 0 c
    ∗ dutyTok ER (cell (pe 2 c) 12) 0 c
    ∗ dutyTok ER (cell (pe 1 c) 24) 0 c
    ∗ dutyTok ER (cell (pe 1 c) 25) 0 c
    ∗ dutyTok ER (cell (pe 2 c) 22) 0 c
    ∗ dutyTok ER (cell (pe 2 c) 23) 0 c
    ∗ dutyTok ER (cell (pe 3 c) 20) 0 c
    ∗ dutyTok ER (cell (pe 3 c) 21) 0 c)

/-- What a device ends the body with. -/
def bodyOut : sProp 𝕄 :=
  iprop(insR W c (I c)
    ∗ ownsTc c W.a7 fullShare (resF I c)
    ∗ anyOf c B8
    ∗ anyOf c B9
    ∗ anyOf c B10
    ∗ anyOf c B11
    ∗ anyOf c B12
    ∗ owesD c 12
    ∗ semVal (bar c) 0
    ∗ semVal (cell c 8) 0
    ∗ semVal (cell c 9) 0
    ∗ semVal (cell c 10) 0
    ∗ semVal (cell c 11) 0
    ∗ semVal (cell c 12) 0
    ∗ semVal (cell c 13) 0
    ∗ semVal (cell c 14) 0
    ∗ semVal (cell c 15) 0
    ∗ semVal (cell c 16) 0
    ∗ semVal (cell c 17) 0
    ∗ semVal (cell c 18) 0
    ∗ semVal (cell c 19) 0
    ∗ semVal (cell c 20) 0
    ∗ semVal (cell c 21) 0
    ∗ semVal (cell c 22) 0
    ∗ semVal (cell c 23) 0
    ∗ semVal (cell c 24) 0
    ∗ semVal (cell c 25) 0)

theorem sig1 : iprop(dutyTok ER (bar (pe 1 c)) 0 c ∗ reached ER (bar (pe 1 c)) 0 ∗ anyOf c (sl B10 0) ∗ anyOf c (slh B12 0 0)
    ∗ anyOf c (slh B12 0 1) ∗ reached ER (cell c 11) 0 ∗ reached ER (cell c 20) 0 ∗ reached ER (cell c 21) 0)
    ⊢ (sigR (pe 1 c) c : sProp 𝕄) := by
  unfold sigR; rw [barPay_to1]; exact .rfl

theorem sig2 : iprop(dutyTok ER (bar (pe 2 c)) 0 c ∗ reached ER (bar (pe 2 c)) 0 ∗ anyOf c (sl B10 1) ∗ anyOf c (slh B12 1 0)
    ∗ anyOf c (slh B12 1 1) ∗ reached ER (cell c 12) 0 ∗ reached ER (cell c 22) 0 ∗ reached ER (cell c 23) 0)
    ⊢ (sigR (pe 2 c) c : sProp 𝕄) := by
  unfold sigR; rw [barPay_to2]; exact .rfl

theorem sig3 : iprop(dutyTok ER (bar (pe 3 c)) 0 c ∗ reached ER (bar (pe 3 c)) 0 ∗ anyOf c (sl B10 2) ∗ anyOf c (slh B12 2 0)
    ∗ anyOf c (slh B12 2 1) ∗ reached ER (cell c 13) 0 ∗ reached ER (cell c 24) 0 ∗ reached ER (cell c 25) 0)
    ⊢ (sigR (pe 3 c) c : sProp 𝕄) := by
  unfold sigR; rw [barPay_to3]; exact .rfl

theorem wp_done (Q : PUnit → sProp 𝕄) : Q ⟨⟩ ⊢ WP c (.ret ⟨⟩) Q := by
  exact fupd_intro

/-- The body, from its start to its end. -/
theorem body (Q : PUnit → sProp 𝕄) :
    iprop(env I K ∗ bodyIn I W c) ⊢ iprop((bodyOut I W c -∗ Q ⟨⟩) -∗ WP c (W.on (cc0_body (F := F))) Q) := by
  unfold bodyIn bodyOut
  iintro ⟨#He, Hi, Ha, H8, H9, H10, H11, H12, HO, Hb1, #Hrb1, Hb2, #Hrb2, Hb3, #Hrb3, Hba, Hbc, C8, C9, C10, C14, C15, C16, C17, C18, C19, V11, V12, V13, V20, V21, V22, V23, V24, V25, #R11, #R12, #R13, #R20, #R21, #R22, #R23, #R24, #R25, D13, D11, D12, D24, D25, D22, D23, D20, D21⟩ Hk
  ihave H9 := (any_blocks c B9) $$ H9
  icases H9 with ⟨H90, H91, H92⟩
  ihave H10 := (any_blocks c B10) $$ H10
  icases H10 with ⟨H100, H101, H102⟩
  ihave H11 := (any_blocks c B11) $$ H11
  icases H11 with ⟨H110, H111, H112⟩
  ihave H110 := (any_halves c B11 0) $$ H110
  icases H110 with ⟨H1100, H1101⟩
  ihave H111 := (any_halves c B11 1) $$ H111
  icases H111 with ⟨H1110, H1111⟩
  ihave H112 := (any_halves c B11 2) $$ H112
  icases H112 with ⟨H1120, H1121⟩
  ihave H12 := (any_blocks c B12) $$ H12
  icases H12 with ⟨H120, H121, H122⟩
  ihave H120 := (any_halves c B12 0) $$ H120
  icases H120 with ⟨H1200, H1201⟩
  ihave H121 := (any_halves c B12 1) $$ H121
  icases H121 with ⟨H1210, H1211⟩
  ihave H122 := (any_halves c B12 2) $$ H122
  icases H122 with ⟨H1220, H1221⟩
  ihave S1 := (sig1 c) $$ [Hb1 H100 H1200 H1201]
  · isplitl [Hb1]; · iexact Hb1
    isplitr; · iexact Hrb1
    isplitl [H100]; · iexact H100
    isplitl [H1200]; · iexact H1200
    isplitl [H1201]; · iexact H1201
    isplitr; · iexact R11
    isplitr; · iexact R20
    iexact R21
  ihave S2 := (sig2 c) $$ [Hb2 H101 H1210 H1211]
  · isplitl [Hb2]; · iexact Hb2
    isplitr; · iexact Hrb2
    isplitl [H101]; · iexact H101
    isplitl [H1210]; · iexact H1210
    isplitl [H1211]; · iexact H1211
    isplitr; · iexact R12
    isplitr; · iexact R22
    iexact R23
  ihave S3 := (sig3 c) $$ [Hb3 H102 H1220 H1221]
  · isplitl [Hb3]; · iexact Hb3
    isplitr; · iexact Hrb3
    isplitl [H102]; · iexact H102
    isplitl [H1220]; · iexact H1220
    isplitl [H1221]; · iexact H1221
    isplitr; · iexact R13
    isplitr; · iexact R24
    iexact R25
  dsimp only [Win.on]
  rw [cc0_body_eq_skeleton]; unfold cc0_body_skel
  iapply (part1 I K W c Q _) $$ [Hi H8 HO S1]
  · isplitr; · iexact He
    isplitl [Hi]; · iexact Hi
    isplitl [H8]; · iexact H8
    isplitl [HO]; · iexact HO
    iexact S1
  iintro ⟨Hi, H8, HO⟩
  iintro %v2 %v32
  try dsimp only
  ihave H8 := (owns_two c B8 fullShare _) $$ H8
  icases H8 with ⟨Hl, Hr⟩
  ihave Hl := (owns_two c B8 fullShare.left _) $$ Hl
  icases Hl with ⟨Ba, Bb⟩
  ihave Hr := (owns_two c B8 fullShare.right _) $$ Hr
  icases Hr with ⟨Bc, Bd⟩
  iapply (part2 I K W c Q v2 v32 _) $$ [HO S2 S3 Hba Hbc]
  · isplitr; · iexact He
    isplitl [HO]; · iexact HO
    isplitl [S2]; · iexact S2
    isplitl [S3]; · iexact S3
    isplitl [Hba]; · iexact Hba
    iexact Hbc
  iintro ⟨HO, Zb, G1, G2, G3⟩
  try dsimp only
  unfold give
  icases G1 with ⟨X13, X24, X25, #P13, #P24, #P25⟩
  icases G2 with ⟨X12, X22, X23, #P12, #P22, #P23⟩
  icases G3 with ⟨X11, X20, X21, #P11, #P20, #P21⟩
  iapply (part3 I K W c Q v2 _) $$ [HO C8 C10 D13 D11 Ba Bc X13 X11]
  · isplitr; · iexact He
    isplitl [HO]; · iexact HO
    isplitl [C8]; · iexact C8
    isplitl [C10]; · iexact C10
    isplitl [D13]; · iexact D13
    isplitl [D11]; · iexact D11
    isplitr; · iexact P13
    isplitr; · iexact P11
    isplitl [Ba]; · iexact Ba
    isplitl [Bc]; · iexact Bc
    isplitl [X13]; · iexact X13
    iexact X11
  iintro ⟨HO, V8, V10⟩
  try dsimp only
  iapply (part4 I W c Q _ _) $$ [Hi Bd]
  · isplitl [Hi]; · iexact Hi
    iexact Bd
  iintro ⟨Hi, Bd⟩
  try dsimp only
  iapply (part5 I K W c Q v2 _ _) $$ [HO C9 D12 Bb X12 H90 H91 H92]
  · isplitr; · iexact He
    isplitl [HO]; · iexact HO
    isplitl [C9]; · iexact C9
    isplitl [D12]; · iexact D12
    isplitr; · iexact P12
    isplitl [Bb]; · iexact Bb
    isplitl [X12]; · iexact X12
    isplitl [H90]; · iexact H90
    isplitl [H91]; · iexact H91
    iexact H92
  iintro ⟨HO, V9, H90, H91, H92⟩
  try dsimp only
  iapply (part6 I W c Q _ _ _ _) $$ [Hi H90 H91 H92 Ha]
  · isplitl [Hi]; · iexact Hi
    isplitl [H90]; · iexact H90
    isplitl [H91]; · iexact H91
    isplitl [H92]; · iexact H92
    iexact Ha
  iintro ⟨Hi, H90, H91, H92, Ha⟩
  try dsimp only
  iapply (part7 I K W c Q v2 _ rfl _) $$ [HO Hi V11]
  · isplitr; · iexact He
    isplitl [HO]; · iexact HO
    isplitl [Hi]; · iexact Hi
    iexact V11
  iintro ⟨HO, Hi, Z11, X0⟩
  try dsimp only
  iapply (part8 I W c Q _ _)
  try dsimp only
  iapply (part9 I W c Q _ _)
  try dsimp only
  iapply (part10 I W c Q v2 _ _ _ _ _ _ _ _ _ _ _ (part10_eq (I c) _) _) $$ [Hi H1100]
  · isplitl [Hi]; · iexact Hi
    iexact H1100
  iintro ⟨Hi, H1100⟩
  try dsimp only
  iapply (part11 I K W c Q _ _) $$ [HO C14 D24 H1100 X24]
  · isplitr; · iexact He
    isplitl [HO]; · iexact HO
    isplitl [C14]; · iexact C14
    isplitl [D24]; · iexact D24
    isplitr; · iexact P24
    isplitl [H1100]; · iexact H1100
    iexact X24
  iintro ⟨HO, V14⟩
  try dsimp only
  iapply (part12 I W c Q _ _)
  try dsimp only
  iapply (part13 I W c Q v2 _ _ _ _ _ _ _ _ _ _ (part13_eq (I c) _) _) $$ [Hi H1101]
  · isplitl [Hi]; · iexact Hi
    iexact H1101
  iintro ⟨Hi, H1101⟩
  try dsimp only
  iapply (part14 I K W c Q _ rfl v2 _) $$ [HO C15 D25 H1101 X25 Hi V12]
  · isplitr; · iexact He
    isplitl [HO]; · iexact HO
    isplitl [C15]; · iexact C15
    isplitl [D25]; · iexact D25
    isplitr; · iexact P25
    isplitl [H1101]; · iexact H1101
    isplitl [X25]; · iexact X25
    isplitl [Hi]; · iexact Hi
    iexact V12
  iintro ⟨HO, V15, Hi, Z12, X1⟩
  try dsimp only
  iapply (part15 I W c Q _ _)
  try dsimp only
  iapply (part16 I W c Q _ _)
  try dsimp only
  iapply (part17 I W c Q v2 _ _ _ _ _ _ _ _ _ _ _ (part17_eq (I c) _) _) $$ [Hi H1110]
  · isplitl [Hi]; · iexact Hi
    iexact H1110
  iintro ⟨Hi, H1110⟩
  try dsimp only
  iapply (part18 I K W c Q _ _) $$ [HO C16 D22 H1110 X22]
  · isplitr; · iexact He
    isplitl [HO]; · iexact HO
    isplitl [C16]; · iexact C16
    isplitl [D22]; · iexact D22
    isplitr; · iexact P22
    isplitl [H1110]; · iexact H1110
    iexact X22
  iintro ⟨HO, V16⟩
  try dsimp only
  iapply (part19 I W c Q _ _)
  try dsimp only
  iapply (part20 I W c Q v2 _ _ _ _ _ _ _ _ _ _ _ (part20_eq (I c) _) _) $$ [Hi H1111]
  · isplitl [Hi]; · iexact Hi
    iexact H1111
  iintro ⟨Hi, H1111⟩
  try dsimp only
  iapply (part21 I K W c Q _ rfl v2 _) $$ [HO C17 D23 H1111 X23 Hi V13]
  · isplitr; · iexact He
    isplitl [HO]; · iexact HO
    isplitl [C17]; · iexact C17
    isplitl [D23]; · iexact D23
    isplitr; · iexact P23
    isplitl [H1111]; · iexact H1111
    isplitl [X23]; · iexact X23
    isplitl [Hi]; · iexact Hi
    iexact V13
  iintro ⟨HO, V17, Hi, Z13, X2⟩
  try dsimp only
  iapply (part22 I W c Q _ _) $$ Hi
  iintro Hi
  try dsimp only
  iapply (part23 I W c Q _ _)
  try dsimp only
  iapply (part24 I W c Q v2 _ _ _ _ _ _ _ _ _ _ _ _ (part24_eq (I c) _) _) $$ [Hi H1120]
  · isplitl [Hi]; · iexact Hi
    iexact H1120
  iintro ⟨Hi, H1120⟩
  iintro %v991 %vz
  try dsimp only
  iapply (part25 I K W c Q _ v991 vz _) $$ [HO C18 D20 H1120 X20]
  · isplitr; · iexact He
    isplitl [HO]; · iexact HO
    isplitl [C18]; · iexact C18
    isplitl [D20]; · iexact D20
    isplitr; · iexact P20
    isplitl [H1120]; · iexact H1120
    iexact X20
  iintro ⟨HO, V18⟩
  try dsimp only
  iapply (part26 I W c Q _ _)
  try dsimp only
  iapply (part27 I W c Q v2 _ _ _ _ _ _ _ _ _ _ _ _ (part27_eq (I c) _) _) $$ [Hi H1121]
  · isplitl [Hi]; · iexact Hi
    iexact H1121
  iintro ⟨Hi, H1121⟩
  try dsimp only
  iapply (part28 I K W c Q _ _ _ _) $$ [HO C19 D21 H1121 X21 H90 H91 H92]
  · isplitr; · iexact He
    isplitl [HO]; · iexact HO
    isplitl [C19]; · iexact C19
    isplitl [D21]; · iexact D21
    isplitr; · iexact P21
    isplitl [H1121]; · iexact H1121
    isplitl [X21]; · iexact X21
    isplitl [H90]; · iexact H90
    isplitl [H91]; · iexact H91
    iexact H92
  iintro ⟨HO, V19, H90, H91, H92⟩
  try dsimp only
  iapply (part29 W c Q _ _ _ _)
  try dsimp only
  iapply (part30 I K W c Q v2 _ _) $$ [HO Hi V20 V21]
  · isplitr; · iexact He
    isplitl [HO]; · iexact HO
    isplitl [Hi]; · iexact Hi
    isplitl [V20]; · iexact V20
    iexact V21
  iintro ⟨HO, Hi, Z20, P20, Z21, P21⟩
  try dsimp only
  rw [outB_eq (I c) _ _ _ rfl rfl rfl]
  iapply (part31 I K W c Q v2 _) $$ [HO V22 V23 V24]
  · isplitr; · iexact He
    isplitl [HO]; · iexact HO
    isplitl [V22]; · iexact V22
    isplitl [V23]; · iexact V23
    iexact V24
  iintro ⟨HO, Z22, P22, Z23, P23, Z24, P24⟩
  try dsimp only
  ihave R0 := (got I c 0) $$ [P20 P21]
  · isplitl [P20]; · iexact P20
    iexact P21
  ihave R1 := (got I c 1) $$ [P22 P23]
  · isplitl [P22]; · iexact P22
    iexact P23
  iapply (part32 I K W c Q _ _ _ _ _) $$ [HO Ha R0 R1 P24 V25 V8]
  · isplitr; · iexact He
    isplitl [HO]; · iexact HO
    isplitl [Ha]; · iexact Ha
    isplitl [R0]; · iexact R0
    isplitl [R1]; · iexact R1
    isplitl [P24]; · iexact P24
    isplitl [V25]; · iexact V25
    iexact V8
  iintro ⟨HO, Ha, R0, R1, R2, Z25, Z8, Ba⟩
  try dsimp only
  iapply (part33 I K W c Q _) $$ [HO V10 V9 V14 V15]
  · isplitr; · iexact He
    isplitl [HO]; · iexact HO
    isplitl [V10]; · iexact V10
    isplitl [V9]; · iexact V9
    isplitl [V14]; · iexact V14
    iexact V15
  iintro ⟨HO, Z10, Bc, Z9, Bb, Z14, H1100, Z15, H1101⟩
  try dsimp only
  iapply (part34 I K W c Q _) $$ [HO V16 V17 V18]
  · isplitr; · iexact He
    isplitl [HO]; · iexact HO
    isplitl [V16]; · iexact V16
    isplitl [V17]; · iexact V17
    iexact V18
  iintro ⟨HO, Z16, H1110, Z17, H1111, Z18, H1120⟩
  try dsimp only
  simp only [Prog.lift, Prog.bind_op, Prog.bind_ret, Prog.pure_eq_ret]
  iapply (wait_step I K c Q 19 12 np (by decide) (above_none c 19) _ ((slh B11 2 1).squeeze S512x1024 squeezes_S1x512x1024_S512x1024) rfl rfl _) $$ [HO V19]
  · isplitr; · iexact He
    isplitl [HO]; · iexact HO
    iexact V19
  iintro ⟨HO, Hz19, Hp19⟩
  ihave Hp19 := (show dmaPay I c 19 ⊢ (anyOf c (slh B11 2 1) : sProp 𝕄) from .rfl) $$ Hp19
  iapply (wp_done c Q)
  iapply Hk
  ihave Hl := (owns_two_join c B8 fullShare.left _) $$ [Ba Bb]
  · isplitl [Ba]; · iexact Ba
    iexact Bb
  ihave Hr := (owns_two_join c B8 fullShare.right _) $$ [Bc Bd]
  · isplitl [Bc]; · iexact Bc
    iexact Bd
  ihave H8 := (owns_two_join c B8 fullShare _) $$ [Hl Hr]
  · isplitl [Hl]; · iexact Hl
    iexact Hr
  ihave H8 := (anyOf_owns c B8 _) $$ H8
  ihave H90 := (anyOf_owns c (sl B9 0) _) $$ H90
  ihave H91 := (anyOf_owns c (sl B9 1) _) $$ H91
  ihave H92 := (anyOf_owns c (sl B9 2) _) $$ H92
  ihave H9 := (any_blocks_join c B9) $$ [H90 H91 H92]
  · isplitl [H90]; · iexact H90
    isplitl [H91]; · iexact H91
    iexact H92
  ihave X0 := (anyOf_owns c (sl B10 0) _) $$ X0
  ihave X1 := (anyOf_owns c (sl B10 1) _) $$ X1
  ihave X2 := (anyOf_owns c (sl B10 2) _) $$ X2
  ihave H10 := (any_blocks_join c B10) $$ [X0 X1 X2]
  · isplitl [X0]; · iexact X0
    isplitl [X1]; · iexact X1
    iexact X2
  ihave R0 := (anyOf_owns c (sl B12 0) _) $$ R0
  ihave R1 := (anyOf_owns c (sl B12 1) _) $$ R1
  ihave R2 := (anyOf_owns c (sl B12 2) _) $$ R2
  ihave H12 := (any_blocks_join c B12) $$ [R0 R1 R2]
  · isplitl [R0]; · iexact R0
    isplitl [R1]; · iexact R1
    iexact R2
  ihave H110 := (any_halves_join c B11 0) $$ [H1100 H1101]
  · isplitl [H1100]; · iexact H1100
    iexact H1101
  ihave H111 := (any_halves_join c B11 1) $$ [H1110 H1111]
  · isplitl [H1110]; · iexact H1110
    iexact H1111
  ihave H112 := (any_halves_join c B11 2) $$ [H1120 Hp19]
  · isplitl [H1120]; · iexact H1120
    iexact Hp19
  ihave H11 := (any_blocks_join c B11) $$ [H110 H111 H112]
  · isplitl [H110]; · iexact H110
    isplitl [H111]; · iexact H111
    iexact H112
  isplitl [Hi]; · iexact Hi
  isplitl [Ha]; · iexact Ha
  isplitl [H8]; · iexact H8
  isplitl [H9]; · iexact H9
  isplitl [H10]; · iexact H10
  isplitl [H11]; · iexact H11
  isplitl [H12]; · iexact H12
  isplitl [HO]; · iexact HO
  isplitl [Zb]; · iexact Zb
  isplitl [Z8]; · iexact Z8
  isplitl [Z9]; · iexact Z9
  isplitl [Z10]; · iexact Z10
  isplitl [Z11]; · iexact Z11
  isplitl [Z12]; · iexact Z12
  isplitl [Z13]; · iexact Z13
  isplitl [Z14]; · iexact Z14
  isplitl [Z15]; · iexact Z15
  isplitl [Z16]; · iexact Z16
  isplitl [Z17]; · iexact Z17
  isplitl [Z18]; · iexact Z18
  isplitl [Hz19]; · iexact Hz19
  isplitl [Z20]; · iexact Z20
  isplitl [Z21]; · iexact Z21
  isplitl [Z22]; · iexact Z22
  isplitl [Z23]; · iexact Z23
  isplitl [Z24]; · iexact Z24
  iexact Z25

end Parts

end Cert.KernelIdeal.Talk

end
-- ==== Proof.LaunchA.lean ====
/-
  The proof data of the kernel's region, and the obligation of its one point: the body, run on the staging
  buffers of the windows.
-/
module

public import proofs.«01_k».proof.Proof.Body
public import proofs.«01_k».proof.Proof.Gen.KernelIdeal.Frame
public import proofs.«01_k».proof.Proof.Gen.KernelIdeal.Points
public import Idealize.ShloMosaic.Lib.Pipeline.Kit

@[expose] public section

set_option maxRecDepth 16384

noncomputable section

namespace Cert.KernelIdeal.Talk

open Idealize.ShloMosaic Idealize.ShloMosaic.TcCoe
open Cert.KernelIdeal Cert.KernelIdeal.Gen
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)

variable {F : FTy → Type} [FloatOps F]

local notation "𝕄" => MT nD τ sig Unit (Elt F) ℕ UU ℕ

variable (m : (ℓ : Loc nD τ sig) → Buf (Elt F) ℓ)

/-- The inputs of device `c`'s kernel: its rows, the three column blocks side by side, its rows of the output
    projection, and the four tables. -/
def inp (c : Dev nD) : Ins F where
  x := V m c main_arg0
  w := V m c main_v1
  wo := V m c main_arg4
  cb := V m c main_v30
  sb := V m c main_v31
  cq := V m c main_v34
  sq := V m c main_v37

/-- The windows' staging buffers. -/
def W0 : Win :=
  ⟨Memref.whole cc0_stg0_0, Memref.isWhole_whole _, Memref.whole cc0_stg1_0, Memref.isWhole_whole _,
    Memref.whole cc0_stg2_0, Memref.isWhole_whole _, Memref.whole cc0_stg3_0, Memref.isWhole_whole _,
    Memref.whole cc0_stg4_0, Memref.isWhole_whole _, Memref.whole cc0_stg5_0, Memref.isWhole_whole _,
    Memref.whole cc0_stg6_0, Memref.isWhole_whole _, Memref.whole cc0_stg7_0, Memref.isWhole_whole _⟩

/-- What a device holds of the exchange when its kernel starts. -/
def opened (c : Dev nD) : sProp 𝕄 :=
  iprop(dutyTok ER (bar (pe 1 c)) 0 c ∗ reached ER (bar (pe 1 c)) 0
    ∗ dutyTok ER (bar (pe 2 c)) 0 c ∗ reached ER (bar (pe 2 c)) 0
    ∗ dutyTok ER (bar (pe 3 c)) 0 c ∗ reached ER (bar (pe 3 c)) 0
    ∗ atPos ER (bar c) 0 ∅ 0
    ∗ cred (tallyAt (bar c) () 3)
    ∗ sc c 8
    ∗ sc c 9
    ∗ sc c 10
    ∗ sc c 14
    ∗ sc c 15
    ∗ sc c 16
    ∗ sc c 17
    ∗ sc c 18
    ∗ sc c 19
    ∗ sw c 11
    ∗ sw c 12
    ∗ sw c 13
    ∗ sw c 20
    ∗ sw c 21
    ∗ sw c 22
    ∗ sw c 23
    ∗ sw c 24
    ∗ sw c 25
    ∗ reached ER (cell c 11) 0
    ∗ reached ER (cell c 12) 0
    ∗ reached ER (cell c 13) 0
    ∗ reached ER (cell c 20) 0
    ∗ reached ER (cell c 21) 0
    ∗ reached ER (cell c 22) 0
    ∗ reached ER (cell c 23) 0
    ∗ reached ER (cell c 24) 0
    ∗ reached ER (cell c 25) 0
    ∗ dutyTok ER (cell (pe 1 c) 13) 0 c
    ∗ dutyTok ER (cell (pe 3 c) 11) 0 c
    ∗ dutyTok ER (cell (pe 2 c) 12) 0 c
    ∗ dutyTok ER (cell (pe 1 c) 24) 0 c
    ∗ dutyTok ER (cell (pe 1 c) 25) 0 c
    ∗ dutyTok ER (cell (pe 2 c) 22) 0 c
    ∗ dutyTok ER (cell (pe 2 c) 23) 0 c
    ∗ dutyTok ER (cell (pe 3 c) 20) 0 c
    ∗ dutyTok ER (cell (pe 3 c) 21) 0 c)

/-- The kernel's own semaphores, all at zero. -/
def ends (c : Dev nD) : sProp 𝕄 :=
  iprop(semVal (cell c 8) 0
    ∗ semVal (cell c 9) 0
    ∗ semVal (cell c 10) 0
    ∗ semVal (cell c 11) 0
    ∗ semVal (cell c 12) 0
    ∗ semVal (cell c 13) 0
    ∗ semVal (cell c 14) 0
    ∗ semVal (cell c 15) 0
    ∗ semVal (cell c 16) 0
    ∗ semVal (cell c 17) 0
    ∗ semVal (cell c 18) 0
    ∗ semVal (cell c 19) 0
    ∗ semVal (cell c 20) 0
    ∗ semVal (cell c 21) 0
    ∗ semVal (cell c 22) 0
    ∗ semVal (cell c 23) 0
    ∗ semVal (cell c 24) 0
    ∗ semVal (cell c 25) 0)

/-- The kernel's five buffers, at any contents. -/
def scr (c : Dev nD) : sProp 𝕄 := iprop(anyOf c B8 ∗ anyOf c B9 ∗ anyOf c B10 ∗ anyOf c B11 ∗ anyOf c B12)

/-- What enters the region with the exchange. -/
def Xk (c : Dev nD) : sProp 𝕄 := iprop(∃ K, env (inp m) K ∗ opened c)

abbrev O₀ (c : Dev nD) : CellTallies nD τ sig Unit := oweL (due c)

/-- The region's proof data: device `c` owes all its payments before the one point and none after, and its result
    window is left at the layer's rows. -/
def dat0 (c : Dev nD) : Pipeline.Dat τ (Elt F) Unit ℕ UU ℕ cfg0 c where
  A w := V m c (Pipeline.arrRef spec0 w)
  after w _ := match w with
    | ⟨0, _⟩ => (inp m c).x
    | ⟨1, _⟩ => (inp m c).w
    | ⟨2, _⟩ => (inp m c).wo
    | ⟨3, _⟩ => (inp m c).cb
    | ⟨4, _⟩ => (inp m c).sb
    | ⟨5, _⟩ => (inp m c).cq
    | ⟨6, _⟩ => (inp m c).sq
    | ⟨7, _⟩ => resF (inp m) c
    | ⟨n + 8, h⟩ => absurd h (Nat.not_lt.2 (Nat.le_add_left _ _))
  Φ t := if t.val = 0 then iprop(Xk m c ∗ scr c ∗ ∃ r, prngReg c r)
    else iprop(semVal (bar c) 0 ∗ ends c ∗ scr c ∗ ∃ r, prngReg c r)
  q _ := fullShare
  owed t := if t.val = 0 then O₀ c else 0

theorem owed_zero (c : Dev nD) : (dat0 m c).owed 0 = O₀ c := by
  show (if ((0 : Fin (cfg0.N + 1)).val = 0) then O₀ c else 0) = O₀ c; exact if_pos rfl
theorem owed_first (c : Dev nD) : (dat0 m c).owed t0_0.castSucc = O₀ c := by
  show (if (t0_0.castSucc : Fin (cfg0.N + 1)).val = 0 then O₀ c else 0) = O₀ c; exact if_pos rfl
theorem owed_last (c : Dev nD) : (dat0 m c).owed (Fin.last _) = 0 := by
  show (if (Fin.last cfg0.N).val = 0 then O₀ c else 0) = 0
  rw [Fin.val_last, if_neg (by rw [show cfg0.N = 1 from N_0]; decide)]
theorem owed_succ (c : Dev nD) : (dat0 m c).owed t0_0.succ = 0 := by
  show (if (t0_0.succ : Fin (cfg0.N + 1)).val = 0 then O₀ c else 0) = 0
  exact if_neg (Nat.succ_ne_zero _)
theorem Φ_first (c : Dev nD) : (dat0 m c).Φ t0_0.castSucc = iprop(Xk m c ∗ scr c ∗ ∃ r, prngReg c r) := by
  show (if (t0_0.castSucc : Fin (cfg0.N + 1)).val = 0 then iprop(Xk m c ∗ scr c ∗ ∃ r, prngReg c r) else iprop(semVal (bar c) 0 ∗ ends c ∗ scr c ∗ ∃ r, prngReg c r)) = _; exact if_pos rfl
theorem Φ_zero (c : Dev nD) : (dat0 m c).Φ 0 = iprop(Xk m c ∗ scr c ∗ ∃ r, prngReg c r) := by
  show (if ((0 : Fin (cfg0.N + 1)).val = 0) then iprop(Xk m c ∗ scr c ∗ ∃ r, prngReg c r) else iprop(semVal (bar c) 0 ∗ ends c ∗ scr c ∗ ∃ r, prngReg c r)) = _; exact if_pos rfl
theorem Φ_succ (c : Dev nD) : (dat0 m c).Φ t0_0.succ = iprop(semVal (bar c) 0 ∗ ends c ∗ scr c ∗ ∃ r, prngReg c r) := by
  show (if (t0_0.succ : Fin (cfg0.N + 1)).val = 0 then iprop(Xk m c ∗ scr c ∗ ∃ r, prngReg c r) else iprop(semVal (bar c) 0 ∗ ends c ∗ scr c ∗ ∃ r, prngReg c r)) = _
  exact if_neg (Nat.succ_ne_zero _)
theorem Φ_last (c : Dev nD) : (dat0 m c).Φ (Fin.last _) = iprop(semVal (bar c) 0 ∗ ends c ∗ scr c ∗ ∃ r, prngReg c r) := by
  show (if (Fin.last cfg0.N).val = 0 then iprop(Xk m c ∗ scr c ∗ ∃ r, prngReg c r) else iprop(semVal (bar c) 0 ∗ ends c ∗ scr c ∗ ∃ r, prngReg c r)) = _
  rw [Fin.val_last, if_neg (by rw [show cfg0.N = 1 from N_0]; decide)]

/-- A core that owes `O` at a point of the data owes it within the point's bound. -/
theorem owes_in (c : Dev nD) (t : Fin (cfg0.N + 1)) (O : CellTallies nD τ sig Unit) (h0 : (dat0 m c).owed t = O) (W : Waits sig Unit) :
    (owes (c : Thread nD τ) O W : sProp 𝕄) ⊢ (dat0 m c).owesAt () t := by
  unfold Dat.owesAt Pipeline.owesWithin Dat.bound
  rw [h0, show (dat0 m c).recorded t = Set.univ from rfl]
  iintro HO; iexists W; isplitr; · ipureintro; exact fun _ _ => Or.inl trivial
  iexact HO
theorem owes_out (c : Dev nD) (t : Fin (cfg0.N + 1)) (O : CellTallies nD τ sig Unit) (h0 : (dat0 m c).owed t = O) :
    ((dat0 m c).owesAt () t : sProp 𝕄) ⊢ iprop(∃ W, owes (c : Thread nD τ) O W) := by
  unfold Dat.owesAt Pipeline.owesWithin; rw [h0]
  iintro ⟨%W, -, HO⟩; iexists W; iexact HO

/-- A rectangle at block index zero, one block long, embeds an index as it is. -/
theorem unit_zero_block {β : Type} {s : Shape} (off : Fin s.rank → Nat) (inb) (h : ∀ a, off a = 0) (f : s.Idx → β) :
    (fun j => f ((Rect.unit (s := s) off s.size inb).emb j)) = f :=
  funext fun j => congrArg f (unit_zero off inb h j)

/-- Window 0's staging buffer holds its whole array when the body starts. -/
theorem bef_0 (c : Dev nD) (d) : (dat0 m c).before 0 t0_0 d = (inp m c).x := by
  rw [Dat.before_fetched _ _ _ (fetch0_0 t0_0)]
  show (fun j => (inp m c).x ((win0_0.rect t0_0).emb j)) = (inp m c).x
  exact unit_zero_block (fun a => win0_0.index t0_0 a * win0_0.size a) _ (fun a => Nat.zero_mul _) (inp m c).x
/-- Window 1's staging buffer holds its whole array when the body starts. -/
theorem bef_1 (c : Dev nD) (d) : (dat0 m c).before 1 t0_0 d = (inp m c).w := by
  rw [Dat.before_fetched _ _ _ (fetch0_1 t0_0)]
  show (fun j => (inp m c).w ((win0_1.rect t0_0).emb j)) = (inp m c).w
  exact unit_zero_block (fun a => win0_1.index t0_0 a * win0_1.size a) _ (fun a => Nat.zero_mul _) (inp m c).w
/-- Window 2's staging buffer holds its whole array when the body starts. -/
theorem bef_2 (c : Dev nD) (d) : (dat0 m c).before 2 t0_0 d = (inp m c).wo := by
  rw [Dat.before_fetched _ _ _ (fetch0_2 t0_0)]
  show (fun j => (inp m c).wo ((win0_2.rect t0_0).emb j)) = (inp m c).wo
  exact unit_zero_block (fun a => win0_2.index t0_0 a * win0_2.size a) _ (fun a => Nat.zero_mul _) (inp m c).wo
/-- Window 3's staging buffer holds its whole array when the body starts. -/
theorem bef_3 (c : Dev nD) (d) : (dat0 m c).before 3 t0_0 d = (inp m c).cb := by
  rw [Dat.before_fetched _ _ _ (fetch0_3 t0_0)]
  show (fun j => (inp m c).cb ((win0_3.rect t0_0).emb j)) = (inp m c).cb
  exact unit_zero_block (fun a => win0_3.index t0_0 a * win0_3.size a) _ (fun a => Nat.zero_mul _) (inp m c).cb
/-- Window 4's staging buffer holds its whole array when the body starts. -/
theorem bef_4 (c : Dev nD) (d) : (dat0 m c).before 4 t0_0 d = (inp m c).sb := by
  rw [Dat.before_fetched _ _ _ (fetch0_4 t0_0)]
  show (fun j => (inp m c).sb ((win0_4.rect t0_0).emb j)) = (inp m c).sb
  exact unit_zero_block (fun a => win0_4.index t0_0 a * win0_4.size a) _ (fun a => Nat.zero_mul _) (inp m c).sb
/-- Window 5's staging buffer holds its whole array when the body starts. -/
theorem bef_5 (c : Dev nD) (d) : (dat0 m c).before 5 t0_0 d = (inp m c).cq := by
  rw [Dat.before_fetched _ _ _ (fetch0_5 t0_0)]
  show (fun j => (inp m c).cq ((win0_5.rect t0_0).emb j)) = (inp m c).cq
  exact unit_zero_block (fun a => win0_5.index t0_0 a * win0_5.size a) _ (fun a => Nat.zero_mul _) (inp m c).cq
/-- Window 6's staging buffer holds its whole array when the body starts. -/
theorem bef_6 (c : Dev nD) (d) : (dat0 m c).before 6 t0_0 d = (inp m c).sq := by
  rw [Dat.before_fetched _ _ _ (fetch0_6 t0_0)]
  show (fun j => (inp m c).sq ((win0_6.rect t0_0).emb j)) = (inp m c).sq
  exact unit_zero_block (fun a => win0_6.index t0_0 a * win0_6.size a) _ (fun a => Nat.zero_mul _) (inp m c).sq

/-- The layer's rows, cut by the result's block: all of them. -/
theorem out_cut (c : Dev nD) : (cfg0.win 7).cut (grid0.coords t0_0) ((dat0 m c).after 7 t0_0) = ((cfg0.win 7).blk t0_0).view.read (Elt F) (resF (inp m) c) := by
  exact (unit_zero_block (fun a => win0_7.index t0_0 a * win0_7.size a) _ (fun a => Nat.zero_mul _) (resF (inp m) c)).symm

set_option maxHeartbeats 1000000 in
/-- The kernel's body meets the region's obligation at its one point. -/
theorem body1 (c : Dev nD) : BodyObligation (dat0 m c) defs₀ 𝒱₀ () Set.univ := fun t => by
  obtain rfl := fin_N0 t
  rw [bigSep_W0, bigSep_W0, Φ_first, Φ_succ]
  show iprop((Xk m c ∗ scr c ∗ ∃ r, prngReg c r) ∗ (dat0 m c).owesAt () t0_0.castSucc
      ∗ (∃ d, ownsTc c W0.a0 fullShare ((dat0 m c).before 0 t0_0 d)) ∗ (∃ d, ownsTc c W0.a1 fullShare ((dat0 m c).before 1 t0_0 d))
      ∗ (∃ d, ownsTc c W0.a2 fullShare ((dat0 m c).before 2 t0_0 d)) ∗ (∃ d, ownsTc c W0.a3 fullShare ((dat0 m c).before 3 t0_0 d))
      ∗ (∃ d, ownsTc c W0.a4 fullShare ((dat0 m c).before 4 t0_0 d)) ∗ (∃ d, ownsTc c W0.a5 fullShare ((dat0 m c).before 5 t0_0 d))
      ∗ (∃ d, ownsTc c W0.a6 fullShare ((dat0 m c).before 6 t0_0 d)) ∗ (∃ d, ownsTc c W0.a7 fullShare ((dat0 m c).before 7 t0_0 d)))
    ⊢ WP c (W0.on (cc0_body (F := F))) fun _ => iprop((semVal (bar c) 0 ∗ ends c ∗ scr c ∗ ∃ r, prngReg c r) ∗ (dat0 m c).owesAt () t0_0.succ
      ∗ ownsTc c W0.a0 fullShare (inp m c).x ∗ ownsTc c W0.a1 fullShare (inp m c).w
      ∗ ownsTc c W0.a2 fullShare (inp m c).wo ∗ ownsTc c W0.a3 fullShare (inp m c).cb
      ∗ ownsTc c W0.a4 fullShare (inp m c).sb ∗ ownsTc c W0.a5 fullShare (inp m c).cq
      ∗ ownsTc c W0.a6 fullShare (inp m c).sq ∗ ownsTc c W0.a7 fullShare (resF (inp m) c))
  unfold Xk scr opened ends
  iintro ⟨⟨⟨%K, He, Hop⟩, ⟨H8, H9, H10, H11, H12⟩, Hr⟩, HO, ⟨%d0, A0⟩, ⟨%d1, A1⟩, ⟨%d2, A2⟩, ⟨%d3, A3⟩, ⟨%d4, A4⟩, ⟨%d5, A5⟩, ⟨%d6, A6⟩, ⟨%d7, A7⟩⟩
  ihave HO := (owes_out m c t0_0.castSucc (O₀ c) (owed_first m c)) $$ HO
  iapply (body (inp m) K W0 c _) $$ [He Hop H8 H9 H10 H11 H12 HO A0 A1 A2 A3 A4 A5 A6 A7]
  · isplitl [He]; · iexact He
    unfold bodyIn insR owesD
    isplitl [A0 A1 A2 A3 A4 A5 A6]
    · isplitl [A0]; · iapply (Entails.of_eq (congrArg (ownsTc c W0.a0 fullShare) (bef_0 m c d0))); iexact A0
      isplitl [A1]; · iapply (Entails.of_eq (congrArg (ownsTc c W0.a1 fullShare) (bef_1 m c d1))); iexact A1
      isplitl [A2]; · iapply (Entails.of_eq (congrArg (ownsTc c W0.a2 fullShare) (bef_2 m c d2))); iexact A2
      isplitl [A3]; · iapply (Entails.of_eq (congrArg (ownsTc c W0.a3 fullShare) (bef_3 m c d3))); iexact A3
      isplitl [A4]; · iapply (Entails.of_eq (congrArg (ownsTc c W0.a4 fullShare) (bef_4 m c d4))); iexact A4
      isplitl [A5]; · iapply (Entails.of_eq (congrArg (ownsTc c W0.a5 fullShare) (bef_5 m c d5))); iexact A5
      iapply (Entails.of_eq (congrArg (ownsTc c W0.a6 fullShare) (bef_6 m c d6))); iexact A6
    isplitl [A7]; · iapply (anyOf_owns c W0.a7 ((dat0 m c).before 7 t0_0 d7)); iexact A7
    isplitl [H8]; · iexact H8
    isplitl [H9]; · iexact H9
    isplitl [H10]; · iexact H10
    isplitl [H11]; · iexact H11
    isplitl [H12]; · iexact H12
    isplitl [HO]; · iexact HO
    iexact Hop
  unfold bodyOut insR owesD
  iintro ⟨⟨A0, A1, A2, A3, A4, A5, A6⟩, A7, H8, H9, H10, H11, H12, ⟨%Wd, HO⟩, Hb, He⟩
  isplitl [Hb He H8 H9 H10 H11 H12 Hr]
  · isplitl [Hb]; · iexact Hb
    isplitl [He]; · iexact He
    isplitl [H8 H9 H10 H11 H12]
    · isplitl [H8]; · iexact H8
      isplitl [H9]; · iexact H9
      isplitl [H10]; · iexact H10
      isplitl [H11]; · iexact H11
      iexact H12
    iexact Hr
  isplitl [HO]; · iapply (owes_in m c t0_0.succ 0 (owed_succ m c) Wd); iexact HO
  isplitl [A0]; · iexact A0
  isplitl [A1]; · iexact A1
  isplitl [A2]; · iexact A2
  isplitl [A3]; · iexact A3
  isplitl [A4]; · iexact A4
  isplitl [A5]; · iexact A5
  isplitl [A6]; · iexact A6
  iexact A7

end Cert.KernelIdeal.Talk
-- ==== Proof.LaunchB.lean ====
/-
  The launch of the kernel on the four devices: the cells and the tokens the exchange starts from, what each device
  is dealt of them, and the credit it starts with.
-/
module

public import proofs.«01_k».proof.Proof.LaunchA
public import proofs.«01_k».proof.Proof.Gen.KernelIdeal.Frame
public import proofs.«01_k».proof.Proof.Gen.KernelIdeal.Points
public import proofs.«01_k».proof.Proof.Gen.KernelIdeal.Launch
public import Idealize.ShloMosaic.Lib.Pipeline.Kit
public import Idealize.ShloMosaic.Lib.Pipeline.RegionTalk

@[expose] public section

set_option maxRecDepth 16384

noncomputable section

namespace Cert.KernelIdeal.Talk

open Idealize.ShloMosaic Idealize.ShloMosaic.TcCoe
open Cert.KernelIdeal Cert.KernelIdeal.Gen
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)

variable {F : FTy → Type} [FloatOps F]

local notation "𝕄" => MT nD τ sig Unit (Elt F) ℕ UU ℕ

variable (m : (ℓ : Loc nD τ sig) → Buf (Elt F) ℓ)

/-! ## The cells and the tokens -/

/-- The kernel's own semaphores, numbered from the ninth DMA semaphore on. -/
def n18 (k : Fin 18) : Fin 26 := ⟨k.val + 8, by omega⟩
theorem n18_inj : Function.Injective n18 := fun a b h => Fin.ext (Nat.add_right_cancel (congrArg Fin.val h))
def e18 : Fin 18 ↪ Fin 26 := ⟨n18, n18_inj⟩
theorem fil_eq : (Finset.univ.filter fun n : Fin 26 => 8 ≤ n.val) = Finset.univ.map e18 := by decide +kernel

/-- The kernel's own semaphores. -/
def osem (k : Fin 18) : SemLoc sig := .dma (n18 k)

def barEmb : Dev nD ↪ GSem nD τ sig := ⟨fun c => bar c, fun _ _ h => congrArg (fun g : GSem nD τ sig => g.1.1) h⟩
theorem cell_inj {c d : Dev nD} {n k : Fin 26} (h : cell c n = cell d k) : c = d ∧ n = k :=
  ⟨congrArg (fun g : GSem nD τ sig => g.1.1) h, SemLoc.dma.inj (congrArg (fun g : GSem nD τ sig => g.2) h)⟩
def scEmb : Dev nD × Fin 18 ↪ GSem nD τ sig :=
  ⟨fun x => cell x.1 (n18 x.2), fun _ _ h => Prod.ext (cell_inj h).1 (n18_inj (cell_inj h).2)⟩

abbrev barCells : Finset (GSem nD τ sig) := Finset.univ.map barEmb
abbrev scCells : Finset (GSem nD τ sig) := Finset.univ.map scEmb

theorem disjoint_cells : Disjoint barCells scCells := by
  rw [Finset.disjoint_left]
  rintro g h₁ h₂
  obtain ⟨c, -, rfl⟩ := Finset.mem_map.mp h₁
  obtain ⟨x, -, h⟩ := Finset.mem_map.mp h₂
  exact absurd (show SemLoc.dma (n18 x.2) = SemLoc.reg barrier0 from congrArg (fun g : GSem nD τ sig => g.2) h) (by intro h'; cases h')

/-- The cells device `c` pays into. -/
def payC (c : Dev nD) : Fin 21 → GSem nD τ sig :=
  ![bar (pe 1 c), bar (pe 2 c), bar (pe 3 c), cell (pe 1 c) 13, cell (pe 3 c) 11, cell (pe 2 c) 12, cell (pe 1 c) 24, cell (pe 1 c) 25, cell (pe 2 c) 22, cell (pe 2 c) 23, cell (pe 3 c) 20, cell (pe 3 c) 21,
    cell c 8, cell c 9, cell c 10, cell c 14, cell c 15, cell c 16, cell c 17, cell c 18, cell c 19]
theorem payC_inj : ∀ c, Function.Injective (payC c) := by decide +kernel
/-- Every payment's token, at the device that makes it. -/
def talkToks : Finset (GSem nD τ sig × ℕ × Dev nD) :=
  Finset.univ.map ⟨fun x : Dev nD × Fin 21 => (payC x.1 x.2, 0, x.1), fun x y h => by
    have h1 : x.1 = y.1 := congrArg (fun t : GSem nD τ sig × ℕ × Dev nD => t.2.2) h
    have h2 : payC x.1 x.2 = payC y.1 y.2 := congrArg (fun t : GSem nD τ sig × ℕ × Dev nD => t.1) h
    rw [h1] at h2
    exact Prod.ext h1 (payC_inj _ h2)⟩

/-! ## The eighteen cells one by one -/

theorem bigSep_18 (Φ : Fin 18 → sProp 𝕄) : bigSep Finset.univ Φ = iprop(Φ 0 ∗ Φ 1 ∗ Φ 2 ∗ Φ 3 ∗ Φ 4 ∗ Φ 5 ∗ Φ 6 ∗ Φ 7 ∗ Φ 8 ∗ Φ 9 ∗ Φ 10 ∗ Φ 11 ∗ Φ 12 ∗ Φ 13 ∗ Φ 14 ∗ Φ 15 ∗ Φ 16 ∗ Φ 17) :=
  bigSep_univ_eq_bigSepL [0, 1, 2, 3, 4, 5, 6, 7, 8, 9, 10, 11, 12, 13, 14, 15, 16, 17] (by decide) (by decide) Φ
theorem bigSep_21 (Φ : Fin 21 → sProp 𝕄) : bigSep Finset.univ Φ = iprop(Φ 0 ∗ Φ 1 ∗ Φ 2 ∗ Φ 3 ∗ Φ 4 ∗ Φ 5 ∗ Φ 6 ∗ Φ 7 ∗ Φ 8 ∗ Φ 9 ∗ Φ 10 ∗ Φ 11 ∗ Φ 12 ∗ Φ 13 ∗ Φ 14 ∗ Φ 15 ∗ Φ 16 ∗ Φ 17 ∗ Φ 18 ∗ Φ 19 ∗ Φ 20) :=
  bigSep_univ_eq_bigSepL [0, 1, 2, 3, 4, 5, 6, 7, 8, 9, 10, 11, 12, 13, 14, 15, 16, 17, 18, 19, 20] (by decide) (by decide) Φ

theorem ends_eq (c : Dev nD) : (Pipeline.ownSems0 osem c : sProp 𝕄) = ends c := bigSep_18 _

/-- A device's eighteen cells at their first round. -/
def atAll (c : Dev nD) : sProp 𝕄 := bigSep Finset.univ fun k : Fin 18 => iprop(atPos ER (cell c (n18 k)) 0 ∅ 0 ∗ reached ER (cell c (n18 k)) 0)
theorem atAll_eq (c : Dev nD) : (atAll c : sProp 𝕄) = iprop((atPos ER (cell c 8) 0 ∅ 0 ∗ reached ER (cell c 8) 0)
    ∗ (atPos ER (cell c 9) 0 ∅ 0 ∗ reached ER (cell c 9) 0)
    ∗ (atPos ER (cell c 10) 0 ∅ 0 ∗ reached ER (cell c 10) 0)
    ∗ (atPos ER (cell c 11) 0 ∅ 0 ∗ reached ER (cell c 11) 0)
    ∗ (atPos ER (cell c 12) 0 ∅ 0 ∗ reached ER (cell c 12) 0)
    ∗ (atPos ER (cell c 13) 0 ∅ 0 ∗ reached ER (cell c 13) 0)
    ∗ (atPos ER (cell c 14) 0 ∅ 0 ∗ reached ER (cell c 14) 0)
    ∗ (atPos ER (cell c 15) 0 ∅ 0 ∗ reached ER (cell c 15) 0)
    ∗ (atPos ER (cell c 16) 0 ∅ 0 ∗ reached ER (cell c 16) 0)
    ∗ (atPos ER (cell c 17) 0 ∅ 0 ∗ reached ER (cell c 17) 0)
    ∗ (atPos ER (cell c 18) 0 ∅ 0 ∗ reached ER (cell c 18) 0)
    ∗ (atPos ER (cell c 19) 0 ∅ 0 ∗ reached ER (cell c 19) 0)
    ∗ (atPos ER (cell c 20) 0 ∅ 0 ∗ reached ER (cell c 20) 0)
    ∗ (atPos ER (cell c 21) 0 ∅ 0 ∗ reached ER (cell c 21) 0)
    ∗ (atPos ER (cell c 22) 0 ∅ 0 ∗ reached ER (cell c 22) 0)
    ∗ (atPos ER (cell c 23) 0 ∅ 0 ∗ reached ER (cell c 23) 0)
    ∗ (atPos ER (cell c 24) 0 ∅ 0 ∗ reached ER (cell c 24) 0)
    ∗ (atPos ER (cell c 25) 0 ∅ 0 ∗ reached ER (cell c 25) 0)) :=
  bigSep_18 _

/-- The tokens of the payments device `c` makes. -/
def toks (c : Dev nD) : sProp 𝕄 := bigSep Finset.univ fun k : Fin 21 => dutyTok ER (payC c k) 0 c
theorem toks_eq (c : Dev nD) : (toks c : sProp 𝕄) = iprop(dutyTok ER (bar (pe 1 c)) 0 c
    ∗ dutyTok ER (bar (pe 2 c)) 0 c
    ∗ dutyTok ER (bar (pe 3 c)) 0 c
    ∗ dutyTok ER (cell (pe 1 c) 13) 0 c
    ∗ dutyTok ER (cell (pe 3 c) 11) 0 c
    ∗ dutyTok ER (cell (pe 2 c) 12) 0 c
    ∗ dutyTok ER (cell (pe 1 c) 24) 0 c
    ∗ dutyTok ER (cell (pe 1 c) 25) 0 c
    ∗ dutyTok ER (cell (pe 2 c) 22) 0 c
    ∗ dutyTok ER (cell (pe 2 c) 23) 0 c
    ∗ dutyTok ER (cell (pe 3 c) 20) 0 c
    ∗ dutyTok ER (cell (pe 3 c) 21) 0 c
    ∗ dutyTok ER (cell c 8) 0 c
    ∗ dutyTok ER (cell c 9) 0 c
    ∗ dutyTok ER (cell c 10) 0 c
    ∗ dutyTok ER (cell c 14) 0 c
    ∗ dutyTok ER (cell c 15) 0 c
    ∗ dutyTok ER (cell c 16) 0 c
    ∗ dutyTok ER (cell c 17) 0 c
    ∗ dutyTok ER (cell c 18) 0 c
    ∗ dutyTok ER (cell c 19) 0 c) :=
  bigSep_21 _

/-- The credit of the payments device `c` waits for. -/
def crd (c : Dev nD) : sProp 𝕄 :=
  iprop(cred (tallyAt (bar c) () 3)
    ∗ cred (tallyAt (cell c 11) () (amtN 11))
    ∗ cred (tallyAt (cell c 12) () (amtN 12))
    ∗ cred (tallyAt (cell c 13) () (amtN 13))
    ∗ cred (tallyAt (cell c 20) () (amtN 20))
    ∗ cred (tallyAt (cell c 21) () (amtN 21))
    ∗ cred (tallyAt (cell c 22) () (amtN 22))
    ∗ cred (tallyAt (cell c 23) () (amtN 23))
    ∗ cred (tallyAt (cell c 24) () (amtN 24))
    ∗ cred (tallyAt (cell c 25) () (amtN 25)))

/-- Round zero of every barrier. -/
def bars : sProp 𝕄 := bigSep Finset.univ fun d : Dev nD => reached ER (bar d) 0
instance bars_persistent : BI.Persistent (bars (F := F)) := by unfold bars; infer_instance
theorem bars_at (d : Dev nD) : (bars (F := F)) ⊢ reached ER (bar d) 0 := bigSep_elim (Finset.mem_univ d)

/-- What a device has been dealt, once its own cells are open, is what its kernel starts from. -/
theorem opened_intro (c : Dev nD) :
    iprop(bars ∗ atPos ER (bar c) 0 ∅ 0 ∗ atAll c ∗ toks c ∗ crd c) ⊢ (opened c : sProp 𝕄) := by
  rw [atAll_eq, toks_eq]
  unfold crd opened sc sw
  iintro ⟨#Hb, Ha, ⟨⟨A8, #R8⟩, ⟨A9, #R9⟩, ⟨A10, #R10⟩, ⟨A11, #R11⟩, ⟨A12, #R12⟩, ⟨A13, #R13⟩, ⟨A14, #R14⟩, ⟨A15, #R15⟩, ⟨A16, #R16⟩, ⟨A17, #R17⟩, ⟨A18, #R18⟩, ⟨A19, #R19⟩, ⟨A20, #R20⟩, ⟨A21, #R21⟩, ⟨A22, #R22⟩, ⟨A23, #R23⟩, ⟨A24, #R24⟩, ⟨A25, #R25⟩⟩,
    ⟨T1, T2, T3, D13, D11, D12, D24, D25, D22, D23, D20, D21, D8, D9, D10, D14, D15, D16, D17, D18, D19⟩, ⟨C0, C11, C12, C13, C20, C21, C22, C23, C24, C25⟩⟩
  isplitl [T1]; · iexact T1
  isplitr; · iapply (bars_at (pe 1 c)); iexact Hb
  isplitl [T2]; · iexact T2
  isplitr; · iapply (bars_at (pe 2 c)); iexact Hb
  isplitl [T3]; · iexact T3
  isplitr; · iapply (bars_at (pe 3 c)); iexact Hb
  isplitl [Ha]; · iexact Ha
  isplitl [C0]; · iexact C0
  isplitl [A8 D8]
  · isplitl [A8]; · iexact A8
    isplitr; · iexact R8
    iexact D8
  isplitl [A9 D9]
  · isplitl [A9]; · iexact A9
    isplitr; · iexact R9
    iexact D9
  isplitl [A10 D10]
  · isplitl [A10]; · iexact A10
    isplitr; · iexact R10
    iexact D10
  isplitl [A14 D14]
  · isplitl [A14]; · iexact A14
    isplitr; · iexact R14
    iexact D14
  isplitl [A15 D15]
  · isplitl [A15]; · iexact A15
    isplitr; · iexact R15
    iexact D15
  isplitl [A16 D16]
  · isplitl [A16]; · iexact A16
    isplitr; · iexact R16
    iexact D16
  isplitl [A17 D17]
  · isplitl [A17]; · iexact A17
    isplitr; · iexact R17
    iexact D17
  isplitl [A18 D18]
  · isplitl [A18]; · iexact A18
    isplitr; · iexact R18
    iexact D18
  isplitl [A19 D19]
  · isplitl [A19]; · iexact A19
    isplitr; · iexact R19
    iexact D19
  isplitl [A11 C11]; · isplitl [A11] <;> iassumption
  isplitl [A12 C12]; · isplitl [A12] <;> iassumption
  isplitl [A13 C13]; · isplitl [A13] <;> iassumption
  isplitl [A20 C20]; · isplitl [A20] <;> iassumption
  isplitl [A21 C21]; · isplitl [A21] <;> iassumption
  isplitl [A22 C22]; · isplitl [A22] <;> iassumption
  isplitl [A23 C23]; · isplitl [A23] <;> iassumption
  isplitl [A24 C24]; · isplitl [A24] <;> iassumption
  isplitl [A25 C25]; · isplitl [A25] <;> iassumption
  isplitr; · iexact R11
  isplitr; · iexact R12
  isplitr; · iexact R13
  isplitr; · iexact R20
  isplitr; · iexact R21
  isplitr; · iexact R22
  isplitr; · iexact R23
  isplitr; · iexact R24
  isplitr; · iexact R25
  isplitl [D13]; · iexact D13
  isplitl [D11]; · iexact D11
  isplitl [D12]; · iexact D12
  isplitl [D24]; · iexact D24
  isplitl [D25]; · iexact D25
  isplitl [D22]; · iexact D22
  isplitl [D23]; · iexact D23
  isplitl [D20]; · iexact D20
  iexact D21

/-! ## The invariants -/

/-- The cells' invariants, from those of the whole launch. -/
theorem invs_of (I : Dev nD → Ins F) (κ : GSem nD τ sig → ℕ) :
    (bigSep (barCells ∪ scCells) fun g => (cellInv ER (Rd I) (κ g) g : sProp 𝕄)) = invs I κ := by
  rw [bigSep_union disjoint_cells, bigSep_map, bigSep_map, bigSep_univ_prod]
  unfold invs
  rw [fil_eq]
  simp only [bigSep_map]
  rfl

theorem invs_open (I : Dev nD → Ins F) (κ : GSem nD τ sig → ℕ) (c : Dev nD) :
    invs I κ ⊢ bigSep Finset.univ fun k : Fin 18 => (cellInv ER (Rd I) (κ (cell c (n18 k))) (cell c (n18 k)) : sProp 𝕄) := by
  unfold invs
  have h := bigSep_elim (i := c) (Finset.mem_univ c) (Φ := fun c : Dev nD => bigSep (Finset.univ.filter fun n : Fin 26 => 8 ≤ n.val)
        (fun n => (cellInv ER (Rd I) (κ (cell c n)) (cell c n) : sProp 𝕄)))
  rw [fil_eq, bigSep_map] at h
  rw [fil_eq]
  refine (show iprop((bigSep Finset.univ fun c : Dev nD => (cellInv ER (Rd I) (κ (bar c)) (bar c) : sProp 𝕄)) ∗ _) ⊢ _ from ?_).trans h
  iintro ⟨-, H⟩
  iexact H

/-- What stays with a device from launch on. -/
def linear (c : Dev nD) : sProp 𝕄 :=
  iprop(atPos ER (bar c) 0 ∅ 0 ∗ (bigSep Finset.univ fun k : Fin 18 => openTok ER (cell c (n18 k))) ∗ toks c)

/-- What every device may consult. -/
def records (κ : GSem nD τ sig → ℕ) : sProp 𝕄 := iprop(invs (inp m) κ ∗ bars)
instance records_persistent (κ : GSem nD τ sig → ℕ) : BI.Persistent (records m κ) := by unfold records; infer_instance

/-- What enters the region with the exchange, before its cells are open. -/
def Tk (c : Dev nD) : sProp 𝕄 := iprop((∃ κ, records m κ ∗ linear c) ∗ crd c)

/-- At the region's entry a device opens its own cells with their counters. -/
theorem hopen (c : Dev nD) : iprop(Tk m c ∗ Pipeline.ownSems0 osem c ∗ levAts L lv) ⊢ (|={Set.univ}=> Xk m c : sProp 𝕄) := by
  unfold Tk records linear Xk env Pipeline.ownSems0
  iintro ⟨⟨⟨%κ, ⟨#Hi, #Hb⟩, Ha, Ho, Ht⟩, Hc⟩, Hs, #Hl⟩
  ihave #Hii := (invs_open (inp m) κ c) $$ Hi
  imod (Rounds.cells_open ER (Rd (inp m)) Finset.univ (fun k : Fin 18 => cell c (n18 k)) (fun k => κ (cell c (n18 k)))
      (fun k _ => Set.mem_univ _)) $$ [Ho Hs] with HA
  · isplitl [Ho]
    · iapply (Entails.of_eq (bigSep_sep' _ _ _).symm); isplitr; · iexact Hii
      iexact Ho
    iexact Hs
  imodintro
  iexists κ
  isplitr
  · isplitr; · iexact Hi
    iexact Hl
  iapply (opened_intro c)
  isplitr; · iexact Hb
  isplitl [Ha]; · iexact Ha
  isplitl [HA]; · unfold atAll; iexact HA
  isplitl [Ht]; · iexact Ht
  iexact Hc

/-! ## The credit -/

/-- What a device owes a cell: the cell's amount, once for each time it is listed. -/
theorem oweL_at (l : List (GSem nD τ sig)) (g : GSem nD τ sig) : oweL l g () = l.count g * amtG g := by
  induction l with
  | nil => rw [List.count_nil, Nat.zero_mul]; rfl
  | cons a l ih =>
    show oweL l g () + tallyAt a () (amtG a) g () = _
    rw [ih, tallyAt_apply, List.count_cons]
    by_cases h : g = a
    · subst h; rw [if_pos ⟨rfl, rfl⟩, if_pos (by rw [beq_self_eq_true]), Nat.add_mul, Nat.one_mul]
    · rw [if_neg (fun h' => h h'.1), if_neg (by rw [beq_iff_eq]; exact fun h' => h h'.symm), Nat.add_zero, Nat.add_zero]

theorem launch_cell (g : GSem nD τ sig) :
    tallyOn g (launchCredit (Pipeline.owing O₀) 0 g) = (tallyAt g () ((∑ d : Dev nD, (due d).count g) * amtG g) : CellTallies nD τ sig Unit) := by
  unfold tallyAt; refine congrArg _ (Finsupp.ext fun u => ?_); cases u
  rw [Pipeline.launchCredit_owing, Finsupp.single_eq_same, Finset.sum_mul]
  exact Finset.sum_congr rfl fun d _ => oweL_at _ _

/-- The semaphores a device waits on for the other devices' payments. -/
def S10 : List (SemLoc sig) := [.reg barrier0, .dma 11, .dma 12, .dma 13, .dma 20, .dma 21, .dma 22, .dma 23, .dma 24, .dma 25]
theorem S10_nodup : S10.Nodup := by decide
theorem count_bar : ∀ c : Dev nD, (∑ d : Dev nD, (due d).count (bar c)) = 3 := by decide +kernel
theorem count_dma : ∀ c : Dev nD, ∀ n ∈ ([11, 12, 13, 20, 21, 22, 23, 24, 25] : List (Fin 26)), (∑ d : Dev nD, (due d).count (cell c n)) = 1 := by
  decide +kernel

theorem cred_bar (c : Dev nD) : tallyOn (bar c) (launchCredit (Pipeline.owing O₀) 0 (bar c)) = (tallyAt (bar c) () 3 : CellTallies nD τ sig Unit) := by
  rw [launch_cell, count_bar]; rfl
theorem cred_dma (c : Dev nD) (n : Fin 26) (h : n ∈ ([11, 12, 13, 20, 21, 22, 23, 24, 25] : List (Fin 26))) :
    tallyOn (cell c n) (launchCredit (Pipeline.owing O₀) 0 (cell c n)) = (tallyAt (cell c n) () (amtN n) : CellTallies nD τ sig Unit) := by
  rw [launch_cell, count_dma c n h, Nat.one_mul]; rfl

/-- A device's launch credit covers what it waits for. -/
theorem crd_intro (c : Dev nD) : (Pipeline.launchCred O₀ c : sProp 𝕄) ⊢ crd c := by
  unfold Pipeline.launchCred crd
  refine (bigSep_subset (Finset.subset_univ S10.toFinset)).trans ?_
  rw [bigSep_eq_bigSepL S10 S10_nodup]
  rw [← cred_bar c, ← cred_dma c 11 (by decide), ← cred_dma c 12 (by decide), ← cred_dma c 13 (by decide), ← cred_dma c 20 (by decide), ← cred_dma c 21 (by decide), ← cred_dma c 22 (by decide), ← cred_dma c 23 (by decide), ← cred_dma c 24 (by decide), ← cred_dma c 25 (by decide)]
  exact BI.Entails.refl _

end Cert.KernelIdeal.Talk
-- ==== Proof.LaunchC.lean ====
/-
  The run of the kernel on the four devices: what every device's buffers hold at the end, and that every counter is
  back at zero.
-/
module

public import proofs.«01_k».proof.Proof.LaunchB
public import proofs.«01_k».proof.Proof.Gen.KernelIdeal.Frame
public import proofs.«01_k».proof.Proof.Gen.KernelIdeal.Points
public import Idealize.ShloMosaic.Lib.Pipeline.Kit
public import Idealize.ShloMosaic.Lib.Pipeline.RegionTalk
public import Idealize.ShloMosaic.Lib.Pipeline.FrameTail

@[expose] public section

set_option maxRecDepth 16384

noncomputable section

namespace Cert.KernelIdeal.Talk

open Idealize.ShloMosaic Idealize.ShloMosaic.TcCoe
open Cert.KernelIdeal Cert.KernelIdeal.Gen
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)

variable {F : FTy → Type} [FloatOps F]

local notation "𝕄" => MT nD τ sig Unit (Elt F) ℕ UU ℕ

variable (m : (ℓ : Loc nD τ sig) → Buf (Elt F) ℓ) (ρ : Dev nD → PrngReg)

/-! ## The region -/

abbrev adm : (p : Fin 1) → (pcfgs (F := F) p).Adm := fun p => (cfgs p).toPCfg_adm
def pdats : (p : Fin 1) → (c : Dev nD) → Pipeline.Dat τ (Elt F) Unit ℕ UU ℕ (Pipeline.pin (pcfgs (F := F)) adm p) c
  | 0 => dat0 m

/-- The launch's buffers as the region finds them, and as it leaves them: the result at the layer's rows. -/
def V0 (c : Dev nD) : Valuation τ sig (Elt F) := fun b => m (c, b)
def V1 (c : Dev nD) : Valuation τ sig (Elt F) := StableHlo.after hostOps0 (V0 m c)
def V2 (c : Dev nD) : Valuation τ sig (Elt F) := Function.update (V1 m c) (Proc.devRef .tc main_v38) (resF (inp m) c)

theorem scr_eq (c : Dev nD) : (Pipeline.scopedRest (Ix := Unit) (Name := ℕ) (U := UU) (Lvl := ℕ) (Val := Elt F) spec0 c : sProp 𝕄) = scr c := by
  rw [scopedRest0_eq]
  unfold scr anyOf
  simp only [show B8.view.set = Finset.univ from View.set_whole _, show B9.view.set = Finset.univ from View.set_whole _,
    show B10.view.set = Finset.univ from View.set_whole _, show B11.view.set = Finset.univ from View.set_whole _,
    show B12.view.set = Finset.univ from View.set_whole _]

theorem held_none (c : Dev nD) (W : Valuation τ sig (Elt F)) : (StableHlo.held (c.tc : Thread nD τ) ∅ W : sProp 𝕄) = BI.emp := by
  unfold StableHlo.held; exact BI.bigSep_empty

theorem hin (c : Dev nD) : iprop(Pipeline.scopedRest (Pipeline.pin (pcfgs (F := F)) adm 0).spec c ∗ (∃ r, prngReg c r)
      ∗ StableHlo.held (c.tc : Thread nD τ) ∅ (V1 m c) ∗ Xk m c) ⊢ (pdats m 0 c).Φ 0 := by
  show iprop(Pipeline.scopedRest spec0 c ∗ _) ⊢ (dat0 m c).Φ 0
  rw [scr_eq, Φ_zero]
  iintro ⟨Hs, Hp, -, HX⟩
  isplitl [HX]; · iexact HX
  isplitl [Hs]; · iexact Hs
  iexact Hp

theorem hout (c : Dev nD) : (pdats m 0 c).Φ (Fin.last (Pipeline.pin (pcfgs (F := F)) adm 0).N)
    ⊢ iprop(Pipeline.scopedRest (Pipeline.pin (pcfgs (F := F)) adm 0).spec c ∗ (∃ r, prngReg c r)
      ∗ StableHlo.held (c.tc : Thread nD τ) ∅ (V2 m c) ∗ Pipeline.ownSems0 osem c ∗ semVal (bar c) 0) := by
  show (dat0 m c).Φ (Fin.last _) ⊢ iprop(Pipeline.scopedRest spec0 c ∗ _)
  rw [scr_eq, Φ_last, ends_eq, held_none]
  iintro ⟨Hb, He, Hs, Hp⟩
  isplitl [Hs]; · iexact Hs
  isplitl [Hp]; · iexact Hp
  isplitr; · iempintro
  isplitl [He]; · iexact He
  iexact Hb

theorem kitP : Pipeline.PLaunchFacts (nD := nD) (τ := τ) (pcfgs (F := F)) 0 where
  cellOf_inj a := by rw [Subsingleton.elim a adm]; exact cellOf_inj
  win := winFacts0
  pre := Pipeline.PreFacts.none _
  block_pos := block_pos0
  arr_whole := arr_whole0
  stage_whole := stage_whole0

theorem lv_stage (w : Fin 8) (s : Fin (cfg0.win w).nbuf) {c : Dev nD} : lv ((c : Thread nD τ), .dma ((cfg0.win w).sem s)) () = 0 := by
  have h : ∀ (w : Fin 8) (s : Fin (cfg0.win w).nbuf), ((cfg0.win w).sem s).val < 11 := by decide +kernel
  show (if ((cfg0.win w).sem s).val < 11 then 0 else _) = 0
  exact if_pos (h w s)

/-- Everything a device owes lies above the level the staging copies wait at. -/
theorem lv_due : ∀ c : Dev nD, ∀ g ∈ due c, 0 < lv g () ∧ g.1.2 = .tc := by decide +kernel

theorem cutD (c : Dev nD) (t : Fin ((Pipeline.pin (pcfgs (F := F)) adm 0).N + 1)) (g : GSem nD τ sig) (i : Unit)
    (h : 0 < (pdats (F := F) m 0 c).owed t g i) : i ∈ L g ∧ (0 : ℕ) < lv g i := by
  have e : (pdats (F := F) m 0 c).owed t = if t.val = 0 then O₀ c else 0 := rfl
  rw [e] at h
  split at h
  · obtain ⟨h1, h2⟩ := lv_due c g (oweL_pos h)
    exact ⟨by unfold L; rw [if_pos h2]; exact Finset.mem_singleton_self _, h1⟩
  · exact absurd h (Nat.lt_irrefl 0)

/-- The arrays the windows stage, as the region finds them. -/
theorem hW (c : Dev nD) (w : Fin cfg0.W) : (pdats m 0 c).arrAt w 0 = V1 m c (Proc.devRef .tc (Pipeline.arrRef spec0 w)) := rfl

/-- The result's one block is the whole of it. -/
theorem cover (c : Dev nD) (i : ((cfg0.win 7).arr.view.loc (c.tc : Thread nD τ)).2.ty.Idx) :
    ∃ t : Fin cfg0.N, (cfg0.win 7).flush t = true ∧ i ∈ ((cfg0.win 7).blk t).view.set := by
  refine ⟨t0_0, flush0_7 _, ?_⟩
  show i ∈ ((View.whole main_v38).slice (win0_7.rect t0_0)).set
  rw [View.set_slice_whole, Rect.mem_set_unit]
  have e : ∀ a, win0_7.index t0_0 a * win0_7.size a = 0 ∧ win0_7.xsize (grid0.coords t0_0) a = S1x1024x1024.size a := by decide +kernel
  intro a
  show win0_7.index t0_0 a * win0_7.size a ≤ (i a).val ∧ (i a).val < win0_7.index t0_0 a * win0_7.size a + win0_7.xsize (grid0.coords t0_0) a
  obtain ⟨e1, e2⟩ := e a
  have h : (i a).val < S1x1024x1024.size a := (i a).isLt
  rw [e1, e2]; omega

theorem arr_out (c : Dev nD) : (dat0 m c).arrAt 7 cfg0.N = resF (inp m) c :=
  (dat0 m c).arrAt_eq_of_cover 7 (resF (inp m) c) (fun t _ => by obtain rfl := fin_N0 t; exact out_cut m c) (cover c)

theorem ne_out : ∀ w : Fin 8, w ≠ 7 → Proc.devRef (τ := τ) .tc (Pipeline.arrRef spec0 w) ≠ Proc.devRef .tc main_v38 := by
  decide +kernel
theorem in_out : ∀ w : Fin 8, w ≠ 7 → (cfg0.win w).isOut = false := by
  decide +kernel

/-- The arrays the windows stage, as the region leaves them. -/
theorem hW' (c : Dev nD) (w : Fin cfg0.W) : (pdats m 0 c).arrAt w cfg0.N = V2 m c (Proc.devRef .tc (Pipeline.arrRef spec0 w)) := by
  by_cases h : w = 7
  · subst h
    refine (arr_out m c).trans ?_
    unfold V2
    exact (Function.update_self (Proc.devRef (τ := τ) .tc main_v38) (resF (inp m) c) (V1 m c)).symm
  · refine ((dat0 m c).arrAt_in w (in_out w h) _).trans ?_
    show V1 m c _ = Function.update (V1 m c) _ _ _
    exact (Function.update_of_ne (ne_out w h) (resF (inp m) c) (V1 m c)).symm

abbrev bufs : Finset (DevRef τ sig) := Pipeline.ucRefs τ sig
abbrev arrs : Finset (DevRef τ sig) := Pipeline.arrRefs (τ := τ) spec0

theorem out_mem : Proc.devRef (τ := τ) .tc main_v38 ∈ arrs :=
  Finset.mem_map.mpr ⟨main_v38, Finset.mem_image.mpr ⟨7, Finset.mem_univ _, rfl⟩, rfl⟩
theorem arrs_sub : arrs ⊆ bufs := Pipeline.arrRefs_sub_ucRefs spec0 (by decide +kernel)

theorem hrest (c : Dev nD) (b : DevRef τ sig) (hb : b ∈ (bufs \ arrs) \ ∅) : V2 m c b = V1 m c b := by
  rw [Finset.sdiff_empty] at hb
  refine Function.update_of_ne (fun h => ?_) _ _
  exact (Finset.mem_sdiff.mp hb).2 (h ▸ out_mem)

set_option backward.isDefEq.respectTransparency.types false in
/-- The kernel's region. -/
def reg : Pipeline.RegionSeg (pcfgs (F := F)) adm (pdats m) () defs₀ 𝒱₀ L lv 0 :=
  Pipeline.RegionSeg.ofTalk (pcfgs (F := F)) adm (pdats m) () defs₀ 𝒱₀ L lv 0 osem (by decide +kernel : Pipeline.OwnSemFacts spec0 osem)
    ∅ (bufs \ arrs) (Finset.empty_subset _) kitP rfl (fun c => (body1 m c).loose)
    (fun _ => 0) O₀ (fun c => (owed_zero m c).trans (zero_add _).symm) (owed_last m) (fun _ => rfl)
    (fun c w => by unfold Pipeline.Dat.share; split <;> rfl)
    (V1 m) (V2 m) (hrest m)
    (Tk m) (fun c => semVal (bar c) 0) (Xk m) (fun c => semVal (bar c) 0) (hopen m) (hin m) (hout m)
    (fun c => by iintro H; imodintro; iexact H)
    (fun _ => 0)
    ⟨fun c w s => by unfold L; rw [if_pos rfl]; exact Finset.mem_singleton_self _, fun c w s => Nat.le_of_eq (lv_stage w s), fun c t g i h => cutD m c t g i h⟩
    (fun _ => iprop(emp))
    (hW m) (hW' m)

/-- What rides beside the buffers until the region: the exchange's share, the register, and all that is owed. -/
def R (c : Dev nD) : sProp 𝕄 := iprop((Tk m c ∗ ∃ r, prngReg c r) ∗ ∃ W, owes (c : Thread nD τ) (O₀ c) W)

theorem reg_pre (c : Dev nD) : iprop(StableHlo.held (c : Thread nD τ) bufs (V1 m c) ∗ R m c) ⊢ (reg m).pre c := by
  show _ ⊢ iprop(StableHlo.held (c.tc : Thread nD τ) arrs (V1 m c) ∗ (∃ r, prngReg c r)
    ∗ (StableHlo.held (c.tc : Thread nD τ) (bufs \ arrs) (V1 m c) ∗ emp) ∗ Tk m c ∗ ∃ Wd, owes (c : Thread nD τ) (0 + O₀ c) Wd)
  rw [zero_add, StableHlo.held_sub_split (c.tc : Thread nD τ) arrs_sub (V1 m c)]
  unfold R
  iintro ⟨⟨Ha, Hh⟩, ⟨HT, Hp⟩, HO⟩
  isplitl [Ha]; · iexact Ha
  isplitl [Hp]; · iexact Hp
  isplitl [Hh]
  · isplitl [Hh]; · iexact Hh
    iempintro
  isplitl [HT]; · iexact HT
  iexact HO

theorem reg_post (c : Dev nD) : (reg m).post c
    ⊢ iprop((StableHlo.held (c : Thread nD τ) bufs (V2 m c) ∗ semVal (bar c) 0) ∗ ∃ W, owes (c : Thread nD τ) (0 : CellTallies nD τ sig Unit) W) := by
  show iprop(StableHlo.held (c.tc : Thread nD τ) arrs (V2 m c) ∗ (∃ r, prngReg c r)
    ∗ (StableHlo.held (c.tc : Thread nD τ) (bufs \ arrs) (V2 m c) ∗ emp) ∗ semVal (bar c) 0 ∗ ∃ Wd, owes (c : Thread nD τ) (0 : CellTallies nD τ sig Unit) Wd) ⊢ _
  rw [StableHlo.held_sub_split (c.tc : Thread nD τ) arrs_sub (V2 m c)]
  iintro ⟨Ha, -, ⟨Hh, -⟩, Hb, HO⟩
  isplitr [HO]
  · isplitl [Ha Hh]
    · isplitl [Ha]; · iexact Ha
      iexact Hh
    iexact Hb
  iexact HO

/-- The operations before the region. -/
def seg0 : Pipeline.HostSeg (Name := ℕ) (U := UU) (pcfgs (F := F)) defs₀ 𝒱₀ L lv :=
  Pipeline.HostSeg.ofOps _ _ _ _ _ bufs hostOps0
    (fun op h => Pipeline.sub_ucRefs op (List.forall_iff_forall_mem.mp hostOps0_sub op h))
    (fun op h => List.forall_iff_forall_mem.mp hostOps0_fresh op h) (V0 m) (R m)

def segs : List (Pipeline.Seg (pcfgs (F := F)) adm (pdats m) () defs₀ 𝒱₀ L lv) := [.host (seg0 m), .region (reg m)]
theorem main_eq (c : Dev nD) : main (F := F) c = Pipeline.Seg.run (segs m) :=
  main_segs adm (pdats m) () 𝒱₀ L lv (seg0 m) (reg m) rfl c

/-! ## The launch -/

def u₀ : UU :=
  (initOf (Pipeline.cells (Pipeline.pin (pcfgs (F := F)) adm) cellOf_inj) (Pipeline.launchToks (Pipeline.pin (pcfgs (F := F)) adm) cellOf_inj),
    launchOf barCells scCells talkToks)

/-- A resource all of which is on the first device. -/
def onFst (X : sProp 𝕄) (c : Dev nD) : sProp 𝕄 := if c = 0 then X else iprop(emp)
theorem bigSep_onFst (X : sProp 𝕄) : bigSep Finset.univ (onFst X) = X := by
  rw [bigSep_univ_at _ (0 : Dev nD), bigSep_congr (s := Finset.univ.erase (0 : Dev nD)) (Ψ := fun _ => (BI.emp : sProp 𝕄))
      fun c hc => by unfold onFst; rw [if_neg (Finset.ne_of_mem_erase hc)]; rfl, BI.bigSep_emp_const]
  unfold onFst; rw [if_pos rfl]
  exact BI.equiv_iff.mp sep_emp
def G : Dev nD → sProp 𝕄 := onFst (BI.own (ER (launchOf barCells scCells talkToks)))

theorem sems_bar (c : Dev nD) : (unscopedSems0 c : sProp 𝕄) = semVal (bar c) 0 := by
  unfold unscopedSems0
  rw [show (Finset.univ.filter fun sm : SemLoc sig => ¬ sm.isScoped .tc) = {SemLoc.reg barrier0} from by decide +kernel, BI.bigSep_singleton]

abbrev T₀ (c : Dev nD) : sProp 𝕄 := iprop(StableHlo.held (c : Thread nD τ) bufs (V0 m c) ∗ R m c)
abbrev Tₙ (c : Dev nD) : sProp 𝕄 := iprop(StableHlo.held (c : Thread nD τ) bufs (V2 m c) ∗ semVal (bar c) 0)

/-- What a device holds at launch beside the exchange's share. -/
def own0 (c : Dev nD) : sProp 𝕄 :=
  iprop(StableHlo.held (c : Thread nD τ) bufs (V0 m c) ∗ crd c ∗ owes (c : Thread nD τ) (O₀ c) ∅ ∗ ∃ r, prngReg c r)

theorem T₀_intro (κ : GSem nD τ sig → ℕ) (c : Dev nD) : iprop(records m κ ∗ (linear c ∗ own0 m c)) ⊢ T₀ m c := by
  unfold own0 T₀ R Tk
  iintro ⟨#HR, Hl, Hh, Hc, HO, Hp⟩
  isplitl [Hh]; · iexact Hh
  isplitr [HO]
  · isplitr [Hp]
    · isplitr [Hc]
      · iexists κ; isplitr; · iexact HR
        iexact Hl
      iexact Hc
    iexact Hp
  iexists ∅; iexact HO

theorem core_split (c : Dev nD) : iprop(unscopedBufs c (fun b => m ((c : Thread nD τ).loc b)) ∗ unscopedSems0 c
        ∗ owes (c : Thread nD τ) (O₀ c) ∅ ∗ Pipeline.launchCred O₀ c ∗ prngReg c (ρ c) ∗ G c)
      ⊢ (iprop(own0 m c ∗ (semVal (bar c) 0 ∗ G c)) : sProp 𝕄) := by
  rw [show unscopedBufs c (fun b => m ((c : Thread nD τ).loc b)) = StableHlo.held (c : Thread nD τ) bufs (V0 m c) from
    Pipeline.unscopedBufs_held (Ix := Unit) (Name := ℕ) (U := UU) (Lvl := ℕ) c (V0 m c), sems_bar]
  unfold own0
  iintro ⟨Hh, Hus, HO, Hcr, Hp, HG⟩
  isplitl [Hh Hcr HO Hp]
  · isplitl [Hh]; · iexact Hh
    isplitl [Hcr]; · iapply (crd_intro c); iexact Hcr
    isplitl [HO]; · iexact HO
    iexists (ρ c); iexact Hp
  isplitl [Hus] <;> iassumption

theorem open_eq : bigSep scCells (fun g => (openTok ER g : sProp 𝕄))
    = bigSep Finset.univ fun c : Dev nD => bigSep Finset.univ fun k : Fin 18 => openTok ER (cell c (n18 k)) := by
  rw [bigSep_map, bigSep_univ_prod]; rfl
theorem talk_eq : bigSep talkToks (fun x => (dutyTok ER x.1 x.2.1 x.2.2 : sProp 𝕄)) = bigSep Finset.univ fun c : Dev nD => toks c := by
  unfold talkToks; rw [bigSep_map, bigSep_univ_prod]; rfl

theorem sep3 (A B C : Dev nD → sProp 𝕄) : bigSep Finset.univ (fun c => iprop(A c ∗ B c ∗ C c))
    = iprop(bigSep Finset.univ A ∗ bigSep Finset.univ B ∗ bigSep Finset.univ C) := by
  rw [bigSep_sep', bigSep_sep']

theorem all_split : (bigSep Finset.univ fun c : Dev nD => iprop(unscopedBufs c (fun b => m ((c : Thread nD τ).loc b)) ∗ unscopedSems0 c
          ∗ owes (c : Thread nD τ) (O₀ c) ∅ ∗ Pipeline.launchCred O₀ c ∗ prngReg c (ρ c) ∗ G c))
      ⊢ (iprop(bigSep Finset.univ (own0 m) ∗ bigSep Finset.univ (fun c : Dev nD => semVal (bar c) 0) ∗ bigSep Finset.univ G) : sProp 𝕄) := by
  rw [← sep3]
  exact bigSep_mono fun c _ => core_split m ρ c

/-- The launch: every cell's invariant is made, and each device is dealt its share. -/
theorem init :
    iprop((bigSep Finset.univ fun c : Dev nD => iprop(unscopedBufs c (fun b => m ((c : Thread nD τ).loc b)) ∗ unscopedSems0 c
          ∗ owes (c : Thread nD τ) (O₀ c) ∅ ∗ Pipeline.launchCred O₀ c ∗ prngReg c (ρ c) ∗ G c)) ∗ levAts L lv)
      ⊢ (|={Set.univ}=> bigSep Finset.univ (T₀ m) : sProp 𝕄) := by
  iintro ⟨H, -⟩
  ihave H := (all_split m ρ) $$ H
  icases H with ⟨HB, Hv, HG⟩
  ihave Hu := (show bigSep Finset.univ (G (F := F)) ⊢ BI.own (ER (launchOf barCells scCells talkToks)) from Entails.of_eq (bigSep_onFst _)) $$ HG
  imod (Rounds.fund_launch ER (Rd (inp m)) disjoint_cells (fun g _ h => h) talkToks) $$ [Hv Hu] with ⟨%κ, -, #Hinv, #Hr, Hat, Hopen, Htok⟩
  · isplitl [Hv]
    · iapply (Entails.of_eq (bigSep_map (s := Finset.univ) barEmb (Φ := fun g : GSem nD τ sig => (semVal g 0 : sProp 𝕄))).symm); iexact Hv
    iexact Hu
  imodintro
  iapply (bigSep_with_persistent (R := records m κ) (Φ := fun c => iprop(linear c ∗ own0 m c)) fun c _ => T₀_intro m κ c)
  isplitr
  · unfold records
    isplitr; · iapply (Entails.of_eq (invs_of (inp m) κ)); iexact Hinv
    unfold bars
    iapply (Entails.of_eq (bigSep_map (s := Finset.univ) barEmb (Φ := fun g : GSem nD τ sig => (reached ER g 0 : sProp 𝕄)))); iexact Hr
  iapply (Entails.of_eq (bigSep_sep' _ _ _).symm)
  isplitr [HB]
  · unfold linear
    iapply (Entails.of_eq (sep3 _ _ _).symm)
    isplitl [Hat]
    · iapply (Entails.of_eq (bigSep_map (s := Finset.univ) barEmb (Φ := fun g : GSem nD τ sig => (atPos ER g 0 ∅ 0 : sProp 𝕄)))); iexact Hat
    isplitl [Hopen]; · iapply (Entails.of_eq open_eq); iexact Hopen
    iapply (Entails.of_eq talk_eq); iexact Htok
  iexact HB

theorem unscoped_bar : ∀ sm : SemLoc sig, sm.isScoped .tc = false → sm = .reg barrier0 := by decide +kernel

/-- An argument is left by the operations and by the region as it was launched. -/
theorem V2_of {c : Dev nD} {b : Ref sig .tc} (h : Proc.devRef (τ := τ) .tc b ≠ Proc.devRef .tc main_v38)
    (hV : V m c b = m ((c : Thread nD τ).loc b)) : V2 m c (Proc.devRef .tc b) = m ((c : Thread nD τ).loc b) :=
  (Function.update_of_ne h _ _).trans hV
theorem V2_out (c : Dev nD) : V2 m c (Proc.devRef .tc main_v38) = resF (inp m) c := by
  unfold V2
  exact Function.update_self (Proc.devRef (τ := τ) .tc main_v38) (resF (inp m) c) (V1 m c)

set_option backward.isDefEq.respectTransparency.types false in
/-- THE RUN: from any memory with every counter at zero, every weakly fair execution of the program on the four
    devices ends, and at the end each device's arguments are unchanged, its result holds the layer's rows, and
    every counter is at zero. -/
theorem run : θ_run defs (onTc (τ := τ) (main (F := F))) (s₀ m ρ)
    (fun r => (∀ c : Dev nD, r.2.mem ((c : Thread nD τ).loc main_v38) = resF (inp m) c
        ∧ r.2.mem ((c : Thread nD τ).loc main_arg0) = m ((c : Thread nD τ).loc main_arg0)
        ∧ r.2.mem ((c : Thread nD τ).loc main_arg1) = m ((c : Thread nD τ).loc main_arg1)
        ∧ r.2.mem ((c : Thread nD τ).loc main_arg2) = m ((c : Thread nD τ).loc main_arg2)
        ∧ r.2.mem ((c : Thread nD τ).loc main_arg3) = m ((c : Thread nD τ).loc main_arg3)
        ∧ r.2.mem ((c : Thread nD τ).loc main_arg4) = m ((c : Thread nD τ).loc main_arg4)) ∧ r.2.sem = fun _ => 0) :=
  Pipeline.θ_run_regions_kit_sems (pcfgs (F := F)) adm (pdats m) () cellOf_inj EP defs₀ 𝒱₀ L lv m ρ main (segs m)
    (fun c Q => by rw [main_eq m c])
    (by simp only [segs, Pipeline.Seg.pipes_host, Pipeline.Seg.pipes_region, Pipeline.Seg.pipes_nil]; decide)
    (O₀ := O₀) (hL := L_of_ne) (G := G) (u₀ := u₀ (F := F))
    (hu₀ := by
      unfold u₀ G
      iintro Hu
      ihave H := (ownU_pair _ _) $$ Hu
      icases H with ⟨HP, HX⟩
      imodintro
      isplitl [HP]; · iexact HP
      rw [bigSep_onFst]; iexact HX)
    (T₀ := T₀ m) (Tₙ := Tₙ m)
    (hch := ⟨fun c => .rfl, fun c => reg_pre m c, fun c => reg_post m c⟩)
    (hinit := init m ρ)
    (QY := fun c s => (∀ b ∈ bufs, s.mem ((c.tc : Thread nD τ).1, b) = V2 m c b) ∧ s.sem (bar c) = 0)
    (hfin := fun c s' => by
      unfold Tₙ StableHlo.held
      iintro ⟨⟨Hh, Hb⟩, HSI⟩
      icombine HSI Hb gives %hb
      ihave Hr := (pointsTo_read_all bufs (fun b => ((c.tc : Thread nD τ).1, b)) (V2 m c) s') $$ [Hh HSI]
      · isplitl [Hh] <;> iassumption
      icases Hr with ⟨%hr, HSI⟩
      imodintro
      isplitr
      · ipureintro; exact ⟨hr, by simpa using hb⟩
      iexact HSI)
    (hQ := fun s h hs => ⟨fun c => by
        obtain ⟨hm, -⟩ := h c
        have at_ (b : Ref sig .tc) (hb : b.isScoped = false) : s.mem ((c : Thread nD τ).loc b) = V2 m c (Proc.devRef .tc b) :=
          hm _ (Pipeline.devRef_mem_ucRefs hb)
        exact ⟨(at_ main_v38 rfl).trans (V2_out m c),
          (at_ main_arg0 rfl).trans (V2_of m (by decide +kernel) (V_main_arg0 m c)),
          (at_ main_arg1 rfl).trans (V2_of m (by decide +kernel) (V_main_arg1 m c)),
          (at_ main_arg2 rfl).trans (V2_of m (by decide +kernel) (V_main_arg2 m c)),
          (at_ main_arg3 rfl).trans (V2_of m (by decide +kernel) (V_main_arg3 m c)),
          (at_ main_arg4 rfl).trans (V2_of m (by decide +kernel) (V_main_arg4 m c))⟩,
      sem_eq_zero hs fun c sm hsm => by
        obtain rfl := unscoped_bar sm hsm
        exact (h c).2⟩)

end Cert.KernelIdeal.Talk
-- ==== Proof.ValS.lean ====
/-
  Facts about extended reals that the value of the kernel rests on: sums and products of reals are real, a nonnegative
  real factor moves through any sum, a softmax is the same with or without its row's greatest score subtracted, a sum
  over the 4096 columns is the sum over four devices of sums over 1024.
-/
module

public import Idealize.ShloMosaic.Lib.Pointwise
public import Idealize.ShloMosaic.Lib.IdealHost

@[expose] public section

noncomputable section

namespace Cert.Scal

open Idealize.ShloMosaic

/-- An extended real that is a real. -/
def Fini (x : EReal) : Prop := ∃ r : ℝ, x = (r : EReal)

/-- What is below plus infinity and above minus infinity is real. -/
theorem Fini.of_lt {x : EReal} (h₁ : x < ⊤) (h₂ : ⊥ < x) : Fini x :=
  ⟨x.toReal, (EReal.coe_toReal h₁.ne h₂.ne').symm⟩

/-- A product of reals is real. -/
theorem Fini.mul {x y : EReal} : Fini x → Fini y → Fini (x * y)
  | ⟨r, hr⟩, ⟨s, hs⟩ => ⟨r * s, by rw [hr, hs, EReal.coe_mul]⟩

/-- A sum of two reals is real. -/
theorem Fini.add {x y : EReal} : Fini x → Fini y → Fini (x + y)
  | ⟨r, hr⟩, ⟨s, hs⟩ => ⟨r + s, by rw [hr, hs, EReal.coe_add]⟩

/-- The negative of a real is real. -/
theorem Fini.neg {x : EReal} : Fini x → Fini (-x)
  | ⟨r, hr⟩ => ⟨-r, by rw [hr, EReal.coe_neg]⟩

/-- A finite sum of reals is real. -/
theorem Fini.sum {ι : Type} (s : Finset ι) (f : ι → EReal) (h : ∀ i, Fini (f i)) : Fini (∑ i ∈ s, f i) := by
  classical
  induction s using Finset.induction_on with
  | empty => exact ⟨0, by simp⟩
  | insert a s ha ih => rw [Finset.sum_insert ha]; exact (h a).add ih

/-- A nonnegative real factor moves into a sum of any extended reals. -/
theorem sum_mul_coe {ι : Type} (s : Finset ι) (f : ι → EReal) {c : ℝ} (hc : 0 ≤ c) :
    (∑ i ∈ s, f i) * (c : EReal) = ∑ i ∈ s, f i * (c : EReal) := by
  classical
  induction s using Finset.induction_on with
  | empty => simp
  | insert a s ha ih =>
    rw [Finset.sum_insert ha, Finset.sum_insert ha, ← ih]
    exact EReal.right_distrib_of_nonneg_of_ne_top (by exact_mod_cast hc) (EReal.coe_ne_top c) _ _

/-- The same of two summands. -/
theorem add_mul_coe (x y : EReal) {c : ℝ} (hc : 0 ≤ c) : (x + y) * (c : EReal) = x * (c : EReal) + y * (c : EReal) :=
  EReal.right_distrib_of_nonneg_of_ne_top (by exact_mod_cast hc) (EReal.coe_ne_top c) _ _

/-- The sum of reals as an extended real. -/
theorem coe_sum {ι : Type} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- The greatest of finitely many reals, at least one, is real. -/
theorem fold_max_real {n : ℕ} (s : Fin (n + 1) → ℝ) :
    Fini (Finset.univ.fold max ⊥ fun j => (s j : EReal)) := by
  refine Fini.of_lt ?_ ?_
  · exact (Finset.fold_max_lt _).mpr ⟨bot_lt_top, fun j _ => EReal.coe_lt_top _⟩
  · exact (Finset.lt_fold_max _).mpr (.inr ⟨0, Finset.mem_univ _, EReal.bot_lt_coe _⟩)

/-- Weighted by plain exponentials and divided by their sum, or weighted by the softmax whose scores have any real
    subtracted: the same average. -/
theorem soft_shift {n : ℕ} (s : Fin (n + 1) → ℝ) (v : Fin (n + 1) → EReal) (μ : ℝ) :
    Ideal.div (∑ j, Ideal.exp (s j : EReal) * v j) (∑ j, Ideal.exp (s j : EReal))
      = ∑ j, v j * Ideal.div (Ideal.exp ((s j : EReal) - (μ : EReal))) (∑ l, Ideal.exp ((s l : EReal) - (μ : EReal))) := by
  have hZ : 0 < ∑ j, Real.exp (s j) := Finset.sum_pos (fun j _ => Real.exp_pos _) Finset.univ_nonempty
  have hW : 0 < ∑ j, Real.exp (s j - μ) := Finset.sum_pos (fun j _ => Real.exp_pos _) Finset.univ_nonempty
  have e₁ : (∑ j, Ideal.exp (s j : EReal)) = ((∑ j, Real.exp (s j) : ℝ) : EReal) := (coe_sum _ _).symm
  have e₂ : (∑ l, Ideal.exp ((s l : EReal) - (μ : EReal))) = ((∑ l, Real.exp (s l - μ) : ℝ) : EReal) := by
    rw [coe_sum]
    exact Finset.sum_congr rfl fun l _ => by rw [← EReal.coe_sub]; rfl
  rw [e₁, e₂, Ideal.div_coe hZ.ne', sum_mul_coe _ _ (by positivity)]
  refine Finset.sum_congr rfl fun j _ => ?_
  rw [Ideal.div_coe hW.ne', ← EReal.coe_sub, Ideal.exp_coe, Ideal.exp_coe, ← EReal.coe_mul, mul_comm (Real.exp (s j) : EReal),
    mul_assoc, ← EReal.coe_mul]
  congr 2
  have : ∀ l, Real.exp (s l - μ) = Real.exp (s l) * Real.exp (-μ) := fun l => by rw [← Real.exp_add, sub_eq_add_neg]
  simp only [this, ← Finset.sum_mul]
  have := Real.exp_pos (-μ)
  field_simp

/-- The same where the real subtracted is the greatest score. -/
theorem soft {n : ℕ} (s v : Fin (n + 1) → EReal) (hs : ∀ j, Fini (s j)) :
    Ideal.div (∑ j, Ideal.exp (s j) * v j) (∑ j, Ideal.exp (s j))
      = ∑ j, v j * Ideal.div (Ideal.exp (s j - Finset.univ.fold max ⊥ s))
          (∑ l, Ideal.exp (s l - Finset.univ.fold max ⊥ s)) := by
  choose r hr using hs
  obtain rfl : s = fun j => (r j : EReal) := funext hr
  obtain ⟨μ, hμ⟩ := fold_max_real r
  rw [hμ]
  exact soft_shift r v μ

/-- A sum over 4096 is four sums over 1024. -/
theorem sum_blocks (f : Fin 4096 → EReal) :
    ∑ m, f m = ∑ p : Fin 4, ∑ m : Fin 1024, f ⟨1024 * p.val + m.val, by omega⟩ := by
  rw [← Fintype.sum_prod_type']
  refine (Fintype.sum_equiv (finProdFinEquiv (m := 4) (n := 1024)) _ _ fun x => ?_).symm
  exact congrArg f (Fin.ext (Nat.add_comm _ _))

/-- A sum over 1024 is a sum over the first 256 and one over the other 768. -/
theorem sum_head (f : Fin 1024 → EReal) :
    ∑ m, f m = (∑ m : Fin 256, f ⟨m.val, by omega⟩) + ∑ m : Fin 768, f ⟨m.val + 256, by omega⟩ := by
  rw [Fin.sum_univ_add (a := 256) (b := 768) f]
  refine congrArg₂ (· + ·) rfl (Finset.sum_congr rfl fun m _ => congrArg f (Fin.ext ?_))
  exact Nat.add_comm _ _

/-- Four terms added from any place round the ring are their sum. -/
theorem ring_sum (T : Fin 4 → EReal) (d : Fin 4) :
    T d + T ⟨(d.val + 1) % 4, Nat.mod_lt _ (by decide)⟩ + T ⟨(d.val + 2) % 4, Nat.mod_lt _ (by decide)⟩
      + T ⟨(d.val + 3) % 4, Nat.mod_lt _ (by decide)⟩ = ∑ p, T p := by
  rw [Fin.sum_univ_four]
  fin_cases d
  · rfl
  · show T 1 + T 2 + T 3 + T 0 = _
    ac_rfl
  · show T 2 + T 3 + T 0 + T 1 = _
    ac_rfl
  · show T 3 + T 0 + T 1 + T 2 = _
    ac_rfl

/-- The literals: the frequencies' base. -/
theorem base_eq : Ideal.ofBits .f32 0x461C4000#32 = ((10000 : ℝ) : EReal) := by
  simp [Ideal.ofBits, Ideal.ieee, -EReal.coe_mul]; norm_num
/-- The head's width. -/
theorem width_eq : Ideal.ofBits .f32 0x43000000#32 = ((128 : ℝ) : EReal) := by
  simp [Ideal.ofBits, Ideal.ieee, -EReal.coe_mul]; norm_num
/-- Two. -/
theorem two_eq : Ideal.ofBits .f32 0x40000000#32 = ((2 : ℝ) : EReal) := by
  simp [Ideal.ofBits, Ideal.ieee, -EReal.coe_mul]; norm_num
/-- The scale is some nonnegative real. -/
theorem scale_eq : ∃ c : ℝ, 0 ≤ c ∧ Ideal.ofBits .f32 0x3DB504F3#32 = (c : EReal) := by
  simp [Ideal.ofBits, Ideal.ieee, -EReal.coe_mul]
/-- Minus infinity. -/
theorem bot_eq : Ideal.ofBits .f32 0xFF800000#32 = ⊥ := by
  simp [Ideal.ofBits, Ideal.ieee]
/-- Plus infinity. -/
theorem top_eq : Ideal.ofBits .f32 0x7F800000#32 = ⊤ := by
  simp [Ideal.ofBits, Ideal.ieee]

/-- The inverse frequency of a column as the reference forms it. -/
theorem freq_ref (y : ℝ) : Ideal.div 1 (Ideal.pow ((10000 : ℝ) : EReal) (Ideal.div (y : EReal) ((128 : ℝ) : EReal)))
    = ((Real.rpow 10000 (-(y / 128)) : ℝ) : EReal) := by
  rw [Ideal.div_coe (by norm_num), ← EReal.coe_mul, Ideal.pow_coe_coe]
  have h : (0 : ℝ) < Real.rpow 10000 (y * (1 / 128)) := Real.rpow_pos_of_pos (by norm_num) _
  rw [Ideal.div_coe h.ne', one_mul]
  refine congrArg _ ?_
  have := Real.rpow_neg (x := 10000) (by norm_num) (y * (1 / 128))
  rw [one_div]
  refine Eq.trans this.symm ?_
  show Real.rpow _ _ = _
  congr 1; ring
/-- The inverse frequency as the kernel forms it. -/
theorem freq_ker (y : ℝ) : Ideal.pow ((10000 : ℝ) : EReal) (Ideal.div (-(y : EReal)) ((128 : ℝ) : EReal))
    = ((Real.rpow 10000 (-(y / 128)) : ℝ) : EReal) := by
  rw [Ideal.div_coe (by norm_num), ← EReal.coe_neg, ← EReal.coe_mul, Ideal.pow_coe_coe]
  refine congrArg _ (congrArg _ ?_)
  ring

/-- The position `i` at the frequency of column `j` of 64. -/
def ang (i : Fin 1024) (j : Fin 64) : EReal :=
  (((i.val : ℤ) : ℝ) : EReal) * ((Real.rpow 10000 (-((2 * j.val : ℤ) / 128)) : ℝ) : EReal)

/-- A position's word read as an integer is the position. -/
theorem toInt_pos (i : Fin 1024) : (BitVec.ofNat 32 i.val).toInt = i.val := by revert i; decide +kernel
/-- A column's word read as an integer is the column. -/
theorem toInt_col (j : Fin 64) : (BitVec.ofNat 32 j.val).toInt = j.val := by revert j; decide +kernel

end Cert.Scal

end
-- ==== Proof.ValB.lean ====
/-
  The reference's values at an index, over the extended reals: its composed term cut into the rotary tables, the
  projections, the rotary embedding, the scores, the softmax and the output product, each read down to its entries.
-/
module

public import proofs.«01_k».proof.Proof.Gen.ReferenceIdeal.Run
public import proofs.«01_k».proof.Proof.ValS

@[expose] public section

set_option maxRecDepth 16384

noncomputable section

namespace Cert.ReferenceIdeal.Val

open Idealize.ShloMosaic Idealize.ShloMosaic.TcCoe
open Cert.ReferenceIdeal Cert.ReferenceIdeal.Gen Cert.ReferenceIdeal.Value Cert.Scal

/-- The rotary angles: position times inverse frequency. -/
def angR : FVec Ideal S1024x64 .f32 :=
  mulf (broadcastInDim S1024x64 ![0, 1] bcast_S1024x1_S1024x64_0_1
      (sitofp .f32 (broadcastInDim S1024x1 ![0] bcast_S1024_S1024x1_0 (iotaInDim S1024 32 0))))
    (broadcastInDim S1024x64 ![0, 1] bcast_S1x64_S1024x64_0_1 (broadcastInDim S1x64 ![1] bcast_S64_S1x64_1
      (Host.divf (broadcastInDim S64 ![] bcast_S_S64 (constant S_ .f32 0x3F800000#32))
        (Host.powf (broadcastInDim S64 ![] bcast_S_S64 (constant S_ .f32 0x461C4000#32))
          (Host.divf (sitofp .f32 (addi (broadcastInDim S64 ![] bcast_S_S64 (constantI S_ 32 0#32))
              (muli (broadcastInDim S64 ![] bcast_S_S64 (constantI S_ 32 2#32)) (iotaInDim S64 32 0))))
            (broadcastInDim S64 ![] bcast_S_S64 (constant S_ .f32 0x43000000#32)))))))

/-- A rotary table of 64 columns, every column doubled, over all batches and heads. -/
def tabR (a : FVec Ideal S1024x64 .f32) : FVec Ideal S4x1024x32x128 .f32 :=
  broadcastInDim S4x1024x32x128 ![0, 1, 2, 3] bcast_S1x1024x1x128_S4x1024x32x128_0_1_2_3
    (broadcastInDim S1x1024x1x128 ![1, 3] bcast_S1024x128_S1x1024x1x128_1_3
      (shapeCast S1024x128 (broadcastInDim S1024x64x2 ![0, 1] bcast_S1024x64_S1024x64x2_0_1 a)
        shapeCasts_S1024x64x2_S1024x128))

/-- A projection of the rows, its columns cut into heads. -/
def projR (x : FVec Ideal S4x1024x1024 .bf16) (w : FVec Ideal S1024x4096 .bf16) : FVec Ideal S4x1024x32x128 .f32 :=
  shapeCast S4x1024x32x128 (extf .f32 (truncf .bf16
    (Host.dotGeneral dot_S4x1024x1024_S1024x4096_S4x1024x4096_2_0_01_1_n_n none (extf .f32 x bitsLt_bf16_f32)
      (extf .f32 w bitsLt_bf16_f32) : FVec Ideal S4x1024x4096 .f32) bitsLt_bf16_f32) bitsLt_bf16_f32)
    shapeCasts_S4x1024x4096_S4x1024x32x128

/-- Two arrays of one column, the columns side by side. -/
def stackR (x y : FVec Ideal S4x1024x32x64x1 .f32) : FVec Ideal S4x1024x32x64x2 .f32 :=
  concatenate S4x1024x32x64x2 4 [⟨S4x1024x32x64x1, x⟩, ⟨S4x1024x32x64x1, y⟩]
    concatenates_S4x1024x32x64x1_S4x1024x32x64x1_S4x1024x32x64x2_d4

/-- The rotary embedding of a projection. -/
def rotR (t : FVec Ideal S4x1024x32x128 .f32) : FVec Ideal S4x1024x32x128 .f32 :=
  addf (mulf t (tabR (Host.cos angR)))
    (mulf (shapeCast S4x1024x32x128 (stackR
      (broadcastInDim S4x1024x32x64x1 ![0, 1, 2, 3] bcast_S4x1024x32x64_S4x1024x32x64x1_0_1_2_3
        (Host.negf (shapeCast S4x1024x32x64 (extractStridedSlice S4x1024x32x64x1 ![0, 0, 0, 0, 1]
          (shapeCast S4x1024x32x64x2 t shapeCasts_S4x1024x32x128_S4x1024x32x64x2)
          slices_S4x1024x32x64x2_S4x1024x32x64x1_0_0_0_0_1) shapeCasts_S4x1024x32x64x1_S4x1024x32x64)))
      (broadcastInDim S4x1024x32x64x1 ![0, 1, 2, 3] bcast_S4x1024x32x64_S4x1024x32x64x1_0_1_2_3
        (shapeCast S4x1024x32x64 (extractStridedSlice S4x1024x32x64x1 ![0, 0, 0, 0, 0]
          (shapeCast S4x1024x32x64x2 t shapeCasts_S4x1024x32x128_S4x1024x32x64x2)
          slices_S4x1024x32x64x2_S4x1024x32x64x1_0_0_0_0_0) shapeCasts_S4x1024x32x64x1_S4x1024x32x64)))
      shapeCasts_S4x1024x32x64x2_S4x1024x32x128) (tabR (Host.sin angR)))

/-- The scaled scores of rotated queries against rotated keys. -/
def scoreR (q k : FVec Ideal S4x1024x32x128 .f32) : FVec Ideal S4x32x1024x1024 .f32 :=
  mulf (Host.dotGeneral dot_S4x1024x32x128_S4x1024x32x128_S4x32x1024x1024_3_3_1_1_02_02 none q k)
    (broadcastInDim S4x32x1024x1024 ![] bcast_S_S4x32x1024x1024 (constant S_ .f32 0x3DB504F3#32))

/-- The greatest score of each row. -/
def maxR (s : FVec Ideal S4x32x1024x1024 .f32) : FVec Ideal S4x32x1024 .f32 :=
  Host.reduce FloatOps.maximumf s (constant S_ .f32 0xFF800000#32) reducesTo_S4x32x1024x1024_S4x32x1024_d3 h_S_

/-- The exponentials of the scores below their row's greatest. -/
def expR (s : FVec Ideal S4x32x1024x1024 .f32) : FVec Ideal S4x32x1024x1024 .f32 :=
  Host.exp (subf s (broadcastInDim S4x32x1024x1024 ![0, 1, 2, 3] bcast_S4x32x1024x1_S4x32x1024x1024_0_1_2_3
    (broadcastInDim S4x32x1024x1 ![0, 1, 2] bcast_S4x32x1024_S4x32x1024x1_0_1_2 (maxR s))))

/-- The softmax weights of exponentials. -/
def softR (e : FVec Ideal S4x32x1024x1024 .f32) : FVec Ideal S4x32x1024x1024 .f32 :=
  Host.divf e (broadcastInDim S4x32x1024x1024 ![0, 1, 2, 3] bcast_S4x32x1024x1_S4x32x1024x1024_0_1_2_3
    (broadcastInDim S4x32x1024x1 ![0, 1, 2] bcast_S4x32x1024_S4x32x1024x1_0_1_2
      (Host.reduceAdd e (constant S_ .f32 0x00000000#32) reducesTo_S4x32x1024x1024_S4x32x1024_d3 h_S_)))

/-- The weighted values, their heads laid side by side, times the output weights. -/
def outR (w : FVec Ideal S4x32x1024x1024 .f32) (v : FVec Ideal S4x1024x32x128 .f32) (wo : FVec Ideal S4096x1024 .bf16) :
    FVec Ideal S4x1024x1024 .bf16 :=
  truncf .bf16 (Host.dotGeneral dot_S4x1024x4096_S4096x1024_S4x1024x1024_2_0_01_1_n_n none
    (shapeCast S4x1024x4096 (transpose S4x1024x32x128 [0, 3, 1, 2]
      (Host.dotGeneral dot_S4x1024x32x128_S4x32x1024x1024_S4x32x128x1024_1_3_3_2_02_01 none v w)
      transposes_S4x32x128x1024_S4x1024x32x128_0_3_1_2) shapeCasts_S4x1024x32x128_S4x1024x4096)
    (extf .f32 wo bitsLt_bf16_f32) : FVec Ideal S4x1024x1024 .f32) bitsLt_bf16_f32

/-- The reference's result is the output product of the softmax of the scores. -/
theorem res_eq (m : (ℓ : Loc nD τ sig) → Buf (Elt Ideal) ℓ) (c : Dev nD) :
    res_main_v92 m c
      = outR (softR (expR (scoreR (rotR (projR (m ((c.tc : Thread nD τ).loc main_arg0)) (m ((c.tc : Thread nD τ).loc main_arg1))))
            (rotR (projR (m ((c.tc : Thread nD τ).loc main_arg0)) (m ((c.tc : Thread nD τ).loc main_arg2)))))))
          (projR (m ((c.tc : Thread nD τ).loc main_arg0)) (m ((c.tc : Thread nD τ).loc main_arg3)))
          (m ((c.tc : Thread nD τ).loc main_arg4)) := by
  unfold res_main_v92
  rfl

/-- Twice a column's number as the integer it is computed in. -/
theorem toInt_dbl (j : Fin 64) : (IntOp.addi 0#32 (IntOp.muli 2#32 (BitVec.ofNat 32 j.val))).toInt = 2 * j.val := by
  revert j; decide +kernel

/-- An angle of the reference: the position times the column's inverse frequency. -/
theorem angR_apply (i : Fin 1024) (j : Fin 64) : angR (ix2 i j) = ang i j := by
  pointwise [angR]
  rw [base_eq, width_eq]
  show ((((BitVec.ofNat 32 i.val).toInt : ℝ)) : EReal) * Ideal.div 1 (Ideal.pow _ (Ideal.div
    ((((IntOp.addi 0#32 (IntOp.muli 2#32 (BitVec.ofNat 32 j.val))).toInt : ℝ)) : EReal) _)) = _
  rw [freq_ref, toInt_pos, toInt_dbl, ang]

/-- An entry of a doubled table. -/
theorem tabR_apply (a : FVec Ideal S1024x64 .f32) (b : Fin 4) (i : Fin 1024) (h : Fin 32) (c : Fin 128) :
    tabR a (ix4 b i h c) = a (ix2 i ⟨c.val / 2, by omega⟩) := by
  pointwise [tabR]

/-- An entry of a projection. -/
theorem projR_apply (x : FVec Ideal S4x1024x1024 .bf16) (w : FVec Ideal S1024x4096 .bf16)
    (b : Fin 4) (i : Fin 1024) (h : Fin 32) (c : Fin 128) :
    projR x w (ix4 b i h c) = ∑ t : Fin 1024, x (ix3 b i t) * w (ix2 t ⟨h.val * 128 + c.val, by omega⟩) := by
  pointwise [projR]

/-- Columns cut into pairs, at an index. -/
theorem pairs_apply (t : FVec Ideal S4x1024x32x128 .f32) (b : Fin 4) (i : Fin 1024) (h : Fin 32) (j : Fin 64) (p : Fin 2) :
    shapeCast S4x1024x32x64x2 t shapeCasts_S4x1024x32x128_S4x1024x32x64x2 (ix5 b i h j p)
      = t (ix4 b i h ⟨j.val * 2 + p.val, by omega⟩) := by
  pointwise

/-- Pairs of columns laid out again, at an index. -/
theorem unpairs_apply (t : FVec Ideal S4x1024x32x64x2 .f32) (b : Fin 4) (i : Fin 1024) (h : Fin 32) (c : Fin 128) :
    shapeCast S4x1024x32x128 t shapeCasts_S4x1024x32x64x2_S4x1024x32x128 (ix4 b i h c)
      = t (ix5 b i h ⟨c.val / 2, by omega⟩ ⟨c.val % 2, by omega⟩) := by
  pointwise

/-- A unit axis dropped, at an index. -/
theorem drop_apply (t : FVec Ideal S4x1024x32x64x1 .f32) (b : Fin 4) (i : Fin 1024) (h : Fin 32) (c : Fin 64) :
    shapeCast S4x1024x32x64 t shapeCasts_S4x1024x32x64x1_S4x1024x32x64 (ix4 b i h c)
      = t (ix5 b i h c 0) := by
  pointwise

/-- A unit axis added, at an index. -/
theorem add_apply (t : FVec Ideal S4x1024x32x64 .f32) (b : Fin 4) (i : Fin 1024) (h : Fin 32) (c : Fin 64) (z : Fin 1) :
    broadcastInDim S4x1024x32x64x1 ![0, 1, 2, 3] bcast_S4x1024x32x64_S4x1024x32x64x1_0_1_2_3 t (ix5 b i h c z)
      = t (ix4 b i h c) := by
  pointwise

/-- The first of each pair, at an index. -/
theorem first_apply (t : FVec Ideal S4x1024x32x64x2 .f32) (b : Fin 4) (i : Fin 1024) (h : Fin 32) (j : Fin 64) :
    extractStridedSlice S4x1024x32x64x1 ![0, 0, 0, 0, 0] t slices_S4x1024x32x64x2_S4x1024x32x64x1_0_0_0_0_0 (ix5 b i h j 0)
      = t (ix5 b i h j 0) := by
  pointwise

/-- The second of each pair, at an index. -/
theorem second_apply (t : FVec Ideal S4x1024x32x64x2 .f32) (b : Fin 4) (i : Fin 1024) (h : Fin 32) (j : Fin 64) :
    extractStridedSlice S4x1024x32x64x1 ![0, 0, 0, 0, 1] t slices_S4x1024x32x64x2_S4x1024x32x64x1_0_0_0_0_1 (ix5 b i h j 0)
      = t (ix5 b i h j 1) := by
  pointwise

/-- Two columns side by side, at an index. -/
theorem stackR_apply (x y : FVec Ideal S4x1024x32x64x1 .f32) (b : Fin 4) (i : Fin 1024) (h : Fin 32) (j : Fin 64) (p : Fin 2) :
    stackR x y (ix5 b i h j p) = if p.val < 1 then x (ix5 b i h j 0) else y (ix5 b i h j 0) := by
  unfold stackR
  pointwise
  split
  · exact congrArg (fun z => x (ix5 b i h j z)) (Subsingleton.elim _ _)
  · exact congrArg (fun z => y (ix5 b i h j z)) (Subsingleton.elim _ _)

/-- An entry of a rotary embedding: the entry by a cosine, and its neighbour, negated in the even columns, by a sine. -/
theorem rotR_apply (t : FVec Ideal S4x1024x32x128 .f32) (b : Fin 4) (i : Fin 1024) (h : Fin 32) (c : Fin 128) :
    rotR t (ix4 b i h c) = t (ix4 b i h c) * Ideal.cos (ang i ⟨c.val / 2, by omega⟩)
      + (if c.val % 2 < 1 then -t (ix4 b i h ⟨c.val / 2 * 2 + 1, by omega⟩) else t (ix4 b i h ⟨c.val / 2 * 2, by omega⟩))
        * Ideal.sin (ang i ⟨c.val / 2, by omega⟩) := by
  unfold rotR
  rw [addf_apply, mulf_apply, mulf_apply, tabR_apply, tabR_apply, unpairs_apply, stackR_apply, add_apply, add_apply]
  show _ = t (ix4 b i h c) * _ + _
  rw [drop_apply, first_apply, pairs_apply, ← angR_apply]
  show FloatOps.addf (FloatOps.mulf _ _) (FloatOps.mulf (if _ then -(shapeCast S4x1024x32x64 _ _ (ix4 b i h _)) else _) _) = _
  rw [drop_apply, second_apply, pairs_apply]
  rfl

/-- An entry of the scores. -/
theorem scoreR_apply (q k : FVec Ideal S4x1024x32x128 .f32) (b : Fin 4) (h : Fin 32) (i j : Fin 1024) :
    scoreR q k (ix4 b h i j) = (∑ c : Fin 128, q (ix4 b i h c) * k (ix4 b j h c)) * Ideal.ofBits .f32 0x3DB504F3#32 := by
  pointwise [scoreR]

/-- The greatest score of a row. -/
theorem maxR_apply (s : FVec Ideal S4x32x1024x1024 .f32) (b : Fin 4) (h : Fin 32) (i : Fin 1024) :
    maxR s (ix3 b h i) = Finset.univ.fold max ⊥ fun j => s (ix4 b h i j) := by
  pointwise [maxR]
  rw [bot_eq]

/-- An exponential. -/
theorem expR_apply (s : FVec Ideal S4x32x1024x1024 .f32) (b : Fin 4) (h : Fin 32) (i j : Fin 1024) :
    expR s (ix4 b h i j) = Ideal.exp (s (ix4 b h i j) - maxR s (ix3 b h i)) := by
  pointwise [expR]

/-- A softmax weight. -/
theorem softR_apply (e : FVec Ideal S4x32x1024x1024 .f32) (b : Fin 4) (h : Fin 32) (i j : Fin 1024) :
    softR e (ix4 b h i j) = Ideal.div (e (ix4 b h i j)) (∑ l : Fin 1024, e (ix4 b h i l)) := by
  pointwise [softR]

/-- The softmax average of the values at one entry of one head. -/
def avgR (s : FVec Ideal S4x32x1024x1024 .f32) (v : FVec Ideal S4x1024x32x128 .f32) (b : Fin 4) (i : Fin 1024) (h : Fin 32)
    (c : Fin 128) : EReal :=
  ∑ j : Fin 1024, v (ix4 b j h c) * softR (expR s) (ix4 b h i j)

/-- An entry of the result. -/
theorem outR_apply (s : FVec Ideal S4x32x1024x1024 .f32) (v : FVec Ideal S4x1024x32x128 .f32)
    (wo : FVec Ideal S4096x1024 .bf16) (b : Fin 4) (i n : Fin 1024) :
    outR (softR (expR s)) v wo (ix3 b i n)
      = ∑ m : Fin 4096, avgR s v b i ⟨m.val / 128, by omega⟩ ⟨m.val % 128, by omega⟩ * wo (ix2 m n) := by
  pointwise [outR]
  rfl

/-- The average is the one weighted by plain exponentials, where the scores are real. -/
theorem avgR_eq (s : FVec Ideal S4x32x1024x1024 .f32) (v : FVec Ideal S4x1024x32x128 .f32) (b : Fin 4) (i : Fin 1024)
    (h : Fin 32) (c : Fin 128) (hs : ∀ j, Fini (s (ix4 b h i j))) :
    avgR s v b i h c = Ideal.div (∑ j : Fin 1024, Ideal.exp (s (ix4 b h i j)) * v (ix4 b j h c))
      (∑ j : Fin 1024, Ideal.exp (s (ix4 b h i j))) := by
  unfold avgR
  simp only [softR_apply, expR_apply, maxR_apply]
  exact (soft (n := 1023) (fun j => s (ix4 b h i j)) (fun j => v (ix4 b j h c)) hs).symm

end Cert.ReferenceIdeal.Val

end
-- ==== Proof.ValA.lean ====
/-
  The kernel's values at an index, over the extended reals: the projections, the rotary embedding and one head of
  attention, each read down to sums and products of its operands' entries.
-/
module

public import proofs.«01_k».proof.Proof.LaunchC
public import proofs.«01_k».proof.Proof.ValS

@[expose] public section

set_option maxRecDepth 16384

noncomputable section

namespace Cert.KernelIdeal.Val

open Idealize.ShloMosaic Idealize.ShloMosaic.TcCoe
open Cert.KernelIdeal Cert.KernelIdeal.Gen Cert.KernelIdeal.Talk Cert.Scal

/-- The mask the kernel selects by is one in the odd columns and zero in the even ones. -/
theorem maskV_apply (i j : Fin 1024) : maskV (ix2 i j) = if j.val % 2 = 1 then 1#1 else 0#1 := by
  pointwise [maskV, k0_pay5, k0_pay4, k0_pay3, k0_pay2]
  revert j
  decide +kernel

/-- An entry of the product of a block of rows with the stacked weights. -/
theorem prodF_apply (x : FVec Ideal S1024x1024 .bf16) (w : FVec Ideal S1024x3072 .bf16) (i : Fin 1024) (n : Fin 3072) :
    prodF x w (ix2 i n) = ∑ t : Fin 1024, x (ix2 i t) * w (ix2 t n) := by
  pointwise [prodF]

/-- An entry of the rotary embedding of a block: the entry by the first table, and its neighbour, negated in the even
    columns, by the second. -/
theorem ropeF_apply (t co si : FVec Ideal S1024x1024 .bf16) (i n : Fin 1024) :
    ropeF maskV t co si (ix2 i n) = t (ix2 i n) * co (ix2 i n)
      + (if n.val % 2 < 1 then -t (ix2 i ⟨n.val / 2 * 2 + 1, by omega⟩) else t (ix2 i ⟨n.val / 2 * 2, by omega⟩))
        * si (ix2 i n) := by
  pointwise [ropeF, maskV_apply]
  refine congrArg (fun z => t (ix2 i n) * co (ix2 i n) + z * si (ix2 i n)) ?_
  by_cases h : n.val % 2 = 1
  · rw [if_pos h, if_neg (by omega)]
    exact congrArg (fun z => t (ix2 i z)) (Fin.ext (by show (n.val + 1024 - 1) % 1024 = n.val / 2 * 2; omega))
  · rw [if_neg h, if_pos (by omega)]
    refine Eq.trans (b := -t (ix2 i ⟨(n.val + 1024 - 1023) % 1024, Nat.mod_lt _ (by decide)⟩)) (zero_sub _) ?_
    exact congrArg (fun z => -t (ix2 i z)) (Fin.ext (by show (n.val + 1024 - 1023) % 1024 = n.val / 2 * 2 + 1; omega))

/-- One entry of one head: the values of a column averaged by the exponentials of the row's scores. -/
def ctx (q k v : FVec Ideal S1024x1024 .bf16) (i : Fin 1024) (h : Fin 8) (c : Fin 128) : EReal :=
  Ideal.div
    (∑ j : Fin 1024, Ideal.exp (∑ y : Fin 128, q (ix2 i ⟨128 * h.val + y.val, by omega⟩)
      * k (ix2 j ⟨128 * h.val + y.val, by omega⟩)) * v (ix2 j ⟨128 * h.val + c.val, by omega⟩))
    (∑ j : Fin 1024, Ideal.exp (∑ y : Fin 128, q (ix2 i ⟨128 * h.val + y.val, by omega⟩)
      * k (ix2 j ⟨128 * h.val + y.val, by omega⟩)))

/-- An entry of a head by the numbers of the head and the column. -/
theorem ctx_congr (q k v : FVec Ideal S1024x1024 .bf16) (i : Fin 1024) {h h' : Fin 8} {c c' : Fin 128}
    (hh : h.val = h'.val) (hc : c.val = c'.val) : ctx q k v i h c = ctx q k v i h' c' := by
  rw [Fin.ext hh, Fin.ext hc]

/-- An entry of one head over 512 query rows. -/
theorem hd_apply (r : Fin 2) (h : Fin 8) (q k v : FVec Ideal S1024x1024 .bf16) (i : Fin 512) (c : Fin 128) :
    hd r h q k v (ix2 i c) = ctx q k v ⟨512 * r.val + i.val, by omega⟩ h c := by
  pointwise [hd, headH, onesF, k0_pay6]
  rfl

/-- An entry of one head over all query rows. -/
theorem hw_apply (h : Fin 8) (q k v : FVec Ideal S1024x1024 .bf16) (i : Fin 1024) (c : Fin 128) :
    hw h q k v (ix2 i c) = ctx q k v i h c := by
  pointwise [hw, headW, onesF, k0_pay6]
  rfl

/-- The eight heads of a row side by side. -/
def row (q k v : FVec Ideal S1024x1024 .bf16) (i : Fin 1024) (m : Fin 1024) : EReal :=
  ctx q k v i ⟨m.val / 128, by omega⟩ ⟨m.val % 128, by omega⟩

/-- An entry of a half-block of a partial output. -/
theorem partF_apply (r : Fin 2) (q k v wo : FVec Ideal S1024x1024 .bf16) (i : Fin 512) (n : Fin 1024) :
    partF r q k v wo (ix3 0 i n) = ∑ m : Fin 1024, row q k v ⟨512 * r.val + i.val, by omega⟩ m * wo (ix2 m n) := by
  pointwise [partF]
  simp only [hd_apply]
  refine Finset.sum_congr rfl fun m _ => congrArg (· * wo (ix2 m n)) ?_
  unfold row
  split_ifs <;> exact ctx_congr q k v _ (by simp only [Fin.val_ofNat]; omega) (by simp only []; omega)

/-- An entry of the first two heads' product. -/
theorem ownA_apply (q k v : FVec Ideal S1024x1024 .bf16) (wo : FVec Ideal S256x1024 .bf16) (i n : Fin 1024) :
    ownA q k v wo (ix3 0 i n) = ∑ m : Fin 256, row q k v i ⟨m.val, by omega⟩ * wo (ix2 m n) := by
  pointwise [ownA, lift]
  simp only [hw_apply]
  rw [Fin.sum_univ_add (a := 128) (b := 128) fun m : Fin 256 => row q k v i ⟨m.val, by omega⟩ * wo (ix2 m n)]
  refine congrArg₂ (· + ·) (Finset.sum_congr rfl fun m _ => ?_) (Finset.sum_congr rfl fun m _ => ?_)
  · exact congrArg (· * wo (ix2 _ n)) (ctx_congr q k v _ (by show 0 = m.val / 128; omega)
      (by show m.val = m.val % 128; omega))
  · exact congrArg (· * wo (ix2 _ n)) (ctx_congr q k v _ (by show 1 = (128 + m.val) / 128; omega)
      (by show m.val = (128 + m.val) % 128; omega))

/-- An entry of the other six heads' product. -/
theorem ownB_apply (q k v : FVec Ideal S1024x1024 .bf16) (wo : FVec Ideal S768x1024 .bf16) (i n : Fin 1024) :
    ownB q k v wo (ix2 i n) = ∑ m : Fin 768, row q k v i ⟨m.val + 256, by omega⟩ * wo (ix2 m n) := by
  pointwise [ownB]
  simp only [hw_apply]
  refine Finset.sum_congr rfl fun m _ => congrArg (· * wo (ix2 m n)) ?_
  unfold row
  split_ifs <;> exact ctx_congr q k v _ (by simp only [Fin.val_ofNat]; omega) (by simp only []; omega)

/-- An entry of the sum a device finally writes. -/
theorem sumF_apply (a : FVec Ideal S1x1024x1024 .bf16) (b : FVec Ideal S1024x1024 .f32)
    (r0 r1 r2 : FVec Ideal S1x1024x1024 .bf16) (i n : Fin 1024) :
    sumF a b r0 r1 r2 (ix3 0 i n)
      = a (ix3 0 i n) + b (ix2 i n) + r0 (ix3 0 i n) + r1 (ix3 0 i n) + r2 (ix3 0 i n) := by
  pointwise [sumF, lift, flat]

/-- The first 256 rows of the output weights, at an index. -/
theorem woA_apply (wo : FVec Ideal S1024x1024 .bf16) (m : Fin 256) (n : Fin 1024) :
    woA wo (ix2 m n) = wo (ix2 ⟨m.val, by omega⟩ n) := by
  refine congrArg wo (funext fun a => Fin.ext ?_)
  match a with
  | ⟨0, _⟩ => show 0 + 1 * m.val = m.val; omega
  | ⟨1, _⟩ => show 0 + 1 * n.val = n.val; omega

/-- The other 768 rows of the output weights, at an index. -/
theorem woB_apply (wo : FVec Ideal S1024x1024 .bf16) (m : Fin 768) (n : Fin 1024) :
    woB wo (ix2 m n) = wo (ix2 ⟨m.val + 256, by omega⟩ n) := by
  refine congrArg wo (funext fun a => Fin.ext ?_)
  match a with
  | ⟨0, _⟩ => show 256 + 1 * m.val = m.val + 256; omega
  | ⟨1, _⟩ => show 0 + 1 * n.val = n.val; omega

/-- A partial output's entry: a row's heads times a device's output weights. -/
def part (q k v wo : FVec Ideal S1024x1024 .bf16) (i n : Fin 1024) : EReal :=
  ∑ m : Fin 1024, row q k v i m * wo (ix2 m n)

/-- The own products add up to the whole partial output. -/
theorem own_apply (q k v wo : FVec Ideal S1024x1024 .bf16) (i n : Fin 1024) :
    ownA q k v (woA wo) (ix3 0 i n) + ownB q k v (woB wo) (ix2 i n) = part q k v wo i n := by
  rw [ownA_apply, ownB_apply, part, sum_head]
  simp only [woA_apply, woB_apply]

/-- The two half-blocks received are the whole partial output. -/
theorem join_apply (q k v wo : FVec Ideal S1024x1024 .bf16) (i n : Fin 1024) :
    joinF (partF 0 q k v wo) (partF 1 q k v wo) (ix3 0 i n) = part q k v wo i n := by
  unfold joinF
  by_cases h : i.val < 512
  · rw [dif_pos (show ((ix3 0 i n : S1x1024x1024.Idx) 1).val < 512 from h)]
    refine Eq.trans (partF_apply 0 q k v wo ⟨i.val, h⟩ n) ?_
    unfold part
    refine Finset.sum_congr rfl fun m _ => congrArg (fun z => row q k v z m * wo (ix2 m n)) (Fin.ext ?_)
    show 512 * 0 + i.val = i.val
    omega
  · rw [dif_neg (show ¬ ((ix3 0 i n : S1x1024x1024.Idx) 1).val < 512 from h)]
    refine Eq.trans (partF_apply 1 q k v wo ⟨i.val - 512, by omega⟩ n) ?_
    unfold part
    refine Finset.sum_congr rfl fun m _ => congrArg (fun z => row q k v z m * wo (ix2 m n)) (Fin.ext ?_)
    show 512 * 1 + (i.val - 512) = i.val
    omega

/-- A device's result: its own partial output and the three it receives. -/
theorem resF_apply (I : Dev nD → Ins Ideal) (d : Dev nD) (i n : Fin 1024) :
    let P := fun p : Dev nD => part (qF (xbV (I d)) (I p).w (I p).cq (I p).sq) (kF (xbV (I d)) (I p).w (I p).cb (I p).sb)
      (vF (xbV (I d)) (I p).w) (I p).wo i n
    resF I d (ix3 0 i n) = P d + P (pe 1 d) + P (pe 2 d) + P (pe 3 d) := by
  intro P
  unfold resF
  rw [sumF_apply]
  exact congrArg₂ (· + ·) (congrArg₂ (· + ·) (congrArg₂ (· + ·) (own_apply _ _ _ _ _ _) (join_apply _ _ _ _ _ _))
    (join_apply _ _ _ _ _ _)) (join_apply _ _ _ _ _ _)

/-- The rows a device computes on are the ones it was given. -/
theorem xbV_apply (I : Ins Ideal) (i t : Fin 1024) : xbV I (ix2 i t) = I.x (ix3 0 i t) := by
  pointwise [xbV, k0_pay1]

/-- An entry of the values. -/
theorem vF_apply (x : FVec Ideal S1024x1024 .bf16) (w : FVec Ideal S1024x3072 .bf16) (i n : Fin 1024) :
    vF x w (ix2 i n) = ∑ t : Fin 1024, x (ix2 i t) * w (ix2 t ⟨2048 + n.val, by omega⟩) := by
  pointwise [vF, prodF_apply]

/-- The projected queries before their rotation. -/
def qP (x : FVec Ideal S1024x1024 .bf16) (w : FVec Ideal S1024x3072 .bf16) : FVec Ideal S1024x1024 .bf16 :=
  truncf .bf16 (extractStridedSlice S1024x1024 ![0, 0] (prodF x w) slices_S1024x3072_o0_0_S1024x1024) bitsLt_bf16_f32
/-- The projected keys before their rotation. -/
def kP (x : FVec Ideal S1024x1024 .bf16) (w : FVec Ideal S1024x3072 .bf16) : FVec Ideal S1024x1024 .bf16 :=
  truncf .bf16 (extractStridedSlice S1024x1024 ![0, 1024] (prodF x w) slices_S1024x3072_o0_1024_S1024x1024) bitsLt_bf16_f32
/-- An entry of the projected queries. -/
theorem qP_apply (x : FVec Ideal S1024x1024 .bf16) (w : FVec Ideal S1024x3072 .bf16) (i n : Fin 1024) :
    qP x w (ix2 i n) = ∑ t : Fin 1024, x (ix2 i t) * w (ix2 t ⟨n.val, by omega⟩) := by
  pointwise [qP, prodF_apply]
/-- An entry of the projected keys. -/
theorem kP_apply (x : FVec Ideal S1024x1024 .bf16) (w : FVec Ideal S1024x3072 .bf16) (i n : Fin 1024) :
    kP x w (ix2 i n) = ∑ t : Fin 1024, x (ix2 i t) * w (ix2 t ⟨1024 + n.val, by omega⟩) := by
  pointwise [kP, prodF_apply]

end Cert.KernelIdeal.Val

end
-- ==== Proof.ValC.lean ====
/-
  The operands the kernel's host operations prepare, at an index, over the extended reals: the stacked projection
  weights and the four rotary tables.
-/
module

public import proofs.«01_k».proof.Proof.ValA

@[expose] public section

set_option maxRecDepth 16384

noncomputable section

namespace Cert.KernelIdeal.Val

open Idealize.ShloMosaic Idealize.ShloMosaic.TcCoe Idealize.ShloMosaic.Tactic
open Cert.KernelIdeal Cert.KernelIdeal.Gen Cert.KernelIdeal.Talk Cert.Scal

/-- The rotary angles as the host operations form them. -/
def angK : FVec Ideal S1024x64 .f32 :=
  mulf (broadcastInDim S1024x64 ![0, 1] bcast_S1024x1_S1024x64_0_1
      (broadcastInDim S1024x1 ![0] bcast_S1024_S1024x1_0 (sitofp .f32 (iotaInDim S1024 32 0))))
    (broadcastInDim S1024x64 ![0, 1] bcast_S1x64_S1024x64_0_1 (broadcastInDim S1x64 ![1] bcast_S64_S1x64_1
      (Host.powf (broadcastInDim S64 ![] bcast_S_S64 (constant S_ .f32 0x461C4000#32))
        (Host.divf (Host.negf (addf (broadcastInDim S64 ![] bcast_S_S64 (constant S_ .f32 0x00000000#32))
            (mulf (broadcastInDim S64 ![] bcast_S_S64 (constant S_ .f32 0x40000000#32)) (sitofp .f32 (iotaInDim S64 32 0)))))
          (broadcastInDim S64 ![] bcast_S_S64 (constant S_ .f32 0x43000000#32))))))

/-- A table of 64 columns, each doubled, repeated for eight heads. -/
def tabK (a : FVec Ideal S1024x64 .f32) : FVec Ideal S1024x1024 .f32 :=
  shapeCast S1024x1024 (broadcastInDim S1x1024x8x128 ![0, 1, 2, 3] bcast_S1x1024x1x128_S1x1024x8x128_0_1_2_3
    (shapeCast S1x1024x1x128 (shapeCast S1024x128
      (broadcastInDim S1024x64x2 ![0, 1] bcast_S1024x64_S1024x64x2_0_1 a) shapeCasts_S1024x64x2_S1024x128)
      shapeCasts_S1024x128_S1x1024x1x128)) shapeCasts_S1x1024x8x128_S1024x1024

/-- A table as the kernel takes it. -/
def plainK (a : FVec Ideal S1024x64 .f32) : FVec Ideal S1024x1024 .bf16 := truncf .bf16 (tabK a) bitsLt_bf16_f32

/-- A table scaled for the queries. -/
def scaledK (a : FVec Ideal S1024x64 .f32) : FVec Ideal S1024x1024 .bf16 :=
  truncf .bf16 (mulf (tabK a) (broadcastInDim S1024x1024 ![] bcast_S_S1024x1024 (constant S_ .f32 0x3DB504F3#32)))
    bitsLt_bf16_f32

/-- The weights side by side. -/
def stackK (a b c : FVec Ideal S1024x1024 .bf16) : FVec Ideal S1024x3072 .bf16 :=
  concatenate S1024x3072 1 [⟨S1024x1024, a⟩, ⟨S1024x1024, b⟩, ⟨S1024x1024, c⟩]
    concatenates_S1024x1024_S1024x1024_S1024x1024_S1024x3072_d1

section Read

variable (m : (ℓ : Loc nD τ sig) → Buf (Elt Ideal) ℓ) (c : Dev nD)

set_option maxHeartbeats 1000000

/-- The first table is the cosines. -/
theorem inp_cb : (inp m c).cb = plainK (Host.cos angK) := by
  show StableHlo.after hostOps0 (fun b => m (c, b)) (Proc.devRef .tc main_v30) = _
  after_results
  rfl
/-- The second table is the sines. -/
theorem inp_sb : (inp m c).sb = plainK (Host.sin angK) := by
  show StableHlo.after hostOps0 (fun b => m (c, b)) (Proc.devRef .tc main_v31) = _
  after_results
  rfl
/-- The third table is the scaled cosines. -/
theorem inp_cq : (inp m c).cq = scaledK (Host.cos angK) := by
  show StableHlo.after hostOps0 (fun b => m (c, b)) (Proc.devRef .tc main_v34) = _
  after_results
  rfl
/-- The fourth table is the scaled sines. -/
theorem inp_sq : (inp m c).sq = scaledK (Host.sin angK) := by
  show StableHlo.after hostOps0 (fun b => m (c, b)) (Proc.devRef .tc main_v37) = _
  after_results
  rfl
/-- The stacked weights are the three projections' side by side. -/
theorem inp_w : (inp m c).w = stackK (m ((c : Thread nD τ).loc main_arg1)) (m ((c : Thread nD τ).loc main_arg2))
    (m ((c : Thread nD τ).loc main_arg3)) := by
  show StableHlo.after hostOps0 (fun b => m (c, b)) (Proc.devRef .tc main_v1) = _
  after_results
  rfl
/-- The rows are the first argument's. -/
theorem inp_x : (inp m c).x = m ((c : Thread nD τ).loc main_arg0) := V_main_arg0 m c
/-- The output weights are the last argument's. -/
theorem inp_wo : (inp m c).wo = m ((c : Thread nD τ).loc main_arg4) := V_main_arg4 m c

end Read

/-- An angle of the kernel: the position times the column's inverse frequency. -/
theorem angK_apply (i : Fin 1024) (j : Fin 64) : angK (ix2 i j) = ang i j := by
  pointwise [angK]
  rw [base_eq, width_eq, two_eq]
  show ((((BitVec.ofNat 32 i.val).toInt : ℝ)) : EReal) * Ideal.pow _ (Ideal.div
    (-(((2 : ℝ) : EReal) * ((((BitVec.ofNat 32 j.val).toInt : ℝ)) : EReal))) _) = _
  rw [toInt_pos, toInt_col, ← EReal.coe_mul, freq_ker, ang]
  push_cast
  rfl

/-- An entry of a repeated table. -/
theorem tabK_apply (a : FVec Ideal S1024x64 .f32) (i n : Fin 1024) :
    tabK a (ix2 i n) = a (ix2 i ⟨n.val % 128 / 2, by omega⟩) := by
  pointwise [tabK]

/-- An entry of the cosine table. -/
theorem plainK_cos (i n : Fin 1024) :
    plainK (Host.cos angK) (ix2 i n) = Ideal.cos (ang i ⟨n.val % 128 / 2, by omega⟩) := by
  rw [← angK_apply]
  exact tabK_apply (Host.cos angK) i n
/-- An entry of the sine table. -/
theorem plainK_sin (i n : Fin 1024) :
    plainK (Host.sin angK) (ix2 i n) = Ideal.sin (ang i ⟨n.val % 128 / 2, by omega⟩) := by
  rw [← angK_apply]
  exact tabK_apply (Host.sin angK) i n
/-- An entry of the scaled cosine table. -/
theorem scaledK_cos (i n : Fin 1024) : scaledK (Host.cos angK) (ix2 i n)
    = Ideal.cos (ang i ⟨n.val % 128 / 2, by omega⟩) * Ideal.ofBits .f32 0x3DB504F3#32 := by
  rw [← angK_apply]
  exact congrArg (· * Ideal.ofBits .f32 0x3DB504F3#32) (tabK_apply (Host.cos angK) i n)
/-- An entry of the scaled sine table. -/
theorem scaledK_sin (i n : Fin 1024) : scaledK (Host.sin angK) (ix2 i n)
    = Ideal.sin (ang i ⟨n.val % 128 / 2, by omega⟩) * Ideal.ofBits .f32 0x3DB504F3#32 := by
  rw [← angK_apply]
  exact congrArg (· * Ideal.ofBits .f32 0x3DB504F3#32) (tabK_apply (Host.sin angK) i n)

/-- The stacked weights, at an index of each of the three. -/
theorem stackK_fst (a b c : FVec Ideal S1024x1024 .bf16) (t n : Fin 1024) :
    stackK a b c (ix2 t ⟨n.val, by omega⟩) = a (ix2 t n) := by
  pointwise [stackK]
/-- A column of the second thousand is the second weights'. -/
theorem stackK_snd (a b c : FVec Ideal S1024x1024 .bf16) (t n : Fin 1024) :
    stackK a b c (ix2 t ⟨1024 + n.val, by omega⟩) = b (ix2 t n) := by
  pointwise [stackK]
/-- A column of the third thousand is the third weights'. -/
theorem stackK_trd (a b c : FVec Ideal S1024x1024 .bf16) (t n : Fin 1024) :
    stackK a b c (ix2 t ⟨2048 + n.val, by omega⟩) = c (ix2 t n) := by
  pointwise [stackK]
  rw [dif_neg (by omega), dif_neg (by omega)]
  exact congrArg (fun z => c (ix2 t z)) (Fin.ext (by show 2048 + n.val - 1024 - 1024 = n.val; omega))

end Cert.KernelIdeal.Val

end
-- ==== Proof.ValD.lean ====
/-
  The kernel's values against the reference's: where the devices' operands are cut from the reference's arrays, a
  device's values, keys and scaled queries are the reference's at the heads of the device whose weights they are made
  with, a head's entry is the reference's softmax average, and the four partial outputs add up to the reference's rows.
-/
module

public import proofs.«01_k».proof.Proof.ValB
public import proofs.«01_k».proof.Proof.ValC

@[expose] public section

set_option maxRecDepth 16384

noncomputable section

namespace Cert.Bridge

open Idealize.ShloMosaic Idealize.ShloMosaic.TcCoe
open Cert.Scal Cert.KernelIdeal.Talk Cert.KernelIdeal.Val
open Cert.ReferenceIdeal.Val (projR rotR scoreR softR expR outR avgR)

/-- The scale of the scores. -/
abbrev σ : EReal := Ideal.ofBits .f32 0x3DB504F3#32

/-- The devices' operands are cut from the reference's arrays: the rows by the leading axis, the projection weights by
    columns, the output weights by rows, and the tables are the rotary ones. -/
structure Cut (I : Dev Cert.KernelIdeal.nD → Ins Ideal) (X : FVec Ideal Cert.ReferenceIdeal.S4x1024x1024 .bf16)
    (WQ WK WV : FVec Ideal Cert.ReferenceIdeal.S1024x4096 .bf16) (WO : FVec Ideal Cert.ReferenceIdeal.S4096x1024 .bf16) : Prop where
  x : ∀ (d : Fin 4) (i t : Fin 1024), (I d).x (ix3 0 i t) = X (ix3 d i t)
  wq : ∀ (p : Fin 4) (t n : Fin 1024), (I p).w (ix2 t ⟨n.val, by omega⟩) = WQ (ix2 t ⟨1024 * p.val + n.val, by omega⟩)
  wk : ∀ (p : Fin 4) (t n : Fin 1024), (I p).w (ix2 t ⟨1024 + n.val, by omega⟩) = WK (ix2 t ⟨1024 * p.val + n.val, by omega⟩)
  wv : ∀ (p : Fin 4) (t n : Fin 1024), (I p).w (ix2 t ⟨2048 + n.val, by omega⟩) = WV (ix2 t ⟨1024 * p.val + n.val, by omega⟩)
  wo : ∀ (p : Fin 4) (m n : Fin 1024), (I p).wo (ix2 m n) = WO (ix2 ⟨1024 * p.val + m.val, by omega⟩ n)
  cb : ∀ p, (I p).cb = plainK (Host.cos angK)
  sb : ∀ p, (I p).sb = plainK (Host.sin angK)
  cq : ∀ p, (I p).cq = scaledK (Host.cos angK)
  sq : ∀ p, (I p).sq = scaledK (Host.sin angK)

section

variable {I : Dev Cert.KernelIdeal.nD → Ins Ideal} {X : FVec Ideal Cert.ReferenceIdeal.S4x1024x1024 .bf16}
  {WQ WK WV : FVec Ideal Cert.ReferenceIdeal.S1024x4096 .bf16} {WO : FVec Ideal Cert.ReferenceIdeal.S4096x1024 .bf16}
  (C : Cut I X WQ WK WV WO) (d p : Fin 4)

/-- The number among all 32 of a device's head. -/
abbrev hh (p : Fin 4) (h : Fin 8) : Fin 32 := ⟨8 * p.val + h.val, by omega⟩

include C

/-- The reference's projection at a device's head, from the column within the device. -/
theorem proj_eq (W : FVec Ideal Cert.ReferenceIdeal.S1024x4096 .bf16) (i : Fin 1024) (h : Fin 8) (c : Fin 128)
    (n : Fin 1024) (hn : n.val = 128 * h.val + c.val) :
    projR X W (ix4 d i (hh p h) c)
      = ∑ t : Fin 1024, xbV (I d) (ix2 i t) * W (ix2 t ⟨1024 * p.val + n.val, by omega⟩) := by
  rw [Cert.ReferenceIdeal.Val.projR_apply]
  refine Finset.sum_congr rfl fun t _ => ?_
  rw [xbV_apply, C.x]
  exact congrArg (fun z => X (ix3 d i t) * W (ix2 t z)) (Fin.ext (by
    show (8 * p.val + h.val) * 128 + c.val = 1024 * p.val + n.val
    omega))

/-- A device's values are the reference's at the heads of the device whose weights they are made with. -/
theorem v_eq (j : Fin 1024) (h : Fin 8) (c : Fin 128) :
    vF (xbV (I d)) (I p).w (ix2 j ⟨128 * h.val + c.val, by omega⟩) = projR X WV (ix4 d j (hh p h) c) := by
  rw [proj_eq C d p WV j h c ⟨128 * h.val + c.val, by omega⟩ rfl, vF_apply]
  exact Finset.sum_congr rfl fun t _ => congrArg (xbV (I d) (ix2 j t) * ·) (C.wv p t ⟨128 * h.val + c.val, by omega⟩)

/-- So are its queries before their rotation, -/
theorem qP_eq (j : Fin 1024) (h : Fin 8) (c : Fin 128) (n : Fin 1024) (hn : n.val = 128 * h.val + c.val) :
    qP (xbV (I d)) (I p).w (ix2 j n) = projR X WQ (ix4 d j (hh p h) c) := by
  rw [proj_eq C d p WQ j h c n hn, qP_apply]
  exact Finset.sum_congr rfl fun t _ => congrArg (xbV (I d) (ix2 j t) * ·) (C.wq p t n)

/-- and its keys before theirs. -/
theorem kP_eq (j : Fin 1024) (h : Fin 8) (c : Fin 128) (n : Fin 1024) (hn : n.val = 128 * h.val + c.val) :
    kP (xbV (I d)) (I p).w (ix2 j n) = projR X WK (ix4 d j (hh p h) c) := by
  rw [proj_eq C d p WK j h c n hn, kP_apply]
  exact Finset.sum_congr rfl fun t _ => congrArg (xbV (I d) (ix2 j t) * ·) (C.wk p t n)

omit C in
/-- The rotary embedding of a device's block is the reference's, where the entries are, and the tables are the
    reference's up to one factor. -/
theorem rope_eq (t : FVec Ideal Cert.KernelIdeal.S1024x1024 .bf16) (u : FVec Ideal Cert.ReferenceIdeal.S4x1024x32x128 .f32)
    (co si : FVec Ideal Cert.KernelIdeal.S1024x1024 .bf16) (i : Fin 1024) (h : Fin 8) (c : Fin 128) (f : ℝ) (hf : 0 ≤ f)
    (hn : ∀ (c : Fin 128) (n : Fin 1024), n.val = 128 * h.val + c.val → t (ix2 i n) = u (ix4 d i (hh p h) c))
    (hco : ∀ n : Fin 1024, co (ix2 i n) = Ideal.cos (ang i ⟨n.val % 128 / 2, by omega⟩) * (f : EReal))
    (hsi : ∀ n : Fin 1024, si (ix2 i n) = Ideal.sin (ang i ⟨n.val % 128 / 2, by omega⟩) * (f : EReal)) :
    ropeF maskV t co si (ix2 i ⟨128 * h.val + c.val, by omega⟩) = rotR u (ix4 d i (hh p h) c) * (f : EReal) := by
  have ha : (⟨(128 * h.val + c.val) % 128 / 2, by omega⟩ : Fin 64) = ⟨c.val / 2, by omega⟩ :=
    Fin.ext (by show (128 * h.val + c.val) % 128 / 2 = c.val / 2; omega)
  rw [ropeF_apply, Cert.ReferenceIdeal.Val.rotR_apply, add_mul_coe _ _ hf, hco, hsi, ← mul_assoc, ← mul_assoc, ha,
    hn c _ rfl]
  refine congrArg (fun z => u (ix4 d i (hh p h) c) * Ideal.cos (ang i ⟨c.val / 2, by omega⟩) * (f : EReal)
    + z * Ideal.sin (ang i ⟨c.val / 2, by omega⟩) * (f : EReal)) ?_
  by_cases hc : c.val % 2 < 1
  · rw [if_pos hc, if_pos (show (128 * h.val + c.val) % 2 < 1 by omega)]
    exact congrArg (- ·) (hn ⟨c.val / 2 * 2 + 1, by omega⟩ _ (by
      show (128 * h.val + c.val) / 2 * 2 + 1 = 128 * h.val + (c.val / 2 * 2 + 1); omega))
  · rw [if_neg hc, if_neg (show ¬ (128 * h.val + c.val) % 2 < 1 by omega)]
    exact hn ⟨c.val / 2 * 2, by omega⟩ _ (by
      show (128 * h.val + c.val) / 2 * 2 = 128 * h.val + c.val / 2 * 2; omega)

/-- The rotated keys are the reference's. -/
theorem k_eq (j : Fin 1024) (h : Fin 8) (c : Fin 128) :
    kF (xbV (I d)) (I p).w (I p).cb (I p).sb (ix2 j ⟨128 * h.val + c.val, by omega⟩)
      = rotR (projR X WK) (ix4 d j (hh p h) c) := by
  refine Eq.trans (rope_eq d p (kP (xbV (I d)) (I p).w) (projR X WK) (I p).cb (I p).sb j h c 1 zero_le_one
    (fun c n hn => kP_eq C d p j h c n hn) (fun n => ?_) fun n => ?_) ?_
  · rw [C.cb, plainK_cos, EReal.coe_one, mul_one]
  · rw [C.sb, plainK_sin, EReal.coe_one, mul_one]
  · rw [EReal.coe_one, mul_one]

/-- The rotated queries are the reference's, scaled. -/
theorem q_eq (j : Fin 1024) (h : Fin 8) (c : Fin 128) :
    qF (xbV (I d)) (I p).w (I p).cq (I p).sq (ix2 j ⟨128 * h.val + c.val, by omega⟩)
      = rotR (projR X WQ) (ix4 d j (hh p h) c) * σ := by
  obtain ⟨f, hf, e⟩ := scale_eq
  rw [σ, e]
  refine rope_eq d p (qP (xbV (I d)) (I p).w) (projR X WQ) (I p).cq (I p).sq j h c f hf
    (fun c n hn => qP_eq C d p j h c n hn) (fun n => ?_) fun n => ?_
  · rw [C.cq, scaledK_cos, e]
  · rw [C.sq, scaledK_sin, e]

/-- The scores of the reference's arrays. -/
abbrev SC (X : FVec Ideal Cert.ReferenceIdeal.S4x1024x1024 .bf16)
    (WQ WK : FVec Ideal Cert.ReferenceIdeal.S1024x4096 .bf16) := scoreR (rotR (projR X WQ)) (rotR (projR X WK))

/-- A score of the kernel, its scale in the queries, is the reference's. -/
theorem score_eq (i j : Fin 1024) (h : Fin 8) :
    (∑ y : Fin 128, qF (xbV (I d)) (I p).w (I p).cq (I p).sq (ix2 i ⟨128 * h.val + y.val, by omega⟩)
      * kF (xbV (I d)) (I p).w (I p).cb (I p).sb (ix2 j ⟨128 * h.val + y.val, by omega⟩))
      = SC X WQ WK (ix4 d (hh p h) i j) := by
  simp only [q_eq C, k_eq C]
  rw [SC, Cert.ReferenceIdeal.Val.scoreR_apply]
  obtain ⟨f, hf, e⟩ := scale_eq
  rw [σ, e, sum_mul_coe _ _ hf]
  exact Finset.sum_congr rfl fun y _ => mul_right_comm _ _ _

end

/-- A rotary embedding of reals is real. -/
theorem fini_rot (t : FVec Ideal Cert.ReferenceIdeal.S4x1024x32x128 .f32) (ht : ∀ b i h c, Fini (t (ix4 b i h c)))
    (b : Fin 4) (i : Fin 1024) (h : Fin 32) (c : Fin 128) : Fini (rotR t (ix4 b i h c)) := by
  rw [Cert.ReferenceIdeal.Val.rotR_apply]
  have hc : ∀ i j, Fini (Ideal.cos (ang i j)) := fun i j => ⟨_, by rw [ang, ← EReal.coe_mul, Ideal.cos_coe]⟩
  have hs : ∀ i j, Fini (Ideal.sin (ang i j)) := fun i j => ⟨_, by rw [ang, ← EReal.coe_mul, Ideal.sin_coe]⟩
  refine ((ht _ _ _ _).mul (hc _ _)).add (Fini.mul ?_ (hs _ _))
  split
  · exact (ht _ _ _ _).neg
  · exact ht _ _ _ _

/-- A projection of real rows by real weights is real. -/
theorem fini_proj (X : FVec Ideal Cert.ReferenceIdeal.S4x1024x1024 .bf16) (W : FVec Ideal Cert.ReferenceIdeal.S1024x4096 .bf16)
    (hX : ∀ b i t, Fini (X (ix3 b i t))) (hW : ∀ t n, Fini (W (ix2 t n)))
    (b : Fin 4) (i : Fin 1024) (h : Fin 32) (c : Fin 128) : Fini (projR X W (ix4 b i h c)) := by
  rw [Cert.ReferenceIdeal.Val.projR_apply]
  exact Fini.sum _ _ fun t => (hX _ _ _).mul (hW _ _)

/-- The reference's scores are real where the rows and the two weights they are formed of are. -/
theorem fini_score (X : FVec Ideal Cert.ReferenceIdeal.S4x1024x1024 .bf16)
    (WQ WK : FVec Ideal Cert.ReferenceIdeal.S1024x4096 .bf16) (hX : ∀ b i t, Fini (X (ix3 b i t)))
    (hQ : ∀ t n, Fini (WQ (ix2 t n))) (hK : ∀ t n, Fini (WK (ix2 t n)))
    (b : Fin 4) (h : Fin 32) (i j : Fin 1024) : Fini (SC X WQ WK (ix4 b h i j)) := by
  rw [SC, Cert.ReferenceIdeal.Val.scoreR_apply]
  refine Fini.mul (Fini.sum _ _ fun c => (fini_rot _ (fini_proj X WQ hX hQ) _ _ _ _).mul
    (fini_rot _ (fini_proj X WK hX hK) _ _ _ _)) ?_
  obtain ⟨f, -, e⟩ := scale_eq
  exact ⟨f, e⟩

section

variable {I : Dev Cert.KernelIdeal.nD → Ins Ideal} {X : FVec Ideal Cert.ReferenceIdeal.S4x1024x1024 .bf16}
  {WQ WK WV : FVec Ideal Cert.ReferenceIdeal.S1024x4096 .bf16} {WO : FVec Ideal Cert.ReferenceIdeal.S4096x1024 .bf16}
  (C : Cut I X WQ WK WV WO) (hX : ∀ b i t, Fini (X (ix3 b i t))) (hQ : ∀ t n, Fini (WQ (ix2 t n)))
  (hK : ∀ t n, Fini (WK (ix2 t n))) (d p : Fin 4)

include C hX hQ hK

/-- An entry of a head is the reference's softmax average. -/
theorem ctx_eq (i : Fin 1024) (h : Fin 8) (c : Fin 128) :
    ctx (qF (xbV (I d)) (I p).w (I p).cq (I p).sq) (kF (xbV (I d)) (I p).w (I p).cb (I p).sb) (vF (xbV (I d)) (I p).w) i h c
      = avgR (SC X WQ WK) (projR X WV) d i (hh p h) c := by
  rw [Cert.ReferenceIdeal.Val.avgR_eq _ _ _ _ _ _ fun j => fini_score X WQ WK hX hQ hK _ _ _ _]
  unfold ctx
  simp only [score_eq C, v_eq C]

/-- A device's partial output for a device's rows: the part of the reference's last sum over that device's columns. -/
theorem part_eq (i n : Fin 1024) :
    part (qF (xbV (I d)) (I p).w (I p).cq (I p).sq) (kF (xbV (I d)) (I p).w (I p).cb (I p).sb) (vF (xbV (I d)) (I p).w)
        (I p).wo i n
      = ∑ m : Fin 1024, avgR (SC X WQ WK) (projR X WV) d i ⟨(1024 * p.val + m.val) / 128, by omega⟩
          ⟨(1024 * p.val + m.val) % 128, by omega⟩ * WO (ix2 ⟨1024 * p.val + m.val, by omega⟩ n) := by
  unfold part
  refine Finset.sum_congr rfl fun m _ => ?_
  rw [row, ctx_eq C hX hQ hK d p, C.wo]
  have e₁ : hh p ⟨m.val / 128, by omega⟩ = ⟨(1024 * p.val + m.val) / 128, by omega⟩ :=
    Fin.ext (by show 8 * p.val + m.val / 128 = (1024 * p.val + m.val) / 128; omega)
  have e₂ : (⟨m.val % 128, by omega⟩ : Fin 128) = ⟨(1024 * p.val + m.val) % 128, by omega⟩ :=
    Fin.ext (by show m.val % 128 = (1024 * p.val + m.val) % 128; omega)
  rw [e₁, e₂]

/-- A device's result is its rows of the reference's. -/
theorem res_eq (i n : Fin 1024) :
    resF I d (ix3 0 i n) = outR (softR (expR (SC X WQ WK))) (projR X WV) WO (ix3 d i n) := by
  rw [Cert.ReferenceIdeal.Val.outR_apply, sum_blocks, resF_apply]
  dsimp only
  rw [part_eq C hX hQ hK d d, part_eq C hX hQ hK d (pe 1 d), part_eq C hX hQ hK d (pe 2 d), part_eq C hX hQ hK d (pe 3 d)]
  exact ring_sum (fun p : Fin 4 => ∑ m : Fin 1024, avgR (SC X WQ WK) (projR X WV) d i
    ⟨(1024 * p.val + m.val) / 128, by omega⟩ ⟨(1024 * p.val + m.val) % 128, by omega⟩
      * WO (ix2 ⟨1024 * p.val + m.val, by omega⟩ n)) d

end

end Cert.Bridge

end
-- ==== Proof.ValE.lean ====
/-
  What the claim's hypotheses give: the precondition says the rows and the query and key weights of every device are
  real, the launch memories are cut from the reference's arrays; and so every device's result is its rows of the
  reference's result.
-/
module

public import proofs.«01_k».proof.Defs
public import proofs.«01_k».proof.Proof.ValD
public import Idealize.ShloMosaic.Lib.ReduceAll
public import Idealize.ShloMosaic.Lib.LayoutAt

@[expose] public section

set_option maxRecDepth 16384

noncomputable section

namespace Cert.Bridge

open Idealize.ShloMosaic Idealize.ShloMosaic.TcCoe
open Cert.Scal Cert.KernelIdeal.Talk Cert.KernelIdeal.Val
open Cert.ReferenceIdeal.Val (projR softR expR outR)

/-- The side conditions of the precondition over a device's arrays. -/
theorem preK : Cert.Pre_finite_KernelIdeal.Facts where
  bitsLt_bf16_f32 := by decide
  bcast_S_S1x1024x1024 := by decide
  reducesTo_S1x1024x1024_S_d0_1_2 := by decide
  h_S_ := by decide
  bcast_S_S1024x1024 := by decide
  reducesTo_S1024x1024_S_d0_1 := by decide

/-- The side conditions of the precondition over whole arrays. -/
theorem preR : Cert.Pre_finite_ReferenceIdeal.Facts where
  bitsLt_bf16_f32 := by decide
  bcast_S_S4x1024x1024 := by decide
  reducesTo_S4x1024x1024_S_d0_1_2 := by decide
  h_S_ := by decide
  bcast_S_S1024x4096 := by decide
  reducesTo_S1024x4096_S_d0_1 := by decide

/-- Two comparisons whose conjunction is one say the compared entry is real. -/
theorem fini_of_bits (x : EReal)
    (h : IntOp.andi (FloatOps.cmpf (F := Ideal) (φ := .f32) .olt x (Ideal.ofBits .f32 0x7F800000#32))
      (FloatOps.cmpf (F := Ideal) (φ := .f32) .ogt x (Ideal.ofBits .f32 0xFF800000#32)) = 1#1) : Fini x := by
  rw [top_eq, bot_eq, IntOp.andi_eq_one] at h
  obtain ⟨h₁, h₂⟩ := h
  refine Fini.of_lt (lt_of_le_of_ne le_top ?_) (lt_of_le_of_ne bot_le (Ne.symm ?_)) <;> rintro rfl
  · simp [FloatOps.cmpf, Ideal.cmp] at h₁
  · simp [FloatOps.cmpf, Ideal.cmp] at h₂

/-- An array without axes has one index. -/
theorem one_idx : Subsingleton Cert.Pre_finite_KernelIdeal.S_.Idx := ⟨fun _ _ => funext fun a => a.elim0⟩

/-- The precondition says that the rows and the query and key weights are real. -/
theorem fini_of_pre (x : FVec Ideal Cert.Pre_finite_KernelIdeal.S1x1024x1024 .bf16)
    (a b c d : FVec Ideal Cert.Pre_finite_KernelIdeal.S1024x1024 .bf16)
    (h : @Cert.Pre_finite_KernelIdeal.fn preK Ideal _ x a b c d = fun _ => 1#1) :
    (∀ i, Fini (x i)) ∧ (∀ i, Fini (a i)) ∧ ∀ i, Fini (b i) := by
  haveI := one_idx
  obtain ⟨h₁, h₂⟩ := IntOp.andi_eq_one.mp (congrFun h fun a => a.elim0)
  obtain ⟨h₃, h₄⟩ := IntOp.andi_eq_one.mp h₁
  exact ⟨fun i => fini_of_bits _ (Host.reduce_andi_all _ _ _ _ _ h₃ i),
    fun i => fini_of_bits _ (Host.reduce_andi_all _ _ _ _ _ h₄ i),
    fun i => fini_of_bits _ (Host.reduce_andi_all _ _ _ _ _ h₂ i)⟩

/-- A block by the leading axis of three, at an index. -/
theorem block_lead {α : Type} (v : (⟨3, ![4, 1024, 1024]⟩ : Shape).Idx → α) (c : Fin 4) (i t : Fin 1024) :
    (Layout.block ⟨3, ![1, 1024, 1024]⟩ ⟨3, ![4, 1024, 1024]⟩ 0 4 c v) (ix3 0 i t) = v (ix3 c i t) := by
  rw [Layout.block_apply]
  refine congrArg v (funext fun a => Fin.ext ?_)
  match a with
  | ⟨0, _⟩ =>
    refine (Layout.Tiles.idx_val_self _ c _ _ rfl).trans ?_
    show c.val * 1 + 0 = c.val
    omega
  | ⟨1, _⟩ => exact Layout.Tiles.idx_val_of_ne _ c _ _ (by simp)
  | ⟨2, _⟩ => exact Layout.Tiles.idx_val_of_ne _ c _ _ (by simp)

/-- A block of columns, at an index. -/
theorem block_cols {α : Type} (v : (⟨2, ![1024, 4096]⟩ : Shape).Idx → α) (c : Fin 4) (t n : Fin 1024) :
    (Layout.block ⟨2, ![1024, 1024]⟩ ⟨2, ![1024, 4096]⟩ 1 4 c v) (ix2 t n) = v (ix2 t ⟨1024 * c.val + n.val, by omega⟩) := by
  rw [Layout.block_apply]
  refine congrArg v (funext fun a => Fin.ext ?_)
  match a with
  | ⟨0, _⟩ => exact Layout.Tiles.idx_val_of_ne _ c _ _ (by simp)
  | ⟨1, _⟩ =>
    refine (Layout.Tiles.idx_val_self _ c _ _ rfl).trans ?_
    show c.val * 1024 + n.val = 1024 * c.val + n.val
    omega

/-- A block of rows, at an index. -/
theorem block_rows {α : Type} (v : (⟨2, ![4096, 1024]⟩ : Shape).Idx → α) (c : Fin 4) (t n : Fin 1024) :
    (Layout.block ⟨2, ![1024, 1024]⟩ ⟨2, ![4096, 1024]⟩ 0 4 c v) (ix2 t n) = v (ix2 ⟨1024 * c.val + t.val, by omega⟩ n) := by
  rw [Layout.block_apply]
  refine congrArg v (funext fun a => Fin.ext ?_)
  match a with
  | ⟨0, _⟩ =>
    refine (Layout.Tiles.idx_val_self _ c _ _ rfl).trans ?_
    show c.val * 1024 + t.val = 1024 * c.val + t.val
    omega
  | ⟨1, _⟩ => exact Layout.Tiles.idx_val_of_ne _ c _ _ (by simp)

section

variable (m : (ℓ : Loc Cert.KernelIdeal.nD Cert.KernelIdeal.τ Cert.KernelIdeal.sig) → Buf (Elt Ideal) ℓ)
  (X : FVec Ideal Cert.ReferenceIdeal.S4x1024x1024 .bf16)
  (WQ WK WV : FVec Ideal Cert.ReferenceIdeal.S1024x4096 .bf16) (WO : FVec Ideal Cert.ReferenceIdeal.S4096x1024 .bf16)

/-- Every device's arguments are its blocks of the reference's arrays. -/
def Blocks : Prop := ∀ c : Dev Cert.KernelIdeal.nD,
  m ((c.tc : Thread Cert.KernelIdeal.nD Cert.KernelIdeal.τ).loc Cert.KernelIdeal.main_arg0)
      = Layout.block ⟨3, ![1, 1024, 1024]⟩ ⟨3, ![4, 1024, 1024]⟩ 0 4 c X
  ∧ m ((c.tc : Thread Cert.KernelIdeal.nD Cert.KernelIdeal.τ).loc Cert.KernelIdeal.main_arg1)
      = Layout.block ⟨2, ![1024, 1024]⟩ ⟨2, ![1024, 4096]⟩ 1 4 c WQ
  ∧ m ((c.tc : Thread Cert.KernelIdeal.nD Cert.KernelIdeal.τ).loc Cert.KernelIdeal.main_arg2)
      = Layout.block ⟨2, ![1024, 1024]⟩ ⟨2, ![1024, 4096]⟩ 1 4 c WK
  ∧ m ((c.tc : Thread Cert.KernelIdeal.nD Cert.KernelIdeal.τ).loc Cert.KernelIdeal.main_arg3)
      = Layout.block ⟨2, ![1024, 1024]⟩ ⟨2, ![1024, 4096]⟩ 1 4 c WV
  ∧ m ((c.tc : Thread Cert.KernelIdeal.nD Cert.KernelIdeal.τ).loc Cert.KernelIdeal.main_arg4)
      = Layout.block ⟨2, ![1024, 1024]⟩ ⟨2, ![4096, 1024]⟩ 0 4 c WO

variable {m X WQ WK WV WO}

/-- Then the operands the kernel is called on are cut from the reference's arrays. -/
theorem cut_of (B : Blocks m X WQ WK WV WO) : Cut (inp m) X WQ WK WV WO where
  x d i t := by rw [inp_x, (B d).1]; exact block_lead X d i t
  wq p t n := by rw [inp_w, stackK_fst, (B p).2.1]; exact block_cols WQ p t n
  wk p t n := by rw [inp_w, stackK_snd, (B p).2.2.1]; exact block_cols WK p t n
  wv p t n := by rw [inp_w, stackK_trd, (B p).2.2.2.1]; exact block_cols WV p t n
  wo p t n := by rw [inp_wo, (B p).2.2.2.2]; exact block_rows WO p t n
  cb p := inp_cb m p
  sb p := inp_sb m p
  cq p := inp_cq m p
  sq p := inp_sq m p

/-- Every device's result is its block of the reference's. -/
theorem res_block (hpre : @Cert.Pre_KernelIdeal_finite_KernelIdeal preK m) (B : Blocks m X WQ WK WV WO)
    (d : Dev Cert.KernelIdeal.nD) :
    resF (inp m) d = Layout.block ⟨3, ![1, 1024, 1024]⟩ ⟨3, ![4, 1024, 1024]⟩ 0 4 d
      (outR (softR (expR (SC X WQ WK))) (projR X WV) WO) := by
  have hf := fun c => fini_of_pre _ _ _ _ _ (hpre c)
  have hX : ∀ (b : Fin 4) (i t : Fin 1024), Fini (X (ix3 b i t)) := fun b i t => by
    have := (hf b).1 (ix3 0 i t)
    rw [(B b).1] at this
    exact (block_lead X b i t) ▸ this
  have hQ : ∀ (t : Fin 1024) (n : Fin 4096), Fini (WQ (ix2 t n)) := fun t n => by
    have := (hf (⟨n.val / 1024, by omega⟩ : Fin 4)).2.1 (ix2 t ⟨n.val % 1024, by omega⟩)
    rw [(B _).2.1, block_cols] at this
    exact (congrArg (fun z => Fini (WQ (ix2 t z))) (Fin.ext (Nat.div_add_mod n.val 1024))).mp this
  have hK : ∀ (t : Fin 1024) (n : Fin 4096), Fini (WK (ix2 t n)) := fun t n => by
    have := (hf (⟨n.val / 1024, by omega⟩ : Fin 4)).2.2 (ix2 t ⟨n.val % 1024, by omega⟩)
    rw [(B _).2.2.1, block_cols] at this
    exact (congrArg (fun z => Fini (WK (ix2 t z))) (Fin.ext (Nat.div_add_mod n.val 1024))).mp this
  funext j
  obtain ⟨z, i, n, rfl⟩ : ∃ (z : Fin 1) (i n : Fin 1024), j = ix3 z i n :=
    ⟨j 0, j 1, j 2, funext fun a => match a with | ⟨0, _⟩ => rfl | ⟨1, _⟩ => rfl | ⟨2, _⟩ => rfl⟩
  obtain rfl : z = 0 := Subsingleton.elim _ _
  exact (res_eq (cut_of B) hX hQ hK d i n).trans (block_lead _ d i n).symm

end

end Cert.Bridge

end
-- ==== Proof.lean ====
/-
  The certificate's claims, assembled: the two programs' runs, the reference's run, the idealization, and the
  equality of the program's value with the reference's.
-/
module

public import proofs.«01_k».proof.Defs
public import proofs.«01_k».proof.Proof.Gen.ReferenceIdeal
public import proofs.«01_k».proof.Proof.Gen.ReferenceIdeal.Run
public import proofs.«01_k».proof.Proof.LaunchC
public import proofs.«01_k».proof.Proof.Bits.LaunchC
public import proofs.«01_k».proof.Proof.ValE

@[expose] public section

noncomputable section

namespace Cert.Proof

open Idealize.ShloMosaic Idealize.SL.Sem Cert.Bridge

/-- The reference keeps no counters, so any two assignments to them agree. -/
theorem refCounters {α : Type} (f g : GSem Cert.ReferenceIdeal.nD Cert.ReferenceIdeal.τ Cert.ReferenceIdeal.sig → α) : f = g :=
  funext fun a => match a with
    | (_, .reg n) => n.elim0
    | (_, .dma n) => n.elim0

/-- Started from real rows and real query and key weights, every device ends with its rows of the reference's result,
    at the extended reals. -/
theorem same_value : @Cert.algebraic_KernelIdeal_ReferenceIdeal_pre_finite_KernelIdeal Cert.KernelIdeal.Gen.facts
    Cert.ReferenceIdeal.Gen.facts preK := fun m g m' g' hpre hag =>
  ⟨Cert.ReferenceIdeal.Value.res_main_v92 m' 0,
    (θ_run _ _ _).mono (fun _ h c => ⟨(h.1 c).1.trans ((res_block hpre hag c).trans
      (congrArg (fun v => Layout.block ⟨3, ![1, 1024, 1024]⟩ ⟨3, ![4, 1024, 1024]⟩ 0 4 c v)
        (Cert.ReferenceIdeal.Val.res_eq m' 0).symm)), (h.1 c).2⟩) (Cert.KernelIdeal.Talk.run m g),
    (θ_run _ _ _).mono (fun _ h => h 0) (Cert.ReferenceIdeal.Value.run m' g')⟩

/-- Every claim of the certificate: both readings of the program end with their arguments as launched and every
    counter at zero, so does the reference, the idealization is sanctioned, and the program's value is the reference's. -/
theorem claim : Cert.Claim :=
  ⟨Cert.Kernel.Gen.facts, Cert.KernelIdeal.Gen.facts, Cert.ReferenceIdeal.Gen.facts, preK, preR,
    fun m g _ => (θ_run _ _ _).mono (fun _ h => ⟨fun c => (h.1 c).2, h.2⟩) (Cert.Kernel.Talk.run m g),
    fun m g _ => (θ_run _ _ _).mono (fun _ h => ⟨fun c => (h.1 c).2, h.2⟩) (Cert.KernelIdeal.Talk.run m g),
    fun m g _ => (θ_run _ _ _).mono (fun _ h => ⟨fun c => (h.1 c).2, h.2⟩) (Cert.KernelIdeal.Talk.run m g),
    fun m g _ => (θ_run _ _ _).mono (fun _ h => ⟨fun c => (h c).2, refCounters _ _⟩) (Cert.ReferenceIdeal.Value.run m g),
    fun m g _ => (θ_run _ _ _).mono (fun _ h => ⟨fun c => (h c).2, refCounters _ _⟩) (Cert.ReferenceIdeal.Value.run m g),
    trivial, same_value⟩

end Cert.Proof

end
